-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v112) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v22) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v8_3)) (v4 : (c : Dev Cert.Kernel6Ideal.nD) → Buf (Elt Ideal) ((c.tc : Thread Cert.Kernel6Ideal.nD Cert.Kernel6Ideal.τ).loc Cert.Kernel6Ideal.main_v8_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v8_3) = v3 c
          ∧ r.2.mem ((c.tc : Thread Cert.Kernel6Ideal.nD Cert.Kernel6Ideal.τ).loc Cert.Kernel6Ideal.main_v8_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v40) = v2 c
          ∧ r.2.mem ((c.tc : Thread Cert.Reference6Ideal.nD Cert.Reference6Ideal.τ).loc Cert.Reference6Ideal.main_v43) = v3 c
          ∧ r.2.mem ((c.tc : Thread Cert.Reference6Ideal.nD Cert.Reference6Ideal.τ).loc Cert.Reference6Ideal.main_v44) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v17) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S16384x1024 : Shape := ⟨2, ![16384, 1024]⟩
abbrev S16384x4608 : Shape := ⟨2, ![16384, 4608]⟩
abbrev S16384x512 : Shape := ⟨2, ![16384, 512]⟩
abbrev S16384x3072 : Shape := ⟨2, ![16384, 3072]⟩
abbrev S1x1024 : Shape := ⟨2, ![1, 1024]⟩
abbrev S4x1024 : Shape := ⟨2, ![4, 1024]⟩
abbrev S3x512 : Shape := ⟨2, ![3, 512]⟩
abbrev S1024x7680 : Shape := ⟨2, ![1024, 7680]⟩
abbrev S7680x1024 : Shape := ⟨2, ![7680, 1024]⟩
abbrev S16384x7680 : Shape := ⟨2, ![16384, 7680]⟩
abbrev S256x1024 : Shape := ⟨2, ![256, 1024]⟩
abbrev S16x1024 : Shape := ⟨2, ![16, 1024]⟩
abbrev S256x512 : Shape := ⟨2, ![256, 512]⟩
abbrev S16x512 : Shape := ⟨2, ![16, 512]⟩
abbrev S8x1024 : Shape := ⟨2, ![8, 1024]⟩
abbrev S8x512 : Shape := ⟨2, ![8, 512]⟩
abbrev S256x3072 : Shape := ⟨2, ![256, 3072]⟩
abbrev S256x7680 : Shape := ⟨2, ![256, 7680]⟩
abbrev S256x1 : Shape := ⟨2, ![256, 1]⟩
abbrev S8x1 : Shape := ⟨2, ![8, 1]⟩
abbrev S248x1024 : Shape := ⟨2, ![248, 1024]⟩
abbrev S1024 : Shape := ⟨1, ![1024]⟩
abbrev S1x512 : Shape := ⟨2, ![1, 512]⟩
abbrev S248x512 : Shape := ⟨2, ![248, 512]⟩
abbrev S512 : Shape := ⟨1, ![512]⟩
abbrev S256 : Shape := ⟨1, ![256]⟩

abbrev nBuf : Space → Nat
  | .hbm => 23
  | .vmem => 62
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x4608, .bf16⟩
  | .hbm, ⟨3, _⟩ => ⟨S16384x1024, .f32⟩
  | .hbm, ⟨4, _⟩ => ⟨S16384x1024, .f32⟩
  | .hbm, ⟨5, _⟩ => ⟨S16384x512, .f32⟩
  | .hbm, ⟨6, _⟩ => ⟨S16384x1024, .bf16⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x3072, .bf16⟩
  | .hbm, ⟨11, _⟩ => ⟨S1x1024, .f32⟩
  | .hbm, ⟨12, _⟩ => ⟨S4x1024, .f32⟩
  | .hbm, ⟨13, _⟩ => ⟨S3x512, .f32⟩
  | .hbm, ⟨14, _⟩ => ⟨S1024x7680, .f32⟩
  | .hbm, ⟨15, _⟩ => ⟨S7680x1024, .f32⟩
  | .hbm, ⟨16, _⟩ => ⟨S7680x1024, .bf16⟩
  | .hbm, ⟨17, _⟩ => ⟨S16384x1024, .f32⟩
  | .hbm, ⟨18, _⟩ => ⟨S16384x7680, .bf16⟩
  | .hbm, ⟨19, _⟩ => ⟨S1x1024, .f32⟩
  | .hbm, ⟨20, _⟩ => ⟨S4x1024, .f32⟩
  | .hbm, ⟨21, _⟩ => ⟨S1x1024, .f32⟩
  | .hbm, ⟨22, _⟩ => ⟨S3x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S256x512, .bf16⟩
  | .local _ .vmem, ⟨11, _⟩ => ⟨S256x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S256x512, .bf16⟩
  | .local _ .vmem, ⟨17, _⟩ => ⟨S256x512, .bf16⟩
  | .local _ .vmem, ⟨18, _⟩ => ⟨S16x512, .bf16⟩
  | .local _ .vmem, ⟨19, _⟩ => ⟨S16x512, .bf16⟩
  | .local _ .vmem, ⟨20, _⟩ => ⟨S16x512, .bf16⟩
  | .local _ .vmem, ⟨21, _⟩ => ⟨S16x512, .bf16⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | .local _ .vmem, ⟨25, _⟩ => ⟨S8x1024, .f32⟩
  | .local _ .vmem, ⟨26, _⟩ => ⟨S8x1024, .f32⟩
  | .local _ .vmem, ⟨27, _⟩ => ⟨S8x1024, .f32⟩
  | .local _ .vmem, ⟨28, _⟩ => ⟨S256x1024, .f32⟩
  | .local _ .vmem, ⟨29, _⟩ => ⟨S256x1024, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S256x512, .f32⟩
  | .local _ .vmem, ⟨35, _⟩ => ⟨S256x512, .f32⟩
  | .local _ .vmem, ⟨36, _⟩ => ⟨S8x512, .f32⟩
  | .local _ .vmem, ⟨37, _⟩ => ⟨S8x512, .f32⟩
  | .local _ .vmem, ⟨38, _⟩ => ⟨S8x512, .f32⟩
  | .local _ .vmem, ⟨39, _⟩ => ⟨S8x512, .f32⟩
  | .local _ .vmem, ⟨40, _⟩ => ⟨S256x1024, .bf16⟩
  | .local _ .vmem, ⟨41, _⟩ => ⟨S256x1024, .bf16⟩
  | .local _ .vmem, ⟨42, _⟩ => ⟨S256x512, .bf16⟩
  | .local _ .vmem, ⟨43, _⟩ => ⟨S256x512, .bf16⟩
  | .local _ .vmem, ⟨44, _⟩ => ⟨S256x512, .bf16⟩
  | .local _ .vmem, ⟨45, _⟩ => ⟨S256x512, .bf16⟩
  | .local _ .vmem, ⟨46, _⟩ => ⟨S256x512, .bf16⟩
  | .local _ .vmem, ⟨47, _⟩ => ⟨S256x512, .bf16⟩
  | .local _ .vmem, ⟨48, _⟩ => ⟨S256x3072, .bf16⟩
  | .local _ .vmem, ⟨49, _⟩ => ⟨S256x3072, .bf16⟩
  | .local _ .vmem, ⟨50, _⟩ => ⟨S1x1024, .f32⟩
  | .local _ .vmem, ⟨51, _⟩ => ⟨S4x1024, .f32⟩
  | .local _ .vmem, ⟨52, _⟩ => ⟨S3x512, .f32⟩
  | .local _ .vmem, ⟨53, _⟩ => ⟨S7680x1024, .bf16⟩
  | .local _ .vmem, ⟨54, _⟩ => ⟨S256x1024, .f32⟩
  | .local _ .vmem, ⟨55, _⟩ => ⟨S256x1024, .f32⟩
  | .local _ .vmem, ⟨56, _⟩ => ⟨S256x7680, .bf16⟩
  | .local _ .vmem, ⟨57, _⟩ => ⟨S256x7680, .bf16⟩
  | .local _ .vmem, ⟨58, _⟩ => ⟨S1x1024, .f32⟩
  | .local _ .vmem, ⟨59, _⟩ => ⟨S4x1024, .f32⟩
  | .local _ .vmem, ⟨60, _⟩ => ⟨S1x1024, .f32⟩
  | .local _ .vmem, ⟨61, _⟩ => ⟨S3x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2_0 : Ref sig .tc := ⟨.hbm, 17, rfl⟩
abbrev main_v2_1 : Ref sig .tc := ⟨.hbm, 18, rfl⟩
abbrev main_v2_2 : Ref sig .tc := ⟨.hbm, 19, rfl⟩
abbrev main_v2_3 : Ref sig .tc := ⟨.hbm, 20, rfl⟩
abbrev main_v2_4 : Ref sig .tc := ⟨.hbm, 21, rfl⟩
abbrev main_v2_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg26_0 : Ref sig .tc := ⟨.vmem, 51, rfl⟩
abbrev cc0_stg27_0 : Ref sig .tc := ⟨.vmem, 52, rfl⟩
abbrev cc0_stg28_0 : Ref sig .tc := ⟨.vmem, 53, rfl⟩
abbrev cc0_stg29_0 : Ref sig .tc := ⟨.vmem, 54, rfl⟩
abbrev cc0_stg29_1 : Ref sig .tc := ⟨.vmem, 55, rfl⟩
abbrev cc0_stg30_0 : Ref sig .tc := ⟨.vmem, 56, rfl⟩
abbrev cc0_stg30_1 : Ref sig .tc := ⟨.vmem, 57, rfl⟩
abbrev cc0_stg31_0 : Ref sig .tc := ⟨.vmem, 58, rfl⟩
abbrev cc0_stg32_0 : Ref sig .tc := ⟨.vmem, 59, rfl⟩
abbrev cc0_stg33_0 : Ref sig .tc := ⟨.vmem, 60, rfl⟩
abbrev cc0_stg34_0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem26_0 : DmaSem sig := 51
abbrev cc0_sem27_0 : DmaSem sig := 52
abbrev cc0_sem28_0 : DmaSem sig := 53
abbrev cc0_sem29_0 : DmaSem sig := 54
abbrev cc0_sem29_1 : DmaSem sig := 55
abbrev cc0_sem30_0 : DmaSem sig := 56
abbrev cc0_sem30_1 : DmaSem sig := 57
abbrev cc0_sem31_0 : DmaSem sig := 58
abbrev cc0_sem32_0 : DmaSem sig := 59
abbrev cc0_sem33_0 : DmaSem sig := 60
abbrev cc0_sem34_0 : DmaSem sig := 61

abbrev nD : Nat := 1
abbrev τ : Topo := Topo.v7x

variable {F : FTy → Type} [FloatOps F]

abbrev grid0 : Pipeline.Grid := ⟨1, ![64], ![false]⟩

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v359 : BitVec 32 := Scalar.extui v0
  let c0_i32_153 : BitVec 32 := 0#32
  let v360 : BitVec 1 := Scalar.cmpi .ne v359 c0_i32_153
  v360

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_154 : BitVec 1 := 1#1
  let v361 : BitVec 1 := Scalar.xori v0 true_154
  let v362 : BitVec 32 := Scalar.extui v361
  let c0_i32_155 : BitVec 32 := 0#32
  let v363 : BitVec 1 := Scalar.cmpi .ne v362 c0_i32_155
  v363

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v128 : BitVec 32 := Scalar.extui v0
  let c0_i32_40 : BitVec 32 := 0#32
  let v129 : BitVec 1 := Scalar.cmpi .ne v128 c0_i32_40
  v129

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_41 : BitVec 1 := 1#1
  let v130 : BitVec 1 := Scalar.xori v0 true_41
  let v131 : BitVec 32 := Scalar.extui v130
  let c0_i32_42 : BitVec 32 := 0#32
  let v132 : BitVec 1 := Scalar.cmpi .ne v131 c0_i32_42
  v132

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v149 : BitVec 32 := Scalar.extui v0
  let c0_i32_46 : BitVec 32 := 0#32
  let v150 : BitVec 1 := Scalar.cmpi .ne v149 c0_i32_46
  v150

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_47 : BitVec 1 := 1#1
  let v151 : BitVec 1 := Scalar.xori v0 true_47
  let v152 : BitVec 32 := Scalar.extui v151
  let c0_i32_48 : BitVec 32 := 0#32
  let v153 : BitVec 1 := Scalar.cmpi .ne v152 c0_i32_48
  v153

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v157 : BitVec 32 := Scalar.extui v0
  let c0_i32_50 : BitVec 32 := 0#32
  let v158 : BitVec 1 := Scalar.cmpi .ne v157 c0_i32_50
  v158

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_51 : BitVec 1 := 1#1
  let v159 : BitVec 1 := Scalar.xori v0 true_51
  let v160 : BitVec 32 := Scalar.extui v159
  let c0_i32_52 : BitVec 32 := 0#32
  let v161 : BitVec 1 := Scalar.cmpi .ne v160 c0_i32_52
  v161

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v178 : BitVec 32 := Scalar.extui v0
  let c0_i32_56 : BitVec 32 := 0#32
  let v179 : BitVec 1 := Scalar.cmpi .ne v178 c0_i32_56
  v179

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v180 : BitVec 1 := Scalar.xori v0 true_57
  let v181 : BitVec 32 := Scalar.extui v180
  let c0_i32_58 : BitVec 32 := 0#32
  let v182 : BitVec 1 := Scalar.cmpi .ne v181 c0_i32_58
  v182

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v99 : BitVec 32 := Scalar.extui v0
  let c0_i32_35 : BitVec 32 := 0#32
  let v100 : BitVec 1 := Scalar.cmpi .ne v99 c0_i32_35
  v100

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v101 : BitVec 1 := Scalar.xori v0 v_true
  let v102 : BitVec 32 := Scalar.extui v101
  let c0_i32_36 : BitVec 32 := 0#32
  let v103 : BitVec 1 := Scalar.cmpi .ne v102 c0_i32_36
  v103

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v285 : BitVec 32 := Scalar.extui v0
  let c0_i32_104 : BitVec 32 := 0#32
  let v286 : BitVec 1 := Scalar.cmpi .ne v285 c0_i32_104
  v286

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_105 : BitVec 1 := 1#1
  let v287 : BitVec 1 := Scalar.xori v0 true_105
  let v288 : BitVec 32 := Scalar.extui v287
  let c0_i32_106 : BitVec 32 := 0#32
  let v289 : BitVec 1 := Scalar.cmpi .ne v288 c0_i32_106
  v289

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v293 : BitVec 32 := Scalar.extui v0
  let c0_i32_108 : BitVec 32 := 0#32
  let v294 : BitVec 1 := Scalar.cmpi .ne v293 c0_i32_108
  v294

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_109 : BitVec 1 := 1#1
  let v295 : BitVec 1 := Scalar.xori v0 true_109
  let v296 : BitVec 32 := Scalar.extui v295
  let c0_i32_110 : BitVec 32 := 0#32
  let v297 : BitVec 1 := Scalar.cmpi .ne v296 c0_i32_110
  v297

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v301 : BitVec 32 := Scalar.extui v0
  let c0_i32_112 : BitVec 32 := 0#32
  let v302 : BitVec 1 := Scalar.cmpi .ne v301 c0_i32_112
  v302

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_113 : BitVec 1 := 1#1
  let v303 : BitVec 1 := Scalar.xori v0 true_113
  let v304 : BitVec 32 := Scalar.extui v303
  let c0_i32_114 : BitVec 32 := 0#32
  let v305 : BitVec 1 := Scalar.cmpi .ne v304 c0_i32_114
  v305

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c5_i32 : BitVec 32 := 5#32
  let c0_i32 : BitVec 32 := 0#32
  ![v2.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c6_i32 : BitVec 32 := 6#32
  let c0_i32 : BitVec 32 := 0#32
  ![v2.toNat, c6_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x3072 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S4x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S3x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S7680x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x7680 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S4x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S3x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== ReferenceIdeal.lean ====
abbrev S16384x1024 : Shape := ⟨2, ![16384, 1024]⟩
abbrev S16384x4608 : Shape := ⟨2, ![16384, 4608]⟩
abbrev S16384x512 : Shape := ⟨2, ![16384, 512]⟩
abbrev S16384x3072 : Shape := ⟨2, ![16384, 3072]⟩
abbrev S1x1024 : Shape := ⟨2, ![1, 1024]⟩
abbrev S4x1024 : Shape := ⟨2, ![4, 1024]⟩
abbrev S3x512 : Shape := ⟨2, ![3, 512]⟩
abbrev S1024x7680 : Shape := ⟨2, ![1024, 7680]⟩
abbrev S_ : Shape := ⟨0, ![]⟩
abbrev S16384x7680 : Shape := ⟨2, ![16384, 7680]⟩
abbrev S2x1024 : Shape := ⟨2, ![2, 1024]⟩
abbrev S16387x1024 : Shape := ⟨2, ![16387, 1024]⟩
abbrev S1024 : Shape := ⟨1, ![1024]⟩
abbrev S1x512 : Shape := ⟨2, ![1, 512]⟩
abbrev S16386x512 : Shape := ⟨2, ![16386, 512]⟩
abbrev S512 : Shape := ⟨1, ![512]⟩
abbrev S16384 : Shape := ⟨1, ![16384]⟩
abbrev S16384x1 : Shape := ⟨2, ![16384, 1]⟩

abbrev nBuf : Space → Nat
  | .hbm => 271
  | .vmem => 0
  | .smem => 0
  | _ => 0

abbrev hbmTy0_0 (i : Nat) : BufTy := match i % 128 with
  | 0 => ⟨S16384x1024, .f32⟩
  | 1 => ⟨S16384x1024, .f32⟩
  | 2 => ⟨S16384x4608, .bf16⟩
  | 3 => ⟨S16384x1024, .f32⟩
  | 4 => ⟨S16384x1024, .f32⟩
  | 5 => ⟨S16384x512, .f32⟩
  | 6 => ⟨S16384x1024, .bf16⟩
  | 7 => ⟨S16384x512, .bf16⟩
  | 8 => ⟨S16384x512, .bf16⟩
  | 9 => ⟨S16384x512, .bf16⟩
  | 10 => ⟨S16384x3072, .bf16⟩
  | 11 => ⟨S1x1024, .f32⟩
  | 12 => ⟨S4x1024, .f32⟩
  | 13 => ⟨S3x512, .f32⟩
  | 14 => ⟨S1024x7680, .f32⟩
  | 15 => ⟨S16384x4608, .f32⟩
  | 16 => ⟨S_, .f32⟩
  | 17 => ⟨S16384x3072, .f32⟩
  | 18 => ⟨S16384x7680, .f32⟩
  | 19 => ⟨S16384x1024, .f32⟩
  | 20 => ⟨S16384x512, .f32⟩
  | 21 => ⟨S16384x512, .f32⟩
  | 22 => ⟨S16384x512, .f32⟩
  | 23 => ⟨S16384x3072, .f32⟩
  | 24 => ⟨S_, .f32⟩
  | 25 => ⟨S1x1024, .f32⟩
  | 26 => ⟨S16384x1024, .f32⟩
  | 27 => ⟨S16384x1024, .f32⟩
  | 28 => ⟨S16384x512, .f32⟩
  | 29 => ⟨S16384x512, .f32⟩
  | 30 => ⟨S16384x512, .f32⟩
  | 31 => ⟨S16384x512, .f32⟩
  | 32 => ⟨S16384x512, .f32⟩
  | 33 => ⟨S16384x3072, .f32⟩
  | 34 => ⟨S_, .f32⟩
  | 35 => ⟨S2x1024, .f32⟩
  | 36 => ⟨S_, .f32⟩
  | 37 => ⟨S1x1024, .f32⟩
  | 38 => ⟨S16387x1024, .f32⟩
  | 39 => ⟨S_, .f32⟩
  | 40 => ⟨S2x1024, .f32⟩
  | 41 => ⟨S_, .f32⟩
  | 42 => ⟨S1x1024, .f32⟩
  | 43 => ⟨S16384x1024, .f32⟩
  | 44 => ⟨S1x1024, .f32⟩
  | 45 => ⟨S1024, .f32⟩
  | 46 => ⟨S1x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S1x1024, .f32⟩
  | 54 => ⟨S1024, .f32⟩
  | 55 => ⟨S1x1024, .f32⟩
  | 56 => ⟨S16384x1024, .f32⟩
  | 57 => ⟨S16384x1024, .f32⟩
  | 58 => ⟨S16384x1024, .f32⟩
  | 59 => ⟨S16384x1024, .f32⟩
  | 60 => ⟨S1x1024, .f32⟩
  | 61 => ⟨S1024, .f32⟩
  | 62 => ⟨S1x1024, .f32⟩
  | 63 => ⟨S16384x1024, .f32⟩
  | 64 => ⟨S16384x1024, .f32⟩
  | 65 => ⟨S16384x1024, .f32⟩
  | 66 => ⟨S16384x1024, .f32⟩
  | 67 => ⟨S1x1024, .f32⟩
  | 68 => ⟨S1024, .f32⟩
  | 69 => ⟨S1x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S16384x512, .f32⟩
  | 76 => ⟨S_, .f32⟩
  | 77 => ⟨S1x512, .f32⟩
  | 78 => ⟨S_, .f32⟩
  | 79 => ⟨S1x512, .f32⟩
  | 80 => ⟨S16386x512, .f32⟩
  | 81 => ⟨S_, .f32⟩
  | 82 => ⟨S1x512, .f32⟩
  | 83 => ⟨S_, .f32⟩
  | 84 => ⟨S1x512, .f32⟩
  | 85 => ⟨S16384x512, .f32⟩
  | 86 => ⟨S1x512, .f32⟩
  | 87 => ⟨S512, .f32⟩
  | 88 => ⟨S1x512, .f32⟩
  | 89 => ⟨S16384x512, .f32⟩
  | 90 => ⟨S16384x512, .f32⟩
  | 91 => ⟨S_, .f32⟩
  | 92 => ⟨S16384x512, .f32⟩
  | 93 => ⟨S16384x512, .f32⟩
  | 94 => ⟨S16384x512, .f32⟩
  | 95 => ⟨S1x512, .f32⟩
  | 96 => ⟨S512, .f32⟩
  | 97 => ⟨S1x512, .f32⟩
  | 98 => ⟨S16384x512, .f32⟩
  | 99 => ⟨S16384x512, .f32⟩
  | 100 => ⟨S16384x512, .f32⟩
  | 101 => ⟨S16384x512, .f32⟩
  | 102 => ⟨S1x512, .f32⟩
  | 103 => ⟨S512, .f32⟩
  | 104 => ⟨S1x512, .f32⟩
  | 105 => ⟨S16384x512, .f32⟩
  | 106 => ⟨S16384x512, .f32⟩
  | 107 => ⟨S16384x512, .f32⟩
  | 108 => ⟨S16384x1024, .f32⟩
  | 109 => ⟨S16384x512, .f32⟩
  | 110 => ⟨S16384x512, .f32⟩
  | 111 => ⟨S16384x512, .f32⟩
  | 112 => ⟨S_, .f32⟩
  | 113 => ⟨S512, .f32⟩
  | 114 => ⟨S1x512, .f32⟩
  | 115 => ⟨S16384x512, .f32⟩
  | 116 => ⟨S16384x512, .f32⟩
  | 117 => ⟨S_, .f32⟩
  | 118 => ⟨S512, .f32⟩
  | 119 => ⟨S1x512, .f32⟩
  | 120 => ⟨S_, .f32⟩
  | 121 => ⟨S3x512, .f32⟩
  | 122 => ⟨S_, .f32⟩
  | 123 => ⟨S16386x512, .f32⟩
  | 124 => ⟨S16384x512, .f32⟩
  | 125 => ⟨S_, .f32⟩
  | 126 => ⟨S512, .f32⟩
  | 127 => ⟨S1x512, .f32⟩
  | _ => ⟨S16384x1024, .f32⟩

abbrev hbmTy0_1 (i : Nat) : BufTy := match i % 128 with
  | 0 => ⟨S16384x512, .f32⟩
  | 1 => ⟨S16384x512, .f32⟩
  | 2 => ⟨S_, .f32⟩
  | 3 => ⟨S512, .f32⟩
  | 4 => ⟨S1x512, .f32⟩
  | 5 => ⟨S_, .f32⟩
  | 6 => ⟨S3x512, .f32⟩
  | 7 => ⟨S3x512, .f32⟩
  | 8 => ⟨S_, .f32⟩
  | 9 => ⟨S16386x512, .f32⟩
  | 10 => ⟨S16386x512, .f32⟩
  | 11 => ⟨S16384x512, .f32⟩
  | 12 => ⟨S_, .f32⟩
  | 13 => ⟨S512, .f32⟩
  | 14 => ⟨S1x512, .f32⟩
  | 15 => ⟨S16384x512, .f32⟩
  | 16 => ⟨S16384x512, .f32⟩
  | 17 => ⟨S_, .f32⟩
  | 18 => ⟨S512, .f32⟩
  | 19 => ⟨S1x512, .f32⟩
  | 20 => ⟨S_, .f32⟩
  | 21 => ⟨S3x512, .f32⟩
  | 22 => ⟨S3x512, .f32⟩
  | 23 => ⟨S_, .f32⟩
  | 24 => ⟨S16386x512, .f32⟩
  | 25 => ⟨S16386x512, .f32⟩
  | 26 => ⟨S1x512, .f32⟩
  | 27 => ⟨S16384x512, .f32⟩
  | 28 => ⟨S1x512, .f32⟩
  | 29 => ⟨S16384x512, .f32⟩
  | 30 => ⟨S16384x512, .f32⟩
  | 31 => ⟨S16384x1024, .f32⟩
  | 32 => ⟨S_, .f32⟩
  | 33 => ⟨S1024, .f32⟩
  | 34 => ⟨S1x1024, .f32⟩
  | 35 => ⟨S16384x1024, .f32⟩
  | 36 => ⟨S_, .f32⟩
  | 37 => ⟨S1024, .f32⟩
  | 38 => ⟨S1x1024, .f32⟩
  | 39 => ⟨S16384x1024, .f32⟩
  | 40 => ⟨S16384x1024, .f32⟩
  | 41 => ⟨S_, .f32⟩
  | 42 => ⟨S1024, .f32⟩
  | 43 => ⟨S1x1024, .f32⟩
  | 44 => ⟨S_, .f32⟩
  | 45 => ⟨S4x1024, .f32⟩
  | 46 => ⟨S_, .f32⟩
  | 47 => ⟨S16387x1024, .f32⟩
  | 48 => ⟨S16384x1024, .f32⟩
  | 49 => ⟨S_, .f32⟩
  | 50 => ⟨S1024, .f32⟩
  | 51 => ⟨S1x1024, .f32⟩
  | 52 => ⟨S16384x1024, .f32⟩
  | 53 => ⟨S16384x1024, .f32⟩
  | 54 => ⟨S_, .f32⟩
  | 55 => ⟨S1024, .f32⟩
  | 56 => ⟨S1x1024, .f32⟩
  | 57 => ⟨S_, .f32⟩
  | 58 => ⟨S4x1024, .f32⟩
  | 59 => ⟨S4x1024, .f32⟩
  | 60 => ⟨S_, .f32⟩
  | 61 => ⟨S16387x1024, .f32⟩
  | 62 => ⟨S16387x1024, .f32⟩
  | 63 => ⟨S16384x1024, .f32⟩
  | 64 => ⟨S_, .f32⟩
  | 65 => ⟨S1024, .f32⟩
  | 66 => ⟨S1x1024, .f32⟩
  | 67 => ⟨S16384x1024, .f32⟩
  | 68 => ⟨S16384x1024, .f32⟩
  | 69 => ⟨S_, .f32⟩
  | 70 => ⟨S1024, .f32⟩
  | 71 => ⟨S1x1024, .f32⟩
  | 72 => ⟨S_, .f32⟩
  | 73 => ⟨S4x1024, .f32⟩
  | 74 => ⟨S4x1024, .f32⟩
  | 75 => ⟨S_, .f32⟩
  | 76 => ⟨S16387x1024, .f32⟩
  | 77 => ⟨S16387x1024, .f32⟩
  | 78 => ⟨S16384x1024, .f32⟩
  | 79 => ⟨S_, .f32⟩
  | 80 => ⟨S1024, .f32⟩
  | 81 => ⟨S1x1024, .f32⟩
  | 82 => ⟨S16384x1024, .f32⟩
  | 83 => ⟨S16384x1024, .f32⟩
  | 84 => ⟨S_, .f32⟩
  | 85 => ⟨S1024, .f32⟩
  | 86 => ⟨S1x1024, .f32⟩
  | 87 => ⟨S_, .f32⟩
  | 88 => ⟨S4x1024, .f32⟩
  | 89 => ⟨S4x1024, .f32⟩
  | 90 => ⟨S_, .f32⟩
  | 91 => ⟨S16387x1024, .f32⟩
  | 92 => ⟨S16387x1024, .f32⟩
  | 93 => ⟨S2x1024, .f32⟩
  | 94 => ⟨S16384x1024, .f32⟩
  | 95 => ⟨S1x1024, .f32⟩
  | 96 => ⟨S16384x7680, .f32⟩
  | 97 => ⟨S16384x1024, .f32⟩
  | 98 => ⟨S_, .f32⟩
  | 99 => ⟨S16384, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S16384x1024, .f32⟩
  | 113 => ⟨S16384x1024, .f32⟩
  | 114 => ⟨S16384x1024, .f32⟩
  | 115 => ⟨S16384x1024, .f32⟩
  | 116 => ⟨S16384x7680, .f32⟩
  | 117 => ⟨S16384x1024, .f32⟩
  | 118 => ⟨S16384x1024, .f32⟩
  | 119 => ⟨S_, .f32⟩
  | 120 => ⟨S1024, .f32⟩
  | 121 => ⟨S1x1024, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_2 (i : Nat) : BufTy := match i % 128 with
  | 0 => ⟨S16384x1024, .f32⟩
  | 1 => ⟨S16384x1024, .f32⟩
  | 2 => ⟨S16384x1024, .f32⟩
  | 3 => ⟨S16384x1, .f32⟩
  | 4 => ⟨S_, .f32⟩
  | 5 => ⟨S16384x1, .f32⟩
  | 6 => ⟨S16384x1, .f32⟩
  | 7 => ⟨S_, .f32⟩
  | 8 => ⟨S16384, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S16384x7680, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_11 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_12 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_cst_15 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_v101 : Ref sig .tc := ⟨.hbm, 135, rfl⟩
abbrev main_cst_18 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_19 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_20 : Ref sig .tc := ⟨.hbm, 145, rfl⟩
abbrev main_v109 : Ref sig .tc := ⟨.hbm, 146, rfl⟩
abbrev main_v110 : Ref sig .tc := ⟨.hbm, 147, rfl⟩
abbrev main_cst_21 : Ref sig .tc := ⟨.hbm, 148, rfl⟩
abbrev main_v111 : Ref sig .tc := ⟨.hbm, 149, rfl⟩
abbrev main_v112 : Ref sig .tc := ⟨.hbm, 150, rfl⟩
abbrev main_cst_22 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_23 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_24 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_25 : Ref sig .tc := ⟨.hbm, 169, rfl⟩
abbrev main_v128 : Ref sig .tc := ⟨.hbm, 170, rfl⟩
abbrev main_v129 : Ref sig .tc := ⟨.hbm, 171, rfl⟩
abbrev main_cst_26 : Ref sig .tc := ⟨.hbm, 172, rfl⟩
abbrev main_v130 : Ref sig .tc := ⟨.hbm, 173, rfl⟩
abbrev main_cst_27 : Ref sig .tc := ⟨.hbm, 174, rfl⟩
abbrev main_v131 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_29 : Ref sig .tc := ⟨.hbm, 182, rfl⟩
abbrev main_v137 : Ref sig .tc := ⟨.hbm, 183, rfl⟩
abbrev main_v138 : Ref sig .tc := ⟨.hbm, 184, rfl⟩
abbrev main_cst_30 : Ref sig .tc := ⟨.hbm, 185, rfl⟩
abbrev main_v139 : Ref sig .tc := ⟨.hbm, 186, rfl⟩
abbrev main_v140 : Ref sig .tc := ⟨.hbm, 187, rfl⟩
abbrev main_cst_31 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_32 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_33 : Ref sig .tc := ⟨.hbm, 197, rfl⟩
abbrev main_v148 : Ref sig .tc := ⟨.hbm, 198, rfl⟩
abbrev main_v149 : Ref sig .tc := ⟨.hbm, 199, rfl⟩
abbrev main_cst_34 : Ref sig .tc := ⟨.hbm, 200, rfl⟩
abbrev main_v150 : Ref sig .tc := ⟨.hbm, 201, rfl⟩
abbrev main_v151 : Ref sig .tc := ⟨.hbm, 202, rfl⟩
abbrev main_cst_35 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_36 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_37 : Ref sig .tc := ⟨.hbm, 212, rfl⟩
abbrev main_v159 : Ref sig .tc := ⟨.hbm, 213, rfl⟩
abbrev main_v160 : Ref sig .tc := ⟨.hbm, 214, rfl⟩
abbrev main_cst_38 : Ref sig .tc := ⟨.hbm, 215, rfl⟩
abbrev main_v161 : Ref sig .tc := ⟨.hbm, 216, rfl⟩
abbrev main_v162 : Ref sig .tc := ⟨.hbm, 217, rfl⟩
abbrev main_cst_39 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_40 : Ref sig .tc := ⟨.hbm, 226, rfl⟩
abbrev main_v170 : Ref sig .tc := ⟨.hbm, 227, rfl⟩
abbrev main_v171 : Ref sig .tc := ⟨.hbm, 228, rfl⟩
abbrev main_cst_41 : Ref sig .tc := ⟨.hbm, 229, rfl⟩
abbrev main_v172 : Ref sig .tc := ⟨.hbm, 230, rfl⟩
abbrev main_v173 : Ref sig .tc := ⟨.hbm, 231, rfl⟩
abbrev main_cst_42 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_43 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_44 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_cst_45 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_cst_46 : Ref sig .tc := ⟨.hbm, 260, rfl⟩
abbrev main_v198 : Ref sig .tc := ⟨.hbm, 261, rfl⟩
abbrev main_v199 : Ref sig .tc := ⟨.hbm, 262, rfl⟩
abbrev main_cst_47 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩

abbrev nD : Nat := 1
abbrev τ : Topo := Topo.v7x

variable {F : FTy → Type} [FloatOps F]
-- ==== Kernel2.lean ====
abbrev S16384x1024 : Shape := ⟨2, ![16384, 1024]⟩
abbrev S4x16384x704 : Shape := ⟨3, ![4, 16384, 704]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x704, .bf16⟩
  | .hbm, ⟨3, _⟩ => ⟨S4x16384x704, .bf16⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S16384x1024, .f32⟩
  | .hbm, ⟨14, _⟩ => ⟨S16384x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v95 : BitVec 32 := Scalar.extui v94
  let c0_i32_73 : BitVec 32 := 0#32
  let v96 : BitVec 1 := Scalar.cmpi .ne v95 c0_i32_73
  v96

def k0_cond2 (i : grid0.Coords) : BitVec 1 :=
  let arg0 : BitVec 32 := BitVec.ofNat 32 (i 0).val
  let c0_i32 : BitVec 32 := 0#32
  let v94 : BitVec 1 := Scalar.cmpi .eq arg0 c0_i32
  let v_true : BitVec 1 := 1#1
  let v97 : BitVec 1 := Scalar.xori v94 v_true
  let v98 : BitVec 32 := Scalar.extui v97
  let c0_i32_74 : BitVec 32 := 0#32
  let v99 : BitVec 1 := Scalar.cmpi .ne v98 c0_i32_74
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S16384x1024 : Shape := ⟨2, ![16384, 1024]⟩
abbrev S4x16384x704 : Shape := ⟨3, ![4, 16384, 704]⟩
abbrev S1x1024 : Shape := ⟨2, ![1, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x4x704 : Shape := ⟨3, ![16384, 4, 704]⟩
abbrev S1024 : Shape := ⟨1, ![1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x16384x704, .bf16⟩
  | .hbm, ⟨3, _⟩ => ⟨S4x16384x704, .bf16⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x4x704, .bf16⟩
  | .hbm, ⟨29, _⟩ => ⟨S16384x2816, .bf16⟩
  | .hbm, ⟨30, _⟩ => ⟨S16384x2816, .f32⟩
  | .hbm, ⟨31, _⟩ => ⟨S16384x4x704, .bf16⟩
  | .hbm, ⟨32, _⟩ => ⟨S16384x2816, .bf16⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== Kernel3.lean ====
abbrev S16384x1024 : Shape := ⟨2, ![16384, 1024]⟩
abbrev S4x16384x704 : Shape := ⟨3, ![4, 16384, 704]⟩
abbrev S1x1024 : Shape := ⟨2, ![1, 1024]⟩
abbrev S2816x1024 : Shape := ⟨2, ![2816, 1024]⟩
abbrev S4x704x1024 : Shape := ⟨3, ![4, 704, 1024]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1024 : Shape := ⟨1, ![1024]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S4x16384x704, .bf16⟩
  | .hbm, ⟨2, _⟩ => ⟨S4x16384x704, .bf16⟩
  | .hbm, ⟨3, _⟩ => ⟨S16384x1024, .bf16⟩
  | .hbm, ⟨4, _⟩ => ⟨S1x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S4x16384x704, .bf16⟩
  | .hbm, ⟨9, _⟩ => ⟨S4x16384x704, .bf16⟩
  | .hbm, ⟨10, _⟩ => ⟨S16384x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S4x704x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v109 : BitVec 1 := Scalar.cmpi .eq arg0 c0_i32
  let v110 : BitVec 32 := Scalar.extui v109
  let c0_i32_74 : BitVec 32 := 0#32
  let v111 : BitVec 1 := Scalar.cmpi .ne v110 c0_i32_74
  v111

def k0_cond2 (i : grid0.Coords) : BitVec 1 :=
  let arg0 : BitVec 32 := BitVec.ofNat 32 (i 0).val
  let c0_i32 : BitVec 32 := 0#32
  let v109 : BitVec 1 := Scalar.cmpi .eq arg0 c0_i32
  let v_true : BitVec 1 := 1#1
  let v112 : BitVec 1 := Scalar.xori v109 v_true
  let v113 : BitVec 32 := Scalar.extui v112
  let c0_i32_75 : BitVec 32 := 0#32
  let v114 : BitVec 1 := Scalar.cmpi .ne v113 c0_i32_75
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S16384x1024 : Shape := ⟨2, ![16384, 1024]⟩
abbrev S4x16384x704 : Shape := ⟨3, ![4, 16384, 704]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S16384x2816 : Shape := ⟨2, ![16384, 2816]⟩
abbrev S16384x4x704 : Shape := ⟨3, ![16384, 4, 704]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x704, .bf16⟩
  | .hbm, ⟨2, _⟩ => ⟨S4x16384x704, .bf16⟩
  | .hbm, ⟨3, _⟩ => ⟨S16384x1024, .bf16⟩
  | .hbm, ⟨4, _⟩ => ⟨S1x1024, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x2816, .f32⟩
  | .hbm, ⟨57, _⟩ => ⟨S16384x1024, .f32⟩
  | .hbm, ⟨58, _⟩ => ⟨S16384x2816, .f32⟩
  | .hbm, ⟨59, _⟩ => ⟨S16384x4x704, .bf16⟩
  | .hbm, ⟨60, _⟩ => ⟨S16384x2816, .bf16⟩
  | .hbm, ⟨61, _⟩ => ⟨S16384x2816, .f32⟩
  | .hbm, ⟨62, _⟩ => ⟨S16384x2816, .f32⟩
  | .hbm, ⟨63, _⟩ => ⟨S16384x4x704, .f32⟩
  | .hbm, ⟨64, _⟩ => ⟨S4x16384x704, .f32⟩
  | .hbm, ⟨65, _⟩ => ⟨S4x16384x704, .bf16⟩
  | .hbm, ⟨66, _⟩ => ⟨S16384x4x704, .bf16⟩
  | .hbm, ⟨67, _⟩ => ⟨S16384x2816, .bf16⟩
  | .hbm, ⟨68, _⟩ => ⟨S16384x2816, .f32⟩
  | .hbm, ⟨69, _⟩ => ⟨S16384x2816, .f32⟩
  | .hbm, ⟨70, _⟩ => ⟨S16384x4x704, .f32⟩
  | .hbm, ⟨71, _⟩ => ⟨S4x16384x704, .f32⟩
  | .hbm, ⟨72, _⟩ => ⟨S4x16384x704, .bf16⟩
  | .hbm, ⟨73, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel4.lean ====
abbrev S4x16384x704 : Shape := ⟨3, ![4, 16384, 704]⟩
abbrev S16384x1024 : Shape := ⟨2, ![16384, 1024]⟩
abbrev S4x7680x1024 : Shape := ⟨3, ![4, 7680, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x7680x1024, .bf16⟩
  | .hbm, ⟨3, _⟩ => ⟨S4x7680x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, c0_i32.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x16384x704 : Shape := ⟨3, ![4, 16384, 704]⟩
abbrev S16384x1024 : Shape := ⟨2, ![16384, 1024]⟩
abbrev S4x7680x1024 : Shape := ⟨3, ![4, 7680, 1024]⟩
abbrev S_ : Shape := ⟨0, ![]⟩
abbrev S1024x2816 : Shape := ⟨2, ![1024, 2816]⟩
abbrev S16384x2816 : Shape := ⟨2, ![16384, 2816]⟩
abbrev S16384x4x704 : Shape := ⟨3, ![16384, 4, 704]⟩
abbrev S2816x1024 : Shape := ⟨2, ![2816, 1024]⟩
abbrev S4x704x1024 : Shape := ⟨3, ![4, 704, 1024]⟩
abbrev S4x2112x1024 : Shape := ⟨3, ![4, 2112, 1024]⟩
abbrev S4x4864x1024 : Shape := ⟨3, ![4, 4864, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S4x7680x1024, .bf16⟩
  | .hbm, ⟨3, _⟩ => ⟨S_, .f32⟩
  | .hbm, ⟨4, _⟩ => ⟨S1024x2816, .f32⟩
  | .hbm, ⟨5, _⟩ => ⟨S16384x1024, .f32⟩
  | .hbm, ⟨6, _⟩ => ⟨S16384x2816, .f32⟩
  | .hbm, ⟨7, _⟩ => ⟨S16384x4x704, .bf16⟩
  | .hbm, ⟨8, _⟩ => ⟨S16384x2816, .bf16⟩
  | .hbm, ⟨9, _⟩ => ⟨S16384x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S4x704x1024, .f32⟩
  | .hbm, ⟨14, _⟩ => ⟨S4x704x1024, .bf16⟩
  | .hbm, ⟨15, _⟩ => ⟨S4x2112x1024, .bf16⟩
  | .hbm, ⟨16, _⟩ => ⟨S4x4864x1024, .bf16⟩
  | .hbm, ⟨17, _⟩ => ⟨S4x7680x1024, .bf16⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S16384x7680 : Shape := ⟨2, ![16384, 7680]⟩
abbrev S16384x1024 : Shape := ⟨2, ![16384, 1024]⟩
abbrev S4x7680x1024 : Shape := ⟨3, ![4, 7680, 1024]⟩
abbrev S2048x1920 : Shape := ⟨2, ![2048, 1920]⟩
abbrev S2048x1024 : Shape := ⟨2, ![2048, 1024]⟩
abbrev S1x1920x1024 : Shape := ⟨3, ![1, 1920, 1024]⟩
abbrev S1920x1024 : Shape := ⟨2, ![1920, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x7680, .bf16⟩
  | .hbm, ⟨1, _⟩ => ⟨S16384x1024, .bf16⟩
  | .hbm, ⟨2, _⟩ => ⟨S4x7680x1024, .bf16⟩
  | .hbm, ⟨3, _⟩ => ⟨S4x7680x1024, .bf16⟩
  | .local _ .vmem, ⟨0, _⟩ => ⟨S2048x1920, .bf16⟩
  | .local _ .vmem, ⟨1, _⟩ => ⟨S2048x1920, .bf16⟩
  | .local _ .vmem, ⟨2, _⟩ => ⟨S2048x1024, .bf16⟩
  | .local _ .vmem, ⟨3, _⟩ => ⟨S2048x1024, .bf16⟩
  | .local _ .vmem, ⟨4, _⟩ => ⟨S1x1920x1024, .bf16⟩
  | .local _ .vmem, ⟨5, _⟩ => ⟨S1x1920x1024, .bf16⟩
  | .local _ .vmem, ⟨6, _⟩ => ⟨S1920x1024, .f32⟩
  | _, _ => ⟨S16384x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1920x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x7680 : Shape := ⟨2, ![16384, 7680]⟩
abbrev S16384x1024 : Shape := ⟨2, ![16384, 1024]⟩
abbrev S4x7680x1024 : Shape := ⟨3, ![4, 7680, 1024]⟩
abbrev S_ : Shape := ⟨0, ![]⟩
abbrev S1024x7680 : Shape := ⟨2, ![1024, 7680]⟩
abbrev S7680x1024 : Shape := ⟨2, ![7680, 1024]⟩
abbrev S4x1920x1024 : Shape := ⟨3, ![4, 1920, 1024]⟩
abbrev S4x5760x1024 : Shape := ⟨3, ![4, 5760, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x7680, .bf16⟩
  | .hbm, ⟨1, _⟩ => ⟨S16384x1024, .bf16⟩
  | .hbm, ⟨2, _⟩ => ⟨S4x7680x1024, .bf16⟩
  | .hbm, ⟨3, _⟩ => ⟨S_, .f32⟩
  | .hbm, ⟨4, _⟩ => ⟨S1024x7680, .f32⟩
  | .hbm, ⟨5, _⟩ => ⟨S16384x1024, .f32⟩
  | .hbm, ⟨6, _⟩ => ⟨S16384x7680, .f32⟩
  | .hbm, ⟨7, _⟩ => ⟨S16384x7680, .f32⟩
  | .hbm, ⟨8, _⟩ => ⟨S7680x1024, .f32⟩
  | .hbm, ⟨9, _⟩ => ⟨S1024x7680, .f32⟩
  | .hbm, ⟨10, _⟩ => ⟨S7680x1024, .f32⟩
  | .hbm, ⟨11, _⟩ => ⟨S4x1920x1024, .f32⟩
  | .hbm, ⟨12, _⟩ => ⟨S4x1920x1024, .bf16⟩
  | .hbm, ⟨13, _⟩ => ⟨S4x5760x1024, .bf16⟩
  | .hbm, ⟨14, _⟩ => ⟨S4x7680x1024, .bf16⟩
  | _, _ => ⟨S16384x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x16384x704 : Shape := ⟨3, ![4, 16384, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 19
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S16384x1024, .f32⟩
  | .hbm, ⟨15, _⟩ => ⟨S4x16384x704, .bf16⟩
  | .hbm, ⟨16, _⟩ => ⟨S4x16384x704, .bf16⟩
  | .hbm, ⟨17, _⟩ => ⟨S4x16384x704, .bf16⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .bf16⟩
  | .local _ .vmem, ⟨16, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x4x704 : Shape := ⟨3, ![16384, 4, 704]⟩
abbrev S4x16384x704 : Shape := ⟨3, ![4, 16384, 704]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x4x704, .f32⟩
  | .hbm, ⟨58, _⟩ => ⟨S4x16384x704, .f32⟩
  | .hbm, ⟨59, _⟩ => ⟨S4x16384x704, .bf16⟩
  | .hbm, ⟨60, _⟩ => ⟨S_, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x4x704, .f32⟩
  | .hbm, ⟨68, _⟩ => ⟨S4x16384x704, .f32⟩
  | .hbm, ⟨69, _⟩ => ⟨S4x16384x704, .bf16⟩
  | .hbm, ⟨70, _⟩ => ⟨S16384x4x704, .f32⟩
  | .hbm, ⟨71, _⟩ => ⟨S4x16384x704, .f32⟩
  | .hbm, ⟨72, _⟩ => ⟨S4x16384x704, .bf16⟩
  | .hbm, ⟨73, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S1024x7680 : Shape := ⟨2, ![1024, 7680]⟩
abbrev S7680x1024 : Shape := ⟨2, ![7680, 1024]⟩
abbrev S16384x4608 : Shape := ⟨2, ![16384, 4608]⟩
abbrev S16384x3072 : Shape := ⟨2, ![16384, 3072]⟩
abbrev S512x1024 : Shape := ⟨2, ![512, 1024]⟩
abbrev S512x4608 : Shape := ⟨2, ![512, 4608]⟩
abbrev S512x3072 : Shape := ⟨2, ![512, 3072]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .f32⟩
  | .hbm, ⟨3, _⟩ => ⟨S7680x1024, .f32⟩
  | .hbm, ⟨4, _⟩ => ⟨S7680x1024, .bf16⟩
  | .hbm, ⟨5, _⟩ => ⟨S16384x1024, .bf16⟩
  | .hbm, ⟨6, _⟩ => ⟨S16384x4608, .bf16⟩
  | .hbm, ⟨7, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S7680x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4608, .bf16⟩
  | .local _ .vmem, ⟨7, _⟩ => ⟨S512x4608, .bf16⟩
  | .local _ .vmem, ⟨8, _⟩ => ⟨S512x3072, .bf16⟩
  | .local _ .vmem, ⟨9, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7680x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x1024 : Shape := ⟨2, ![16384, 1024]⟩
abbrev S1x1024 : Shape := ⟨2, ![1, 1024]⟩
abbrev S1024x7680 : Shape := ⟨2, ![1024, 7680]⟩
abbrev S_ : Shape := ⟨0, ![]⟩
abbrev S16384 : Shape := ⟨1, ![16384]⟩
abbrev S16384x1 : Shape := ⟨2, ![16384, 1]⟩
abbrev S16384x7680 : Shape := ⟨2, ![16384, 7680]⟩
abbrev S16384x4608 : Shape := ⟨2, ![16384, 4608]⟩
abbrev S16384x3072 : Shape := ⟨2, ![16384, 3072]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x7680, .f32⟩
  | .hbm, ⟨19, _⟩ => ⟨S16384x1024, .bf16⟩
  | .hbm, ⟨20, _⟩ => ⟨S16384x4608, .f32⟩
  | .hbm, ⟨21, _⟩ => ⟨S16384x4608, .bf16⟩
  | .hbm, ⟨22, _⟩ => ⟨S16384x3072, .f32⟩
  | .hbm, ⟨23, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.MixInBwd.RunA.lean ====
/- The run of the projection's backward body at the first grid point, where the four accumulators are
   opened: the pieces each output buffer ends with, together with the proof that the body leaves them. -/

module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken, `scf.if` 1 not taken, `scf.if` 2 taken, `scf.if` 3 not taken, `scf.if` 4 taken, `scf.if` 5 not taken, `scf.if` 6 taken, `scf.if` 7 not taken, `scf.if` 8 taken, `scf.if` 9 not taken, `scf.if` 10 taken, `scf.if` 11 not taken, `scf.if` 12 taken, `scf.if` 13 not taken, `scf.if` 14 taken, `scf.if` 15 not taken, `scf.if` 16 taken, `scf.if` 17 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x512 .bf16) (harg6 : arg6.IsWhole) (arg7 : Memref sig .tc .vmem S16x512 .bf16) (harg7 : arg7.IsWhole) (arg8 : Memref sig .tc .vmem S16x512 .bf16) (harg8 : arg8.IsWhole) (arg9 : Memref sig .tc .vmem S256x512 .bf16) (harg9 : arg9.IsWhole) (arg10 : Memref sig .tc .vmem S16x512 .bf16) (harg10 : arg10.IsWhole) (arg11 : Memref sig .tc .vmem S16x512 .bf16) (harg11 : arg11.IsWhole) (arg12 : Memref sig .tc .vmem S256x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S256x512 .f32) (harg18 : arg18.IsWhole) (arg19 : Memref sig .tc .vmem S8x512 .f32) (harg19 : arg19.IsWhole) (arg20 : Memref sig .tc .vmem S8x512 .f32) (harg20 : arg20.IsWhole) (arg21 : Memref sig .tc .vmem S256x1024 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x3072 .bf16) (harg25 : arg25.IsWhole) (arg26 : Memref sig .tc .vmem S1x1024 .f32) (harg26 : arg26.IsWhole) (arg27 : Memref sig .tc .vmem S4x1024 .f32) (harg27 : arg27.IsWhole) (arg28 : Memref sig .tc .vmem S3x512 .f32) (harg28 : arg28.IsWhole) (arg29 : Memref sig .tc .vmem S7680x1024 .bf16) (harg29 : arg29.IsWhole) (arg30 : Memref sig .tc .vmem S256x1024 .f32) (harg30 : arg30.IsWhole) (arg31 : Memref sig .tc .vmem S256x7680 .bf16) (harg31 : arg31.IsWhole) (arg32 : Memref sig .tc .vmem S1x1024 .f32) (harg32 : arg32.IsWhole) (arg33 : Memref sig .tc .vmem S4x1024 .f32) (harg33 : arg33.IsWhole) (arg34 : Memref sig .tc .vmem S1x1024 .f32) (harg34 : arg34.IsWhole) (arg35 : Memref sig .tc .vmem S3x512 .f32) (harg35 : arg35.IsWhole) (hc0 : cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i) (hc11 : ¬cond0_11 i) (hc12 : cond0_12 i) (hc13 : ¬cond0_13 i) (hc14 : cond0_14 i) (hc15 : ¬cond0_15 i) (hc16 : cond0_16 i) (hc17 : ¬cond0_17 i)
    (x0 : Vec F S256x1024 .f32) (x1 : Vec F S256x1024 .f32) (x2 : Vec F S256x1024 .bf16) (x3 : Vec F S16x1024 .bf16) (x4 : Vec F S16x1024 .bf16) (x5 : Vec F S256x512 .bf16) (x6 : Vec F S16x512 .bf16) (x7 : Vec F S16x512 .bf16) (x8 : Vec F S256x512 .bf16) (x9 : Vec F S16x512 .bf16) (x10 : Vec F S16x512 .bf16) (x11 : Vec F S256x1024 .f32) (x12 : Vec F S8x1024 .f32) (x13 : Vec F S8x1024 .f32) (x14 : Vec F S256x1024 .f32) (x15 : Vec F S8x1024 .f32) (x16 : Vec F S8x1024 .f32) (x17 : Vec F S256x512 .f32) (x18 : Vec F S8x512 .f32) (x19 : Vec F S8x512 .f32) (x20 : Vec F S256x1024 .bf16) (x21 : Vec F S256x512 .bf16) (x22 : Vec F S256x512 .bf16) (x23 : Vec F S256x512 .bf16) (x24 : Vec F S256x3072 .bf16) (x25 : Vec F S1x1024 .f32) (x26 : Vec F S4x1024 .f32) (x27 : Vec F S3x512 .f32) (x28 : Vec F S7680x1024 .bf16) :
    Σ' (L29 : List (View.Piece (Elt F) S256x1024 .f32)), Σ' (L30 : List (View.Piece (Elt F) S256x7680 .bf16)), Σ' (L31 : List (View.Piece (Elt F) S1x1024 .f32)), Σ' (L32 : List (View.Piece (Elt F) S4x1024 .f32)), Σ' (L33 : List (View.Piece (Elt F) S1x1024 .f32)), { L34 : List (View.Piece (Elt F) S3x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34)) -∗ K ⟨⟩))
          ⊢ wp frame (wpE (defs₀ (F := F)) Variants.none c none) E (cc0_mix_in_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, fun E K => ?run⟩
  case run =>
    simp only [cc0_mix_in_bwd_eq_skeleton]; unfold cc0_mix_in_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.KernelIdeal.Gen

end
-- ==== Proof.MixInBwd.RunB.lean ====
/- The run of the projection's backward body at a later grid point, where the four accumulators are
   added to: the pieces each output buffer ends with, together with the proof that the body leaves them. -/

module

public import proofs.«01_k».proof.Proof.MixInBwd.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken, `scf.if` 1 taken, `scf.if` 2 not taken, `scf.if` 3 taken, `scf.if` 4 not taken, `scf.if` 5 taken, `scf.if` 6 not taken, `scf.if` 7 taken, `scf.if` 8 not taken, `scf.if` 9 taken, `scf.if` 10 not taken, `scf.if` 11 taken, `scf.if` 12 not taken, `scf.if` 13 taken, `scf.if` 14 not taken, `scf.if` 15 taken, `scf.if` 16 not taken, `scf.if` 17 taken: points 1, 2, … 63: 63 of 64), WITH the
    proof that on whole staging memrefs — the inputs' at their contents, the outputs it reads before covering (31, 32, 33, 34) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S256x512 .bf16) (harg6 : arg6.IsWhole) (arg7 : Memref sig .tc .vmem S16x512 .bf16) (harg7 : arg7.IsWhole) (arg8 : Memref sig .tc .vmem S16x512 .bf16) (harg8 : arg8.IsWhole) (arg9 : Memref sig .tc .vmem S256x512 .bf16) (harg9 : arg9.IsWhole) (arg10 : Memref sig .tc .vmem S16x512 .bf16) (harg10 : arg10.IsWhole) (arg11 : Memref sig .tc .vmem S16x512 .bf16) (harg11 : arg11.IsWhole) (arg12 : Memref sig .tc .vmem S256x1024 .f32) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S256x512 .f32) (harg18 : arg18.IsWhole) (arg19 : Memref sig .tc .vmem S8x512 .f32) (harg19 : arg19.IsWhole) (arg20 : Memref sig .tc .vmem S8x512 .f32) (harg20 : arg20.IsWhole) (arg21 : Memref sig .tc .vmem S256x1024 .bf16) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x3072 .bf16) (harg25 : arg25.IsWhole) (arg26 : Memref sig .tc .vmem S1x1024 .f32) (harg26 : arg26.IsWhole) (arg27 : Memref sig .tc .vmem S4x1024 .f32) (harg27 : arg27.IsWhole) (arg28 : Memref sig .tc .vmem S3x512 .f32) (harg28 : arg28.IsWhole) (arg29 : Memref sig .tc .vmem S7680x1024 .bf16) (harg29 : arg29.IsWhole) (arg30 : Memref sig .tc .vmem S256x1024 .f32) (harg30 : arg30.IsWhole) (arg31 : Memref sig .tc .vmem S256x7680 .bf16) (harg31 : arg31.IsWhole) (arg32 : Memref sig .tc .vmem S1x1024 .f32) (harg32 : arg32.IsWhole) (arg33 : Memref sig .tc .vmem S4x1024 .f32) (harg33 : arg33.IsWhole) (arg34 : Memref sig .tc .vmem S1x1024 .f32) (harg34 : arg34.IsWhole) (arg35 : Memref sig .tc .vmem S3x512 .f32) (harg35 : arg35.IsWhole) (hc0 : ¬cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i) (hc11 : cond0_11 i) (hc12 : ¬cond0_12 i) (hc13 : cond0_13 i) (hc14 : ¬cond0_14 i) (hc15 : cond0_15 i) (hc16 : ¬cond0_16 i) (hc17 : cond0_17 i)
    (x0 : Vec F S256x1024 .f32) (x1 : Vec F S256x1024 .f32) (x2 : Vec F S256x1024 .bf16) (x3 : Vec F S16x1024 .bf16) (x4 : Vec F S16x1024 .bf16) (x5 : Vec F S256x512 .bf16) (x6 : Vec F S16x512 .bf16) (x7 : Vec F S16x512 .bf16) (x8 : Vec F S256x512 .bf16) (x9 : Vec F S16x512 .bf16) (x10 : Vec F S16x512 .bf16) (x11 : Vec F S256x1024 .f32) (x12 : Vec F S8x1024 .f32) (x13 : Vec F S8x1024 .f32) (x14 : Vec F S256x1024 .f32) (x15 : Vec F S8x1024 .f32) (x16 : Vec F S8x1024 .f32) (x17 : Vec F S256x512 .f32) (x18 : Vec F S8x512 .f32) (x19 : Vec F S8x512 .f32) (x20 : Vec F S256x1024 .bf16) (x21 : Vec F S256x512 .bf16) (x22 : Vec F S256x512 .bf16) (x23 : Vec F S256x512 .bf16) (x24 : Vec F S256x3072 .bf16) (x25 : Vec F S1x1024 .f32) (x26 : Vec F S4x1024 .f32) (x27 : Vec F S3x512 .f32) (x28 : Vec F S7680x1024 .bf16) (xo31 : Vec F S1x1024 .f32) (xo32 : Vec F S4x1024 .f32) (xo33 : Vec F S1x1024 .f32) (xo34 : Vec F S3x512 .f32) :
    Σ' (L29 : List (View.Piece (Elt F) S256x1024 .f32)), Σ' (L30 : List (View.Piece (Elt F) S256x7680 .bf16)), Σ' (L31 : List (View.Piece (Elt F) S1x1024 .f32)), Σ' (L32 : List (View.Piece (Elt F) S4x1024 .f32)), Σ' (L33 : List (View.Piece (Elt F) S1x1024 .f32)), { L34 : List (View.Piece (Elt F) S3x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ d, owns (c : Thread nD τ) arg30 fullShare d) ∗ (∃ d, owns (c : Thread nD τ) arg31 fullShare d) ∗ owns (c : Thread nD τ) arg32 fullShare xo31 ∗ owns (c : Thread nD τ) arg33 fullShare xo32 ∗ owns (c : Thread nD τ) arg34 fullShare xo33 ∗ owns (c : Thread nD τ) arg35 fullShare xo34
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34)) -∗ K ⟨⟩))
          ⊢ wp frame (wpE (defs₀ (F := F)) Variants.none c none) E (cc0_mix_in_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) K } := by
  refine ⟨?_, ?_, ?_, ?_, ?_, ?_, fun E K => ?run⟩
  case run =>
    simp only [cc0_mix_in_bwd_eq_skeleton]; unfold cc0_mix_in_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%d29, %f29, -, H29⟩, ⟨%d30, %f30, -, H30⟩, ⟨%f31, %hf31, H31⟩, ⟨%f32, %hf32, H32⟩, ⟨%f33, %hf33, H33⟩, ⟨%f34, %hf34, H34⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg32.eq_unread hf31; obtain rfl := harg33.eq_unread hf32; obtain rfl := harg34.eq_unread hf33; obtain rfl := harg35.eq_unread hf34
    sl_exec (disch := first | sl_exact hc0 | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16 | sl_exact hc17)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.KernelIdeal.Gen

end
-- ==== Proof.MixInBwd.Points.lean ====
/- What the projection's backward body leaves at each grid point: the first point opens the four accumulators,
   every later point adds to what the point before left. -/
module

public import proofs.«01_k».proof.Proof.MixInBwd.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A later point is not a multiple of the number of points. -/
theorem later (t : Fin cfg0.N) (h : t.val ≠ 0) : ¬t.val % 64 = 0 := by
  have hN : t.val < 64 := lt_of_lt_of_eq t.isLt (show cfg0.N = 64 from N_0)
  omega

/-- The body's run at the first point, on that point's buffers and blocks. -/
def runA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) ((hcond0_0 t).mpr (by rw [h])) (fun q => absurd ((hcond0_1 t).mp q) (by rw [h]; decide)) ((hcond0_2 t).mpr (by rw [h])) (fun q => absurd ((hcond0_3 t).mp q) (by rw [h]; decide)) ((hcond0_4 t).mpr (by rw [h])) (fun q => absurd ((hcond0_5 t).mp q) (by rw [h]; decide)) ((hcond0_6 t).mpr (by rw [h])) (fun q => absurd ((hcond0_7 t).mp q) (by rw [h]; decide)) ((hcond0_8 t).mpr (by rw [h])) (fun q => absurd ((hcond0_9 t).mp q) (by rw [h]; decide)) ((hcond0_10 t).mpr (by rw [h])) (fun q => absurd ((hcond0_11 t).mp q) (by rw [h]; decide)) ((hcond0_12 t).mpr (by rw [h])) (fun q => absurd ((hcond0_13 t).mp q) (by rw [h]; decide)) ((hcond0_14 t).mpr (by rw [h])) (fun q => absurd ((hcond0_15 t).mp q) (by rw [h]; decide)) ((hcond0_16 t).mpr (by rw [h])) (fun q => absurd ((hcond0_17 t).mp q) (by rw [h]; decide)) (iblk m c 0 t) (iblk m c 1 t) (X0_2 m c t) (X0_3 m c t) (X0_4 m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-- The body's run at a later point, on its buffers and blocks, the accumulators holding `y31 … y34`. -/
def runB (c : Dev nD) (t : Fin cfg0.N) (h : t.val ≠ 0) (y31 : Vec F S1x1024 .f32) (y32 : Vec F S4x1024 .f32) (y33 : Vec F S1x1024 .f32) (y34 : Vec F S3x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h)) (iblk m c 0 t) (iblk m c 1 t) (X0_2 m c t) (X0_3 m c t) (X0_4 m c t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) y31 y32 y33 y34

/-- The pieces stored to output 29 at the first point cover it. -/
theorem coverA_29 (c : Dev nD) (t : Fin cfg0.N) (h : t.val = 0) (y : S256x1024.Idx) :
    ∃ pc ∈ (runA m c t h).1, y ∈ pc.1.set :=
  View.cover_of_tiledL (runA m c t h).1 S256x1024.size (by sl_kernel_rfl) y

/-- The pieces stored to output 30 at the first point cover it. -/
theorem coverA_30 (c : Dev nD) (t : Fin cfg0.N) (h : t.val = 0) (y : S256x7680.Idx) :
    ∃ pc ∈ (runA m c t h).2.1, y ∈ pc.1.set :=
  View.cover_of_tiledBy (runA m c t h).2.1 ![256, 512] (by sl_kernel_rfl) y

/-- The pieces stored to output 31 at the first point cover it. -/
theorem coverA_31 (c : Dev nD) (t : Fin cfg0.N) (h : t.val = 0) (y : S1x1024.Idx) :
    ∃ pc ∈ (runA m c t h).2.2.1, y ∈ pc.1.set :=
  View.cover_of_tiledL (runA m c t h).2.2.1 S1x1024.size (by sl_kernel_rfl) y

/-- The pieces stored to output 32 at the first point cover it. -/
theorem coverA_32 (c : Dev nD) (t : Fin cfg0.N) (h : t.val = 0) (y : S4x1024.Idx) :
    ∃ pc ∈ (runA m c t h).2.2.2.1, y ∈ pc.1.set :=
  View.cover_of_tiledL (runA m c t h).2.2.2.1 S1x1024.size (by sl_kernel_rfl) y

/-- The pieces stored to output 33 at the first point cover it. -/
theorem coverA_33 (c : Dev nD) (t : Fin cfg0.N) (h : t.val = 0) (y : S1x1024.Idx) :
    ∃ pc ∈ (runA m c t h).2.2.2.2.1, y ∈ pc.1.set :=
  View.cover_of_tiledL (runA m c t h).2.2.2.2.1 S1x1024.size (by sl_kernel_rfl) y

/-- The pieces stored to output 34 at the first point cover it. -/
theorem coverA_34 (c : Dev nD) (t : Fin cfg0.N) (h : t.val = 0) (y : S3x512.Idx) :
    ∃ pc ∈ (runA m c t h).2.2.2.2.2.1, y ∈ pc.1.set :=
  View.cover_of_tiledL (runA m c t h).2.2.2.2.2.1 S1x512.size (by sl_kernel_rfl) y

/-- What the first point leaves in the six outputs. -/
def outA (c : Dev nD) (t : Fin cfg0.N) (h : t.val = 0) : Vec F S256x1024 .f32 × Vec F S256x7680 .bf16 × Vec F S1x1024 .f32 × Vec F S4x1024 .f32 × Vec F S1x1024 .f32 × Vec F S3x512 .f32 :=
  (VO0_29.read (Elt F) (VO0_29.writes (Elt F) VO0_29.junk (runA m c t h).1),
   VO0_30.read (Elt F) (VO0_30.writes (Elt F) VO0_30.junk (runA m c t h).2.1),
   VO0_31.read (Elt F) (VO0_31.writes (Elt F) VO0_31.junk (runA m c t h).2.2.1),
   VO0_32.read (Elt F) (VO0_32.writes (Elt F) VO0_32.junk (runA m c t h).2.2.2.1),
   VO0_33.read (Elt F) (VO0_33.writes (Elt F) VO0_33.junk (runA m c t h).2.2.2.2.1),
   VO0_34.read (Elt F) (VO0_34.writes (Elt F) VO0_34.junk (runA m c t h).2.2.2.2.2.1))

/-- The pieces stored to output 29 at a later point cover it. -/
theorem coverB_29 (c : Dev nD) (t : Fin cfg0.N) (h : t.val ≠ 0) (y31 : Vec F S1x1024 .f32) (y32 : Vec F S4x1024 .f32) (y33 : Vec F S1x1024 .f32) (y34 : Vec F S3x512 .f32) (y : S256x1024.Idx) :
    ∃ pc ∈ (runB m c t h y31 y32 y33 y34).1, y ∈ pc.1.set :=
  View.cover_of_tiledL (runB m c t h y31 y32 y33 y34).1 S256x1024.size (by sl_kernel_rfl) y

/-- The pieces stored to output 30 at a later point cover it. -/
theorem coverB_30 (c : Dev nD) (t : Fin cfg0.N) (h : t.val ≠ 0) (y31 : Vec F S1x1024 .f32) (y32 : Vec F S4x1024 .f32) (y33 : Vec F S1x1024 .f32) (y34 : Vec F S3x512 .f32) (y : S256x7680.Idx) :
    ∃ pc ∈ (runB m c t h y31 y32 y33 y34).2.1, y ∈ pc.1.set :=
  View.cover_of_tiledBy (runB m c t h y31 y32 y33 y34).2.1 ![256, 512] (by sl_kernel_rfl) y

/-- The pieces stored to output 31 at a later point cover it. -/
theorem coverB_31 (c : Dev nD) (t : Fin cfg0.N) (h : t.val ≠ 0) (y31 : Vec F S1x1024 .f32) (y32 : Vec F S4x1024 .f32) (y33 : Vec F S1x1024 .f32) (y34 : Vec F S3x512 .f32) (y : S1x1024.Idx) :
    ∃ pc ∈ (runB m c t h y31 y32 y33 y34).2.2.1, y ∈ pc.1.set :=
  View.cover_of_tiledL (runB m c t h y31 y32 y33 y34).2.2.1 S1x1024.size (by sl_kernel_rfl) y

/-- The pieces stored to output 32 at a later point cover it. -/
theorem coverB_32 (c : Dev nD) (t : Fin cfg0.N) (h : t.val ≠ 0) (y31 : Vec F S1x1024 .f32) (y32 : Vec F S4x1024 .f32) (y33 : Vec F S1x1024 .f32) (y34 : Vec F S3x512 .f32) (y : S4x1024.Idx) :
    ∃ pc ∈ (runB m c t h y31 y32 y33 y34).2.2.2.1, y ∈ pc.1.set :=
  View.cover_of_tiledL (runB m c t h y31 y32 y33 y34).2.2.2.1 S1x1024.size (by sl_kernel_rfl) y

/-- The pieces stored to output 33 at a later point cover it. -/
theorem coverB_33 (c : Dev nD) (t : Fin cfg0.N) (h : t.val ≠ 0) (y31 : Vec F S1x1024 .f32) (y32 : Vec F S4x1024 .f32) (y33 : Vec F S1x1024 .f32) (y34 : Vec F S3x512 .f32) (y : S1x1024.Idx) :
    ∃ pc ∈ (runB m c t h y31 y32 y33 y34).2.2.2.2.1, y ∈ pc.1.set :=
  View.cover_of_tiledL (runB m c t h y31 y32 y33 y34).2.2.2.2.1 S1x1024.size (by sl_kernel_rfl) y

/-- The pieces stored to output 34 at a later point cover it. -/
theorem coverB_34 (c : Dev nD) (t : Fin cfg0.N) (h : t.val ≠ 0) (y31 : Vec F S1x1024 .f32) (y32 : Vec F S4x1024 .f32) (y33 : Vec F S1x1024 .f32) (y34 : Vec F S3x512 .f32) (y : S3x512.Idx) :
    ∃ pc ∈ (runB m c t h y31 y32 y33 y34).2.2.2.2.2.1, y ∈ pc.1.set :=
  View.cover_of_tiledL (runB m c t h y31 y32 y33 y34).2.2.2.2.2.1 S1x512.size (by sl_kernel_rfl) y

/-- What a later point leaves in the six outputs. -/
def outB (c : Dev nD) (t : Fin cfg0.N) (h : t.val ≠ 0) (y31 : Vec F S1x1024 .f32) (y32 : Vec F S4x1024 .f32) (y33 : Vec F S1x1024 .f32) (y34 : Vec F S3x512 .f32) : Vec F S256x1024 .f32 × Vec F S256x7680 .bf16 × Vec F S1x1024 .f32 × Vec F S4x1024 .f32 × Vec F S1x1024 .f32 × Vec F S3x512 .f32 :=
  (VO0_29.read (Elt F) (VO0_29.writes (Elt F) VO0_29.junk (runB m c t h y31 y32 y33 y34).1),
   VO0_30.read (Elt F) (VO0_30.writes (Elt F) VO0_30.junk (runB m c t h y31 y32 y33 y34).2.1),
   VO0_31.read (Elt F) (VO0_31.writes (Elt F) VO0_31.junk (runB m c t h y31 y32 y33 y34).2.2.1),
   VO0_32.read (Elt F) (VO0_32.writes (Elt F) VO0_32.junk (runB m c t h y31 y32 y33 y34).2.2.2.1),
   VO0_33.read (Elt F) (VO0_33.writes (Elt F) VO0_33.junk (runB m c t h y31 y32 y33 y34).2.2.2.2.1),
   VO0_34.read (Elt F) (VO0_34.writes (Elt F) VO0_34.junk (runB m c t h y31 y32 y33 y34).2.2.2.2.2.1))

/-- What the six outputs hold after each point: every later point starts from what the point before left. -/
def outsAt0 (c : Dev nD) : (n : ℕ) → n < cfg0.N → Vec F S256x1024 .f32 × Vec F S256x7680 .bf16 × Vec F S1x1024 .f32 × Vec F S4x1024 .f32 × Vec F S1x1024 .f32 × Vec F S3x512 .f32
  | 0, hn => outA m c ⟨0, hn⟩ rfl
  | n + 1, hn => outB m c ⟨n + 1, hn⟩ (Nat.succ_ne_zero n) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2

theorem outsAt0_A (c : Dev nD) (t : Fin cfg0.N) (h : t.val = 0) : outsAt0 m c t.val t.isLt = outA m c t h := by
  obtain ⟨n, hn⟩ := t
  cases n with
  | zero => rfl
  | succ n => exact absurd h (Nat.succ_ne_zero n)

/-- The point before. -/
abbrev prevOut (c : Dev nD) (t : Fin cfg0.N) : Vec F S256x1024 .f32 × Vec F S256x7680 .bf16 × Vec F S1x1024 .f32 × Vec F S4x1024 .f32 × Vec F S1x1024 .f32 × Vec F S3x512 .f32 := outsAt0 m c (t.val - 1) (Nat.lt_of_le_of_lt (Nat.sub_le _ _) t.isLt)

theorem outsAt0_B (c : Dev nD) (t : Fin cfg0.N) (h : t.val ≠ 0) :
    outsAt0 m c t.val t.isLt = outB m c t h (prevOut m c t).2.2.1 (prevOut m c t).2.2.2.1 (prevOut m c t).2.2.2.2.1 (prevOut m c t).2.2.2.2.2 := by
  obtain ⟨n, hn⟩ := t
  cases n with
  | zero => exact absurd rfl h
  | succ n => rfl

/-- The contents of every window's array at the start, and of its staging buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => (outsAt0 m c t.val t.isLt).1
    | ⟨30, _⟩ => (outsAt0 m c t.val t.isLt).2.1
    | ⟨31, _⟩ => (outsAt0 m c t.val t.isLt).2.2.1
    | ⟨32, _⟩ => (outsAt0 m c t.val t.isLt).2.2.2.1
    | ⟨33, _⟩ => (outsAt0 m c t.val t.isLt).2.2.2.2.1
    | ⟨34, _⟩ => (outsAt0 m c t.val t.isLt).2.2.2.2.2
    | ⟨_ + 35, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = (outsAt0 m c t.val t.isLt).1 := by dsimp only [dats]
theorem after0_30 (c : Dev nD) (t : Fin cfg0.N) : (dats m 0 c).after 30 t = (outsAt0 m c t.val t.isLt).2.1 := by dsimp only [dats]
theorem after0_31 (c : Dev nD) (t : Fin cfg0.N) : (dats m 0 c).after 31 t = (outsAt0 m c t.val t.isLt).2.2.1 := by dsimp only [dats]
theorem after0_32 (c : Dev nD) (t : Fin cfg0.N) : (dats m 0 c).after 32 t = (outsAt0 m c t.val t.isLt).2.2.2.1 := by dsimp only [dats]
theorem after0_33 (c : Dev nD) (t : Fin cfg0.N) : (dats m 0 c).after 33 t = (outsAt0 m c t.val t.isLt).2.2.2.2.1 := by dsimp only [dats]
theorem after0_34 (c : Dev nD) (t : Fin cfg0.N) : (dats m 0 c).after 34 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d

end Cert.KernelIdeal.Gen

end
-- ==== Proof.MixInBwd.Frame.lean ====
/- The body's triple at every grid point, the run of the whole program, and its frame. -/
module

public import proofs.«01_k».proof.Proof.MixInBwd.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Output 31 is stored to at every point. -/
theorem live31 (t : Fin cfg0.N) : cfg0.idle 31 (grid0.coords t) = false := by
  by_cases h : t.val = 0
  · exact liveAt0_31_A t ((hcond0_0 t).mpr (by rw [h])) (fun q => absurd ((hcond0_1 t).mp q) (by rw [h]; decide)) ((hcond0_2 t).mpr (by rw [h])) (fun q => absurd ((hcond0_3 t).mp q) (by rw [h]; decide)) ((hcond0_4 t).mpr (by rw [h])) (fun q => absurd ((hcond0_5 t).mp q) (by rw [h]; decide)) ((hcond0_6 t).mpr (by rw [h])) (fun q => absurd ((hcond0_7 t).mp q) (by rw [h]; decide)) ((hcond0_8 t).mpr (by rw [h])) (fun q => absurd ((hcond0_9 t).mp q) (by rw [h]; decide)) ((hcond0_10 t).mpr (by rw [h])) (fun q => absurd ((hcond0_11 t).mp q) (by rw [h]; decide)) ((hcond0_12 t).mpr (by rw [h])) (fun q => absurd ((hcond0_13 t).mp q) (by rw [h]; decide)) ((hcond0_14 t).mpr (by rw [h])) (fun q => absurd ((hcond0_15 t).mp q) (by rw [h]; decide)) ((hcond0_16 t).mpr (by rw [h])) (fun q => absurd ((hcond0_17 t).mp q) (by rw [h]; decide))
  · exact liveAt0_31_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))

theorem hcarry31 (c : Dev nD) : ∀ (t : Fin cfg0.N) (_ : t.val ≠ 0), cfg0.idle 31 (grid0.coords t) = true → cfg0.fresh 31 t.val = false →
    (dats m 0 c).after 31 t = (dats m 0 c).after 31 ⟨t.val - 1, by omega⟩ := by
  intro t _ hi _
  rw [live31 t] at hi
  exact absurd hi Bool.false_ne_true

/-- At a later point accumulator 31 holds what the point before left. -/
theorem before31_B (c : Dev nD) (t : Fin cfg0.N) (h : t.val ≠ 0) (d) :
    (dats m 0 c).before 31 t d = (prevOut m c t).2.2.1 := by
  rw [Dat.before_out_traj _ 31 rfl (fun _ _ => rfl) (hcarry31 m c) t.val t rfl d,
    if_neg (by rw [notFresh0_31_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))]; exact Bool.false_ne_true)]
  dsimp only [dats]

/-- Output 32 is stored to at every point. -/
theorem live32 (t : Fin cfg0.N) : cfg0.idle 32 (grid0.coords t) = false := by
  by_cases h : t.val = 0
  · exact liveAt0_32_A t ((hcond0_0 t).mpr (by rw [h])) (fun q => absurd ((hcond0_1 t).mp q) (by rw [h]; decide)) ((hcond0_2 t).mpr (by rw [h])) (fun q => absurd ((hcond0_3 t).mp q) (by rw [h]; decide)) ((hcond0_4 t).mpr (by rw [h])) (fun q => absurd ((hcond0_5 t).mp q) (by rw [h]; decide)) ((hcond0_6 t).mpr (by rw [h])) (fun q => absurd ((hcond0_7 t).mp q) (by rw [h]; decide)) ((hcond0_8 t).mpr (by rw [h])) (fun q => absurd ((hcond0_9 t).mp q) (by rw [h]; decide)) ((hcond0_10 t).mpr (by rw [h])) (fun q => absurd ((hcond0_11 t).mp q) (by rw [h]; decide)) ((hcond0_12 t).mpr (by rw [h])) (fun q => absurd ((hcond0_13 t).mp q) (by rw [h]; decide)) ((hcond0_14 t).mpr (by rw [h])) (fun q => absurd ((hcond0_15 t).mp q) (by rw [h]; decide)) ((hcond0_16 t).mpr (by rw [h])) (fun q => absurd ((hcond0_17 t).mp q) (by rw [h]; decide))
  · exact liveAt0_32_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))

theorem hcarry32 (c : Dev nD) : ∀ (t : Fin cfg0.N) (_ : t.val ≠ 0), cfg0.idle 32 (grid0.coords t) = true → cfg0.fresh 32 t.val = false →
    (dats m 0 c).after 32 t = (dats m 0 c).after 32 ⟨t.val - 1, by omega⟩ := by
  intro t _ hi _
  rw [live32 t] at hi
  exact absurd hi Bool.false_ne_true

/-- At a later point accumulator 32 holds what the point before left. -/
theorem before32_B (c : Dev nD) (t : Fin cfg0.N) (h : t.val ≠ 0) (d) :
    (dats m 0 c).before 32 t d = (prevOut m c t).2.2.2.1 := by
  rw [Dat.before_out_traj _ 32 rfl (fun _ _ => rfl) (hcarry32 m c) t.val t rfl d,
    if_neg (by rw [notFresh0_32_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))]; exact Bool.false_ne_true)]
  dsimp only [dats]

/-- Output 33 is stored to at every point. -/
theorem live33 (t : Fin cfg0.N) : cfg0.idle 33 (grid0.coords t) = false := by
  by_cases h : t.val = 0
  · exact liveAt0_33_A t ((hcond0_0 t).mpr (by rw [h])) (fun q => absurd ((hcond0_1 t).mp q) (by rw [h]; decide)) ((hcond0_2 t).mpr (by rw [h])) (fun q => absurd ((hcond0_3 t).mp q) (by rw [h]; decide)) ((hcond0_4 t).mpr (by rw [h])) (fun q => absurd ((hcond0_5 t).mp q) (by rw [h]; decide)) ((hcond0_6 t).mpr (by rw [h])) (fun q => absurd ((hcond0_7 t).mp q) (by rw [h]; decide)) ((hcond0_8 t).mpr (by rw [h])) (fun q => absurd ((hcond0_9 t).mp q) (by rw [h]; decide)) ((hcond0_10 t).mpr (by rw [h])) (fun q => absurd ((hcond0_11 t).mp q) (by rw [h]; decide)) ((hcond0_12 t).mpr (by rw [h])) (fun q => absurd ((hcond0_13 t).mp q) (by rw [h]; decide)) ((hcond0_14 t).mpr (by rw [h])) (fun q => absurd ((hcond0_15 t).mp q) (by rw [h]; decide)) ((hcond0_16 t).mpr (by rw [h])) (fun q => absurd ((hcond0_17 t).mp q) (by rw [h]; decide))
  · exact liveAt0_33_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))

theorem hcarry33 (c : Dev nD) : ∀ (t : Fin cfg0.N) (_ : t.val ≠ 0), cfg0.idle 33 (grid0.coords t) = true → cfg0.fresh 33 t.val = false →
    (dats m 0 c).after 33 t = (dats m 0 c).after 33 ⟨t.val - 1, by omega⟩ := by
  intro t _ hi _
  rw [live33 t] at hi
  exact absurd hi Bool.false_ne_true

/-- At a later point accumulator 33 holds what the point before left. -/
theorem before33_B (c : Dev nD) (t : Fin cfg0.N) (h : t.val ≠ 0) (d) :
    (dats m 0 c).before 33 t d = (prevOut m c t).2.2.2.2.1 := by
  rw [Dat.before_out_traj _ 33 rfl (fun _ _ => rfl) (hcarry33 m c) t.val t rfl d,
    if_neg (by rw [notFresh0_33_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))]; exact Bool.false_ne_true)]
  dsimp only [dats]

/-- Output 34 is stored to at every point. -/
theorem live34 (t : Fin cfg0.N) : cfg0.idle 34 (grid0.coords t) = false := by
  by_cases h : t.val = 0
  · exact liveAt0_34_A t ((hcond0_0 t).mpr (by rw [h])) (fun q => absurd ((hcond0_1 t).mp q) (by rw [h]; decide)) ((hcond0_2 t).mpr (by rw [h])) (fun q => absurd ((hcond0_3 t).mp q) (by rw [h]; decide)) ((hcond0_4 t).mpr (by rw [h])) (fun q => absurd ((hcond0_5 t).mp q) (by rw [h]; decide)) ((hcond0_6 t).mpr (by rw [h])) (fun q => absurd ((hcond0_7 t).mp q) (by rw [h]; decide)) ((hcond0_8 t).mpr (by rw [h])) (fun q => absurd ((hcond0_9 t).mp q) (by rw [h]; decide)) ((hcond0_10 t).mpr (by rw [h])) (fun q => absurd ((hcond0_11 t).mp q) (by rw [h]; decide)) ((hcond0_12 t).mpr (by rw [h])) (fun q => absurd ((hcond0_13 t).mp q) (by rw [h]; decide)) ((hcond0_14 t).mpr (by rw [h])) (fun q => absurd ((hcond0_15 t).mp q) (by rw [h]; decide)) ((hcond0_16 t).mpr (by rw [h])) (fun q => absurd ((hcond0_17 t).mp q) (by rw [h]; decide))
  · exact liveAt0_34_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))

theorem hcarry34 (c : Dev nD) : ∀ (t : Fin cfg0.N) (_ : t.val ≠ 0), cfg0.idle 34 (grid0.coords t) = true → cfg0.fresh 34 t.val = false →
    (dats m 0 c).after 34 t = (dats m 0 c).after 34 ⟨t.val - 1, by omega⟩ := by
  intro t _ hi _
  rw [live34 t] at hi
  exact absurd hi Bool.false_ne_true

/-- At a later point accumulator 34 holds what the point before left. -/
theorem before34_B (c : Dev nD) (t : Fin cfg0.N) (h : t.val ≠ 0) (d) :
    (dats m 0 c).before 34 t d = (prevOut m c t).2.2.2.2.2 := by
  rw [Dat.before_out_traj _ 34 rfl (fun _ _ => rfl) (hcarry34 m c) t.val t rfl d,
    if_neg (by rw [notFresh0_34_B t (fun q => later t h ((hcond0_0 t).mp q)) ((hcond0_1 t).mpr (Nat.pos_of_ne_zero h)) (fun q => later t h ((hcond0_2 t).mp q)) ((hcond0_3 t).mpr (Nat.pos_of_ne_zero h)) (fun q => later t h ((hcond0_4 t).mp q)) ((hcond0_5 t).mpr (Nat.pos_of_ne_zero h)) (fun q => later t h ((hcond0_6 t).mp q)) ((hcond0_7 t).mpr (Nat.pos_of_ne_zero h)) (fun q => later t h ((hcond0_8 t).mp q)) ((hcond0_9 t).mpr (Nat.pos_of_ne_zero h)) (fun q => later t h ((hcond0_10 t).mp q)) ((hcond0_11 t).mpr (Nat.pos_of_ne_zero h)) (fun q => later t h ((hcond0_12 t).mp q)) ((hcond0_13 t).mpr (Nat.pos_of_ne_zero h)) (fun q => later t h ((hcond0_14 t).mp q)) ((hcond0_15 t).mpr (Nat.pos_of_ne_zero h)) (fun q => later t h ((hcond0_16 t).mp q)) ((hcond0_17 t).mpr (Nat.pos_of_ne_zero h))]; exact Bool.false_ne_true)]
  dsimp only [dats]

/-- The buffers before the body at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

/-- The buffers after it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t)
theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (X0_2 m c t) := by
  unfold Dat.leavesExact; rw [liveAt0_2 t, after0_2]
theorem leaves3 (c : Dev nD) (t : Fin cfg0.N) : (dats m 0 c).leavesExact 3 t = owns (c : Thread nD τ) (ms0_3 t) fullShare (X0_3 m c t) := by
  unfold Dat.leavesExact; rw [liveAt0_3 t, after0_3]
theorem leaves4 (c : Dev nD) (t : Fin cfg0.N) : (dats m 0 c).leavesExact 4 t = owns (c : Thread nD τ) (ms0_4 t) fullShare (X0_4 m c t) := by
  unfold Dat.leavesExact; rw [liveAt0_4 t, after0_4]
theorem leaves5 (c : Dev nD) (t : Fin cfg0.N) : (dats m 0 c).leavesExact 5 t = owns (c : Thread nD τ) (ms0_5 t) fullShare (iblk m c 5 t) := by
  unfold Dat.leavesExact; rw [liveAt0_5 t, after0_5]
theorem leaves6 (c : Dev nD) (t : Fin cfg0.N) : (dats m 0 c).leavesExact 6 t = owns (c : Thread nD τ) (ms0_6 t) fullShare (iblk m c 6 t) := by
  unfold Dat.leavesExact; rw [liveAt0_6 t, after0_6]
theorem leaves7 (c : Dev nD) (t : Fin cfg0.N) : (dats m 0 c).leavesExact 7 t = owns (c : Thread nD τ) (ms0_7 t) fullShare (iblk m c 7 t) := by
  unfold Dat.leavesExact; rw [liveAt0_7 t, after0_7]
theorem leaves8 (c : Dev nD) (t : Fin cfg0.N) : (dats m 0 c).leavesExact 8 t = owns (c : Thread nD τ) (ms0_8 t) fullShare (iblk m c 8 t) := by
  unfold Dat.leavesExact; rw [liveAt0_8 t, after0_8]
theorem leaves9 (c : Dev nD) (t : Fin cfg0.N) : (dats m 0 c).leavesExact 9 t = owns (c : Thread nD τ) (ms0_9 t) fullShare (iblk m c 9 t) := by
  unfold Dat.leavesExact; rw [liveAt0_9 t, after0_9]
theorem leaves10 (c : Dev nD) (t : Fin cfg0.N) : (dats m 0 c).leavesExact 10 t = owns (c : Thread nD τ) (ms0_10 t) fullShare (iblk m c 10 t) := by
  unfold Dat.leavesExact; rw [liveAt0_10 t, after0_10]
theorem leaves11 (c : Dev nD) (t : Fin cfg0.N) : (dats m 0 c).leavesExact 11 t = owns (c : Thread nD τ) (ms0_11 t) fullShare (iblk m c 11 t) := by
  unfold Dat.leavesExact; rw [liveAt0_11 t, after0_11]
theorem leaves12 (c : Dev nD) (t : Fin cfg0.N) : (dats m 0 c).leavesExact 12 t = owns (c : Thread nD τ) (ms0_12 t) fullShare (iblk m c 12 t) := by
  unfold Dat.leavesExact; rw [liveAt0_12 t, after0_12]
theorem leaves13 (c : Dev nD) (t : Fin cfg0.N) : (dats m 0 c).leavesExact 13 t = owns (c : Thread nD τ) (ms0_13 t) fullShare (iblk m c 13 t) := by
  unfold Dat.leavesExact; rw [liveAt0_13 t, after0_13]
theorem leaves14 (c : Dev nD) (t : Fin cfg0.N) : (dats m 0 c).leavesExact 14 t = owns (c : Thread nD τ) (ms0_14 t) fullShare (iblk m c 14 t) := by
  unfold Dat.leavesExact; rw [liveAt0_14 t, after0_14]
theorem leaves15 (c : Dev nD) (t : Fin cfg0.N) : (dats m 0 c).leavesExact 15 t = owns (c : Thread nD τ) (ms0_15 t) fullShare (iblk m c 15 t) := by
  unfold Dat.leavesExact; rw [liveAt0_15 t, after0_15]
theorem leaves16 (c : Dev nD) (t : Fin cfg0.N) : (dats m 0 c).leavesExact 16 t = owns (c : Thread nD τ) (ms0_16 t) fullShare (iblk m c 16 t) := by
  unfold Dat.leavesExact; rw [liveAt0_16 t, after0_16]
theorem leaves17 (c : Dev nD) (t : Fin cfg0.N) : (dats m 0 c).leavesExact 17 t = owns (c : Thread nD τ) (ms0_17 t) fullShare (iblk m c 17 t) := by
  unfold Dat.leavesExact; rw [liveAt0_17 t, after0_17]
theorem leaves18 (c : Dev nD) (t : Fin cfg0.N) : (dats m 0 c).leavesExact 18 t = owns (c : Thread nD τ) (ms0_18 t) fullShare (iblk m c 18 t) := by
  unfold Dat.leavesExact; rw [liveAt0_18 t, after0_18]
theorem leaves19 (c : Dev nD) (t : Fin cfg0.N) : (dats m 0 c).leavesExact 19 t = owns (c : Thread nD τ) (ms0_19 t) fullShare (iblk m c 19 t) := by
  unfold Dat.leavesExact; rw [liveAt0_19 t, after0_19]
theorem leaves20 (c : Dev nD) (t : Fin cfg0.N) : (dats m 0 c).leavesExact 20 t = owns (c : Thread nD τ) (ms0_20 t) fullShare (iblk m c 20 t) := by
  unfold Dat.leavesExact; rw [liveAt0_20 t, after0_20]
theorem leaves21 (c : Dev nD) (t : Fin cfg0.N) : (dats m 0 c).leavesExact 21 t = owns (c : Thread nD τ) (ms0_21 t) fullShare (iblk m c 21 t) := by
  unfold Dat.leavesExact; rw [liveAt0_21 t, after0_21]
theorem leaves22 (c : Dev nD) (t : Fin cfg0.N) : (dats m 0 c).leavesExact 22 t = owns (c : Thread nD τ) (ms0_22 t) fullShare (iblk m c 22 t) := by
  unfold Dat.leavesExact; rw [liveAt0_22 t, after0_22]
theorem leaves23 (c : Dev nD) (t : Fin cfg0.N) : (dats m 0 c).leavesExact 23 t = owns (c : Thread nD τ) (ms0_23 t) fullShare (iblk m c 23 t) := by
  unfold Dat.leavesExact; rw [liveAt0_23 t, after0_23]
theorem leaves24 (c : Dev nD) (t : Fin cfg0.N) : (dats m 0 c).leavesExact 24 t = owns (c : Thread nD τ) (ms0_24 t) fullShare (iblk m c 24 t) := by
  unfold Dat.leavesExact; rw [liveAt0_24 t, after0_24]
theorem leaves25 (c : Dev nD) (t : Fin cfg0.N) : (dats m 0 c).leavesExact 25 t = owns (c : Thread nD τ) (ms0_25 t) fullShare (iblk m c 25 t) := by
  unfold Dat.leavesExact; rw [liveAt0_25 t, after0_25]
theorem leaves26 (c : Dev nD) (t : Fin cfg0.N) : (dats m 0 c).leavesExact 26 t = owns (c : Thread nD τ) (ms0_26 t) fullShare (iblk m c 26 t) := by
  unfold Dat.leavesExact; rw [liveAt0_26 t, after0_26]
theorem leaves27 (c : Dev nD) (t : Fin cfg0.N) : (dats m 0 c).leavesExact 27 t = owns (c : Thread nD τ) (ms0_27 t) fullShare (iblk m c 27 t) := by
  unfold Dat.leavesExact; rw [liveAt0_27 t, after0_27]
theorem leaves28 (c : Dev nD) (t : Fin cfg0.N) : (dats m 0 c).leavesExact 28 t = owns (c : Thread nD τ) (ms0_28 t) fullShare (iblk m c 28 t) := by
  unfold Dat.leavesExact; rw [liveAt0_28 t, after0_28]
theorem leaves29 (c : Dev nD) (t : Fin cfg0.N) : (dats m 0 c).leavesExact 29 t = owns (c : Thread nD τ) (ms0_29 t) fullShare ((outsAt0 m c t.val t.isLt).1) := by
  unfold Dat.leavesExact; rw [liveAt0_29 t, after0_29]
theorem leaves30 (c : Dev nD) (t : Fin cfg0.N) : (dats m 0 c).leavesExact 30 t = owns (c : Thread nD τ) (ms0_30 t) fullShare ((outsAt0 m c t.val t.isLt).2.1) := by
  unfold Dat.leavesExact; rw [liveAt0_30 t, after0_30]
theorem leaves31 (c : Dev nD) (t : Fin cfg0.N) : (dats m 0 c).leavesExact 31 t = owns (c : Thread nD τ) (ms0_31 t) fullShare ((outsAt0 m c t.val t.isLt).2.2.1) := by
  unfold Dat.leavesExact; rw [live31 t, after0_31]
theorem leaves32 (c : Dev nD) (t : Fin cfg0.N) : (dats m 0 c).leavesExact 32 t = owns (c : Thread nD τ) (ms0_32 t) fullShare ((outsAt0 m c t.val t.isLt).2.2.2.1) := by
  unfold Dat.leavesExact; rw [live32 t, after0_32]
theorem leaves33 (c : Dev nD) (t : Fin cfg0.N) : (dats m 0 c).leavesExact 33 t = owns (c : Thread nD τ) (ms0_33 t) fullShare ((outsAt0 m c t.val t.isLt).2.2.2.2.1) := by
  unfold Dat.leavesExact; rw [live33 t, after0_33]
theorem leaves34 (c : Dev nD) (t : Fin cfg0.N) : (dats m 0 c).leavesExact 34 t = owns (c : Thread nD τ) (ms0_34 t) fullShare ((outsAt0 m c t.val t.isLt).2.2.2.2.2) := by
  unfold Dat.leavesExact; rw [live34 t, after0_34]

set_option maxHeartbeats 6400000 in
/-- The body at the first point takes the buffers from before to after. -/
theorem soundA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, leaves0, leaves1, leaves2, leaves3, leaves4, leaves5, leaves6, leaves7, leaves8, leaves9, leaves10, leaves11, leaves12, leaves13, leaves14, leaves15, leaves16, leaves17, leaves18, leaves19, leaves20, leaves21, leaves22, leaves23, leaves24, leaves25, leaves26, leaves27, leaves28, leaves29, leaves30, leaves31, leaves32, leaves33, leaves34]
  rw [show (dats m 0 c).Φ t.succ = (dats m 0 c).Φ t.castSucc from rfl,
    show (dats m 0 c).owesAt () t.succ = (dats m 0 c).owesAt () t.castSucc from rfl]
  rw [outsAt0_A m c t h]
  unfold outA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply ((runA m c t h).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]
  · unfold owns; iexists _; isplitr
    swap; · iexact H29
    ipureintro; exact View.read_writes_of_cover _ _ _ _ _ (coverA_29 m c t h)
  isplitl [H30]
  · unfold owns; iexists _; isplitr
    swap; · iexact H30
    ipureintro; exact View.read_writes_of_cover _ _ _ _ _ (coverA_30 m c t h)
  isplitl [H31]
  · unfold owns; iexists _; isplitr
    swap; · iexact H31
    ipureintro; exact View.read_writes_of_cover _ _ _ _ _ (coverA_31 m c t h)
  isplitl [H32]
  · unfold owns; iexists _; isplitr
    swap; · iexact H32
    ipureintro; exact View.read_writes_of_cover _ _ _ _ _ (coverA_32 m c t h)
  isplitl [H33]
  · unfold owns; iexists _; isplitr
    swap; · iexact H33
    ipureintro; exact View.read_writes_of_cover _ _ _ _ _ (coverA_33 m c t h)
  unfold owns; iexists _; isplitr
  swap; · iexact H34
  ipureintro; exact View.read_writes_of_cover _ _ _ _ _ (coverA_34 m c t h)

set_option maxHeartbeats 6400000 in
/-- The body at a later point takes the buffers from before to after. -/
theorem soundB (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, leaves0, leaves1, leaves2, leaves3, leaves4, leaves5, leaves6, leaves7, leaves8, leaves9, leaves10, leaves11, leaves12, leaves13, leaves14, leaves15, leaves16, leaves17, leaves18, leaves19, leaves20, leaves21, leaves22, leaves23, leaves24, leaves25, leaves26, leaves27, leaves28, leaves29, leaves30, leaves31, leaves32, leaves33, leaves34]
  rw [show (dats m 0 c).Φ t.succ = (dats m 0 c).Φ t.castSucc from rfl,
    show (dats m 0 c).owesAt () t.succ = (dats m 0 c).owesAt () t.castSucc from rfl]
  rw [outsAt0_B m c t h]
  simp only [before31_B m c t h, before32_B m c t h, before33_B m c t h, before34_B m c t h]
  unfold outB; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply ((runB m c t h _ _ _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [H30]; · iexists _; iexact H30
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H20, H21, H22, H23, H24, H25, H26, H27, H28, ⟨%e29, H29⟩, ⟨%e30, H30⟩, ⟨%e31, H31⟩, ⟨%e32, H32⟩, ⟨%e33, H33⟩, ⟨%e34, H34⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]
  · unfold owns; iexists _; isplitr
    swap; · iexact H29
    ipureintro; exact View.read_writes_of_cover _ _ _ _ _ (coverB_29 m c t h _ _ _ _)
  isplitl [H30]
  · unfold owns; iexists _; isplitr
    swap; · iexact H30
    ipureintro; exact View.read_writes_of_cover _ _ _ _ _ (coverB_30 m c t h _ _ _ _)
  isplitl [H31]
  · unfold owns; iexists _; isplitr
    swap; · iexact H31
    ipureintro; exact View.read_writes_of_cover _ _ _ _ _ (coverB_31 m c t h _ _ _ _)
  isplitl [H32]
  · unfold owns; iexists _; isplitr
    swap; · iexact H32
    ipureintro; exact View.read_writes_of_cover _ _ _ _ _ (coverB_32 m c t h _ _ _ _)
  isplitl [H33]
  · unfold owns; iexists _; isplitr
    swap; · iexact H33
    ipureintro; exact View.read_writes_of_cover _ _ _ _ _ (coverB_33 m c t h _ _ _ _)
  unfold owns; iexists _; isplitr
  swap; · iexact H34
  ipureintro; exact View.read_writes_of_cover _ _ _ _ _ (coverB_34 m c t h _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact soundA m c t h
  · exact soundB m c t h

theorem defs₀_row (t : Fin cfg0.N) :
    defs₀ (F := F) .tc cfg0.body (cfg0.bodyArgs t (cfg0.slots t)) = bodyAt0 t := by
  unfold defs₀; rw [Defs.onTc_tc]

set_option maxHeartbeats 6400000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arrays at what the points wrote. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- Every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Gen

end
-- ==== Proof.RmsRow.lean ====
/-
  ONE ROW OF THE RMS NORMALISATION AND OF ITS BACKWARD PASS, over the extended reals.

  A row `x` of 1024 numbers has the mean square `Σ xₖ² / 1024`, and `rs x = 1 / √(mean square + ε)`. The mean square is at
  least zero, so `rs x` is a nonnegative real whatever the row holds (`rs_real`): it is zero where the row has an infinity.
  Multiplying by a nonnegative real distributes over every sum of extended reals, infinities included, and that is all
  which the equality of the two forms of the backward pass needs (`rms_bwd`):

    the kernel's       y + rs · (aⱼ − (xⱼ rs) · (Σ aₖ (xₖ rs)) / 1024)
    differentiation's  ((y + aⱼ rs) + xⱼ C) + C xⱼ      with C = (Σ xₖ aₖ) · (−½ · rs / (mean square + ε)) / 1024.
-/
module

public import Idealize.ShloMosaic.Lib.Pointwise

@[expose] public section

noncomputable section

namespace Cert.Rms

open Idealize.ShloMosaic

/-- The row length 1024, as the programs' constant. -/
abbrev len : EReal := Ideal.ofBits .f32 0x44800000#32
/-- The normalisation's `ε`, as the programs' constant. -/
abbrev eps : EReal := Ideal.ofBits .f32 0x358637BD#32
/-- Minus one half, as the reference's constant. -/
abbrev negHalf : EReal := Ideal.ofBits .f32 0xBF000000#32

theorem len_eq : len = ((1024 : ℝ) : EReal) := by
  simp [Ideal.ofBits, Ideal.ieee]; rw [← EReal.coe_mul]; norm_num

theorem eps_eq : eps = (((8796093 : ℝ) * 2 ^ (-43 : ℤ) : ℝ) : EReal) := by
  simp [Ideal.ofBits, Ideal.ieee]

theorem negHalf_eq : negHalf = ((-(1 / 2) : ℝ) : EReal) := by
  simp [Ideal.ofBits, Ideal.ieee]; rw [← EReal.coe_mul]; norm_num

/-- Mean square plus `ε` of a row. -/
def den (x : Fin 1024 → EReal) : EReal := Ideal.div (∑ k, x k * x k) len + eps
/-- The factor `1 / √(mean square + ε)` of a row. -/
def rs (x : Fin 1024 → EReal) : EReal := Ideal.rsqrt (den x)

theorem div_real (a : EReal) {r : ℝ} (hr : r ≠ 0) : Ideal.div a (r : EReal) = a * ((r⁻¹ : ℝ) : EReal) := by
  unfold Ideal.div
  rw [if_neg (by exact_mod_cast hr), EReal.coe_inv]

theorem div_len (a : EReal) : Ideal.div a len = a * (((1 / 1024 : ℝ)) : EReal) := by
  rw [len_eq, div_real a (by norm_num)]; norm_num

theorem mul_self_nonneg' (a : EReal) : 0 ≤ a * a := by
  rcases le_total 0 a with h | h
  · exact mul_nonneg h h
  · have := EReal.neg_nonneg.mpr h
    have h2 := mul_nonneg this this
    simpa using h2

theorem den_pos (x : Fin 1024 → EReal) : 0 < den x := by
  unfold den
  rw [div_len]
  have h1 : 0 ≤ ∑ k, x k * x k := Finset.sum_nonneg fun k _ => mul_self_nonneg' _
  have h2 : 0 ≤ (∑ k, x k * x k) * (((1 / 1024 : ℝ)) : EReal) := mul_nonneg h1 (by exact_mod_cast (by norm_num : (0 : ℝ) ≤ 1 / 1024))
  have h3 : (0 : EReal) < eps := by rw [eps_eq]; exact_mod_cast (by positivity : (0 : ℝ) < 8796093 * 2 ^ (-43 : ℤ))
  calc (0 : EReal) < eps := h3
    _ = 0 + eps := (zero_add _).symm
    _ ≤ _ := add_le_add_left h2 _

/-- `rs` is a nonnegative real, and `rs³ = rs / (mean square + ε)`. -/
theorem rs_real (x : Fin 1024 → EReal) :
    ∃ r : ℝ, 0 ≤ r ∧ rs x = (r : EReal) ∧ Ideal.div (rs x) (den x) = ((r * r * r : ℝ) : EReal) := by
  have h := den_pos x
  unfold rs
  generalize den x = d at h
  induction d using EReal.rec with
  | bot => exact absurd h (by simp)
  | top => exact ⟨0, le_rfl, by simp, by simp [Ideal.div]⟩
  | coe e =>
    have he : 0 < e := by exact_mod_cast h
    have hs : 0 < Real.sqrt e := Real.sqrt_pos.mpr he
    refine ⟨(Real.sqrt e)⁻¹, by positivity, ?_, ?_⟩
    · rw [Ideal.rsqrt_coe, if_neg (not_lt.mpr he.le), if_neg he.ne']
    · rw [Ideal.rsqrt_coe, if_neg (not_lt.mpr he.le), if_neg he.ne', div_real _ he.ne', ← EReal.coe_mul]
      congr 1
      have := Real.mul_self_sqrt he.le
      field_simp
      nlinarith [this]

/-- A nonnegative real factor goes inside a sum. -/
theorem sum_mul_real {n : ℕ} (f : Fin n → EReal) {r : ℝ} (hr : 0 ≤ r) :
    (∑ k, f k) * (r : EReal) = ∑ k, f k * (r : EReal) := by
  classical
  induction (Finset.univ : Finset (Fin n)) using Finset.induction_on with
  | empty => simp
  | insert a s ha ih =>
    rw [Finset.sum_insert ha, Finset.sum_insert ha, ← ih,
      EReal.right_distrib_of_nonneg_of_ne_top (by exact_mod_cast hr) (EReal.coe_ne_top _)]

theorem add_self_neg (t : EReal) {s : ℝ} (hs : 0 ≤ s) :
    t * ((-s : ℝ) : EReal) + t * ((-s : ℝ) : EReal) = -(t * ((2 * s : ℝ) : EReal)) := by
  induction t using EReal.rec with
  | coe t => rw [← EReal.coe_mul, ← EReal.coe_mul, ← EReal.coe_add, ← EReal.coe_neg]; congr 1; ring
  | bot =>
    rcases hs.eq_or_lt with rfl | h
    · simp
    · rw [EReal.bot_mul_coe_of_neg (by linarith), EReal.bot_mul_coe_of_pos (by linarith)]; rfl
  | top =>
    rcases hs.eq_or_lt with rfl | h
    · simp
    · rw [EReal.top_mul_coe_of_neg (by linarith), EReal.top_mul_coe_of_pos (by linarith)]; rfl

/-- The factor of the two terms in which differentiation reaches `x` through the mean square. -/
def coef (x a : Fin 1024 → EReal) : EReal :=
  Ideal.div ((∑ k, x k * a k) * (negHalf * Ideal.div (rs x) (den x))) len

/-- The kernel's backward pass of the normalisation at entry `j`, for the gradient `a` of the normalised row. -/
def bwd (x a : Fin 1024 → EReal) (j : Fin 1024) : EReal :=
  rs x * (a j - (x j * rs x) * Ideal.div (∑ k, a k * (x k * rs x)) len)

/-- The two forms of the backward pass are equal. -/
theorem rms_bwd (y : EReal) (x a : Fin 1024 → EReal) (j : Fin 1024) :
    y + bwd x a j = ((y + a j * rs x) + x j * coef x a) + coef x a * x j := by
  unfold bwd coef
  obtain ⟨r, hr, h1, h2⟩ := rs_real x
  rw [h2, h1, negHalf_eq, div_len, div_len]
  have hs : ∑ k, a k * (x k * (r : EReal)) = (∑ k, x k * a k) * (r : EReal) := by
    rw [sum_mul_real _ hr]
    exact Finset.sum_congr rfl fun k _ => by rw [← mul_assoc, mul_comm (a k)]
  rw [hs]
  generalize (∑ k, x k * a k) = T
  rw [sub_eq_add_neg, EReal.left_distrib_of_nonneg_of_ne_top (by exact_mod_cast hr) (EReal.coe_ne_top _)]
  have e1 : T * (((-(1 / 2) : ℝ) : EReal) * ((r * r * r : ℝ) : EReal)) * ((1 / 1024 : ℝ) : EReal)
      = T * ((-(r * r * r / 2048) : ℝ) : EReal) := by
    rw [mul_assoc, ← EReal.coe_mul, ← EReal.coe_mul]; congr 2; ring
  have e2 : (r : EReal) * -(x j * (r : EReal) * (T * (r : EReal) * ((1 / 1024 : ℝ) : EReal)))
      = -((x j * T) * ((2 * (r * r * r / 2048) : ℝ) : EReal)) := by
    rw [mul_neg]
    congr 1
    have : ((2 * (r * r * r / 2048) : ℝ) : EReal) = (r : EReal) * r * r * ((1 / 1024 : ℝ) : EReal) := by
      rw [← EReal.coe_mul, ← EReal.coe_mul, ← EReal.coe_mul]; congr 1; ring
    rw [this]
    ac_rfl
  rw [e1, e2, ← add_self_neg (x j * T) (by positivity)]
  rw [mul_comm (r : EReal) (a j), mul_assoc (x j) T, mul_comm (T * ((-(r * r * r / 2048) : ℝ) : EReal)) (x j)]
  rw [← mul_assoc (x j) T]
  generalize x j * T * ((-(r * r * r / 2048) : ℝ) : EReal) = p
  rw [add_assoc, add_assoc]

end Cert.Rms
-- ==== Proof.MixInBwd.Formula.lean ====
/-
  THE GRADIENT OF THE SHORT CONVOLUTIONS, OF THE INPUT PROJECTION AND OF THE NORM BEFORE IT, as formulas in the call's
  arguments.

  A column of an array is a function of a whole number, zero outside the array's 16384 rows (`zp`), so that the rows before
  the first one and after the last one, which the convolutions reach, count as zeros.
-/
module

public import proofs.«01_k».proof.Proof.RmsRow
public import proofs.«01_k».proof.KernelIdeal
public import Idealize.ShloMosaic.Lib.Tactic

@[expose] public section

set_option maxRecDepth 16384

noncomputable section

namespace Cert.MixInBwd

open Cert.KernelIdeal Idealize.ShloMosaic Idealize.ShloMosaic.TcCoe Idealize.SL.Sem
open Cert.Rms

/-- A column, zero outside its rows. -/
def zp (f : Fin 16384 → EReal) (n : ℤ) : EReal := if h : 0 ≤ n ∧ n < 16384 then f ⟨n.toNat, by omega⟩ else 0

theorem zp_of (f : Fin 16384 → EReal) (n : ℤ) (R : Fin 16384) (h : n = R.val) : zp f n = f R := by
  subst h
  unfold zp
  rw [dif_pos ⟨by omega, by omega⟩]
  exact congrArg f (Fin.ext (by simp))

theorem zp_out (f : Fin 16384 → EReal) (n : ℤ) (h : n < 0 ∨ 16384 ≤ n) : zp f n = 0 := by
  unfold zp
  rw [dif_neg (by omega)]

/-- The call's arguments. -/
structure Args where
  /-- the gradient that passes by the block -/
  dy : Vec Ideal S16384x1024 .f32
  /-- the block's input -/
  x : Vec Ideal S16384x1024 .f32
  /-- the first columns of the projection -/
  za : Vec Ideal S16384x4608 .bf16
  /-- the two gradients of the recurrence's input -/
  df : Vec Ideal S16384x1024 .f32
  dr : Vec Ideal S16384x1024 .f32
  /-- the gradient of the short convolution's output -/
  dc : Vec Ideal S16384x512 .f32
  /-- the other columns' gradients -/
  gate : Vec Ideal S16384x1024 .bf16
  sb : Vec Ideal S16384x512 .bf16
  su : Vec Ideal S16384x512 .bf16
  sv : Vec Ideal S16384x512 .bf16
  zm : Vec Ideal S16384x3072 .bf16
  /-- the norm's scale -/
  g : Vec Ideal S1x1024 .f32
  /-- the two convolutions' taps -/
  lw : Vec Ideal S4x1024 .f32
  sw : Vec Ideal S3x512 .f32
  /-- the projection's weight -/
  w : Vec Ideal S1024x7680 .f32

variable (A : Args)

/-- The gradient of the recurrence's input. -/
def gCol (k : Fin 1024) : ℤ → EReal := zp fun R => A.df (ix2 R k) + A.dr (ix2 R k)
/-- The first convolution's input. -/
def lCol (k : Fin 1024) : ℤ → EReal := zp fun R => A.za (ix2 R (⟨1024 + k.val, by omega⟩ : Fin 4608))
/-- The second convolution's input, a product of two columns. -/
def pCol (k : Fin 512) : ℤ → EReal := zp fun R =>
  A.za (ix2 R (⟨2560 + k.val, by omega⟩ : Fin 4608)) * A.za (ix2 R (⟨3072 + k.val, by omega⟩ : Fin 4608))
/-- The gradient of the second convolution's output. -/
def cCol (k : Fin 512) : ℤ → EReal := zp fun R => A.dc (ix2 R k)

/-- The gradient of the first convolution's input. -/
def dlx (R : Fin 16384) (k : Fin 1024) : EReal :=
  A.lw (ix2 2 k) * gCol A k R.val + A.lw (ix2 0 k) * gCol A k (R.val + 2) + A.lw (ix2 1 k) * gCol A k (R.val + 1)
    + A.lw (ix2 3 k) * gCol A k (R.val - 1)

/-- The gradient of the second convolution's input. -/
def dp (R : Fin 16384) (k : Fin 512) : EReal :=
  A.sw (ix2 1 k) * cCol A k R.val + A.sw (ix2 0 k) * cCol A k (R.val + 1) + A.sw (ix2 2 k) * cCol A k (R.val - 1)

/-- The gradient of the projection. -/
def dzE (R : Fin 16384) (q : Fin 7680) : EReal :=
  if h0 : q.val < 1024 then A.gate (ix2 R ⟨q.val, h0⟩)
  else if h1 : q.val < 2048 then dlx A R ⟨q.val - 1024, by omega⟩
  else if h2 : q.val < 2560 then A.sb (ix2 R (⟨q.val - 2048, by omega⟩ : Fin 512))
  else if h3 : q.val < 3072 then dp A R ⟨q.val - 2560, by omega⟩ * A.za (ix2 R (⟨512 + q.val, by omega⟩ : Fin 4608))
  else if h4 : q.val < 3584 then dp A R ⟨q.val - 3072, by omega⟩ * A.za (ix2 R (⟨q.val - 512, by omega⟩ : Fin 4608))
  else if h5 : q.val < 4096 then A.su (ix2 R (⟨q.val - 3584, by omega⟩ : Fin 512))
  else if h6 : q.val < 4608 then A.sv (ix2 R (⟨q.val - 4096, by omega⟩ : Fin 512))
  else A.zm (ix2 R (⟨q.val - 4608, by omega⟩ : Fin 3072))

/-- The gradient of the normed rows. -/
def dh (R : Fin 16384) (k : Fin 1024) : EReal := ∑ q : Fin 7680, dzE A R q * A.w (ix2 k q)

/-- The gradient of the block's input. -/
def dxE (R : Fin 16384) (k : Fin 1024) : EReal :=
  A.dy (ix2 R k) + bwd (fun l => A.x (ix2 R l)) (fun l => dh A R l * A.g (ix2 0 l)) k

/-- The gradient of the norm's scale. -/
def dpgE (k : Fin 1024) : EReal := ∑ R : Fin 16384, dh A R k * (A.x (ix2 R k) * rs (fun l => A.x (ix2 R l)))
/-- The gradient of the first convolution's taps. -/
def dlcwE (j : Fin 4) (k : Fin 1024) : EReal := ∑ R : Fin 16384, gCol A k R.val * lCol A k (R.val + j.val - 2)
/-- The gradient of its bias. -/
def dlcbE (k : Fin 1024) : EReal := ∑ R : Fin 16384, gCol A k R.val
/-- The gradient of the second convolution's taps. -/
def dscwE (j : Fin 3) (k : Fin 512) : EReal := ∑ R : Fin 16384, cCol A k R.val * pCol A k (R.val + j.val - 1)

/-! ## The result arrays -/

def dxArr : Vec Ideal S16384x1024 .f32 := fun i => dxE A (i 0) (i 1)
def dzArr : Vec Ideal S16384x7680 .bf16 := fun i => dzE A (i 0) (i 1)
def dpgArr : Vec Ideal S1x1024 .f32 := fun i => dpgE A (i 1)
def dlcwArr : Vec Ideal S4x1024 .f32 := fun i => dlcwE A (i 0) (i 1)
def dlcbArr : Vec Ideal S1x1024 .f32 := fun i => dlcbE A (i 1)
def dscwArr : Vec Ideal S3x512 .f32 := fun i => dscwE A (i 0) (i 1)

end Cert.MixInBwd
-- ==== Proof.MixInBwd.Ref.lean ====
/-
  WHAT THE REFERENCE OF THE PROJECTION'S BACKWARD CALL COMPUTES, ENTRY BY ENTRY.
-/
module

public import proofs.«01_k».proof.Proof.MixInBwd.Formula
public import proofs.«01_k».proof.Proof.Gen.ReferenceIdeal.Run

@[expose] public section

set_option maxRecDepth 16384

noncomputable section

namespace Cert.MixInBwd.Ref

open Cert.ReferenceIdeal Cert.ReferenceIdeal.Gen Cert.ReferenceIdeal.Value Idealize.ShloMosaic Idealize.ShloMosaic.TcCoe Idealize.SL.Sem
open Cert.Rms Cert.MixInBwd

variable (V : Valuation τ sig (Elt Ideal))

/-- The arguments, as the reference's launch has them. -/
def argsV : Args where
  dy := V (Proc.devRef .tc main_arg0)
  x := V (Proc.devRef .tc main_arg1)
  za := V (Proc.devRef .tc main_arg2)
  df := V (Proc.devRef .tc main_arg3)
  dr := V (Proc.devRef .tc main_arg4)
  dc := V (Proc.devRef .tc main_arg5)
  gate := V (Proc.devRef .tc main_arg6)
  sb := V (Proc.devRef .tc main_arg7)
  su := V (Proc.devRef .tc main_arg8)
  sv := V (Proc.devRef .tc main_arg9)
  zm := V (Proc.devRef .tc main_arg10)
  g := V (Proc.devRef .tc main_arg11)
  lw := V (Proc.devRef .tc main_arg12)
  sw := V (Proc.devRef .tc main_arg13)
  w := V (Proc.devRef .tc main_arg14)

/-! ## The first columns of the projection -/

theorem v12_apply (R : Fin 16384) (k : Fin 512) :
    (res_main_v12 V : FVec Ideal S16384x512 .f32) (ix2 R k) = (argsV V).za (ix2 R (⟨2560 + k.val, by omega⟩ : Fin 4608)) := by
  pointwise [res_main_v12, res_main_v2, argsV]
  rw [dif_pos (by omega)]

theorem v13_apply (R : Fin 16384) (k : Fin 512) :
    (res_main_v13 V : FVec Ideal S16384x512 .f32) (ix2 R k) = (argsV V).za (ix2 R (⟨3072 + k.val, by omega⟩ : Fin 4608)) := by
  pointwise [res_main_v13, res_main_v2, argsV]
  rw [dif_pos (by omega)]

theorem v19_apply (q : Fin 16387) (k : Fin 1024) :
    (res_main_v19 V : FVec Ideal S16387x1024 .f32) (ix2 q k) = lCol (argsV V) k (q.val - 2) := by
  pointwise [res_main_v19, res_main_v2]
  unfold lCol
  by_cases h : q.val < 2
  · rw [dif_pos h, zp_out _ _ (by omega)]
  · rw [dif_neg h]
    by_cases h' : q.val - 2 < 16384
    · rw [dif_pos h', dif_pos (by omega), zp_of _ _ ⟨q.val - 2, h'⟩ (by dsimp only; omega)]
      rfl
    · rw [dif_neg h', zp_out _ _ (by omega)]

theorem v56_apply (q : Fin 16386) (k : Fin 512) :
    (res_main_v56 V : FVec Ideal S16386x512 .f32) (ix2 q k) = pCol (argsV V) k (q.val - 1) := by
  pointwise [res_main_v56]
  unfold pCol
  by_cases h : q.val < 1
  · rw [dif_pos h, zp_out _ _ (by omega)]
  · rw [dif_neg h]
    by_cases h' : q.val - 1 < 16384
    · rw [dif_pos h', v12_apply, v13_apply, zp_of _ _ ⟨q.val - 1, h'⟩ (by dsimp only; omega)]
    · rw [dif_neg h', zp_out _ _ (by omega)]

theorem v22_apply (R : Fin 16384) (k : Fin 1024) :
    (res_main_v22 V : FVec Ideal S16384x1024 .f32) (ix2 R k) = lCol (argsV V) k (R.val + 0 - 2) := by
  pointwise [res_main_v22]
  rw [v19_apply]

theorem v30_apply (R : Fin 16384) (k : Fin 1024) :
    (res_main_v30 V : FVec Ideal S16384x1024 .f32) (ix2 R k) = lCol (argsV V) k (R.val + 1 - 2) := by
  pointwise [res_main_v30]
  rw [v19_apply]
  refine congrArg (lCol (argsV V) k) ?_
  (try dsimp only); omega

theorem v37_apply (R : Fin 16384) (k : Fin 1024) :
    (res_main_v37 V : FVec Ideal S16384x1024 .f32) (ix2 R k) = lCol (argsV V) k (R.val + 2 - 2) := by
  pointwise [res_main_v37]
  rw [v19_apply]
  exact congrArg (lCol (argsV V) k) (by (try dsimp only); omega)

theorem v44_apply (R : Fin 16384) (k : Fin 1024) :
    (res_main_v44 V : FVec Ideal S16384x1024 .f32) (ix2 R k) = lCol (argsV V) k (R.val + 3 - 2) := by
  pointwise [res_main_v44]
  rw [v19_apply]
  exact congrArg (lCol (argsV V) k) (by (try dsimp only); omega)

theorem v59_apply (R : Fin 16384) (k : Fin 512) :
    (res_main_v59 V : FVec Ideal S16384x512 .f32) (ix2 R k) = pCol (argsV V) k (R.val + 0 - 1) := by
  pointwise [res_main_v59]
  rw [v56_apply]

theorem v67_apply (R : Fin 16384) (k : Fin 512) :
    (res_main_v67 V : FVec Ideal S16384x512 .f32) (ix2 R k) = pCol (argsV V) k (R.val + 1 - 1) := by
  pointwise [res_main_v67]
  rw [v56_apply]
  exact congrArg (pCol (argsV V) k) (by (try dsimp only); omega)

theorem v74_apply (R : Fin 16384) (k : Fin 512) :
    (res_main_v74 V : FVec Ideal S16384x512 .f32) (ix2 R k) = pCol (argsV V) k (R.val + 2 - 1) := by
  pointwise [res_main_v74]
  rw [v56_apply]
  exact congrArg (pCol (argsV V) k) (by (try dsimp only); omega)

/-! ## The taps -/

theorem v25_apply (u : Fin 1) (k : Fin 1024) : (res_main_v25 V : FVec Ideal S1x1024 .f32) (ix2 u k) = (argsV V).lw (ix2 0 k) := by
  pointwise [res_main_v25, argsV]

theorem v33_apply (u : Fin 1) (k : Fin 1024) : (res_main_v33 V : FVec Ideal S1x1024 .f32) (ix2 u k) = (argsV V).lw (ix2 1 k) := by
  pointwise [res_main_v33, argsV]

theorem v40_apply (u : Fin 1) (k : Fin 1024) : (res_main_v40 V : FVec Ideal S1x1024 .f32) (ix2 u k) = (argsV V).lw (ix2 2 k) := by
  pointwise [res_main_v40, argsV]

theorem v47_apply (u : Fin 1) (k : Fin 1024) : (res_main_v47 V : FVec Ideal S1x1024 .f32) (ix2 u k) = (argsV V).lw (ix2 3 k) := by
  pointwise [res_main_v47, argsV]

theorem v62_apply (u : Fin 1) (k : Fin 512) : (res_main_v62 V : FVec Ideal S1x512 .f32) (ix2 u k) = (argsV V).sw (ix2 0 k) := by
  pointwise [res_main_v62, argsV]

theorem v70_apply (u : Fin 1) (k : Fin 512) : (res_main_v70 V : FVec Ideal S1x512 .f32) (ix2 u k) = (argsV V).sw (ix2 1 k) := by
  pointwise [res_main_v70, argsV]

theorem v77_apply (u : Fin 1) (k : Fin 512) : (res_main_v77 V : FVec Ideal S1x512 .f32) (ix2 u k) = (argsV V).sw (ix2 2 k) := by
  pointwise [res_main_v77, argsV]

/-! ## The gradients that come in -/

theorem v81_apply (R : Fin 16384) (k : Fin 1024) : (res_main_v81 V : FVec Ideal S16384x1024 .f32) (ix2 R k) = gCol (argsV V) k R.val := by
  unfold gCol
  rw [zp_of _ _ R rfl]
  pointwise [res_main_v81, argsV]

theorem v120_apply (R : Fin 16384) (k : Fin 1024) : (res_main_v120 V : FVec Ideal S16384x1024 .f32) (ix2 R k) = gCol (argsV V) k R.val := by
  rw [← v81_apply]
  pointwise [res_main_v120]

theorem v82_apply (R : Fin 16384) (k : Fin 512) : (res_main_v82 V : FVec Ideal S16384x512 .f32) (ix2 R k) = cCol (argsV V) k R.val := by
  unfold cCol
  rw [zp_of _ _ R rfl]
  pointwise [res_main_v82, argsV]

theorem v83_apply (R : Fin 16384) (k : Fin 512) : (res_main_v83 V : FVec Ideal S16384x512 .f32) (ix2 R k) = cCol (argsV V) k R.val := by
  unfold cCol
  rw [zp_of _ _ R rfl]
  pointwise [res_main_v83, argsV]

/-! ## The convolutions' gradients -/

/-- A row of an array with `lo` rows of zeros before it, as a product with a tap. -/
theorem pick (f : Fin 16384 → EReal) (x : Fin 16384 → EReal) (hx : ∀ R, x R = zp f R.val) (lo q : ℕ) (w : EReal) (n : ℤ) (hn : n = q - lo) :
    (if h : lo ≤ q ∧ q - lo < 16384 then x ⟨q - lo, h.2⟩ * w else 0) = w * zp f n := by
  subst hn
  by_cases h : lo ≤ q ∧ q - lo < 16384
  · rw [dif_pos h, hx, mul_comm]
    refine congrArg (_ * ·) (congrArg (zp f) ?_)
    (try dsimp only); omega
  · rw [dif_neg h, zp_out _ _ (by omega), mul_zero]

/-- The gradient of the first convolution's padded input. -/
def dlxV (g : FVec Ideal S16384x1024 .f32) (w3 w2 w1 w0 : FVec Ideal S1x1024 .f32) : FVec Ideal S16387x1024 .f32 :=
  addf (addf (addf (pad S16387x1024 ![3, 0] ![0, 0] ![0, 0] (mulf g (broadcastInDim S16384x1024 ![0, 1] bcast_S1x1024_S16384x1024_0_1 w3)) (constant S_ .f32 0x00000000#32) pads_S16384x1024_S16387x1024_300_000 h_S_) (pad S16387x1024 ![2, 0] ![1, 0] ![0, 0] (mulf g (broadcastInDim S16384x1024 ![0, 1] bcast_S1x1024_S16384x1024_0_1 w2)) (constant S_ .f32 0x00000000#32) pads_S16384x1024_S16387x1024_210_000 h_S_)) (pad S16387x1024 ![1, 0] ![2, 0] ![0, 0] (mulf g (broadcastInDim S16384x1024 ![0, 1] bcast_S1x1024_S16384x1024_0_1 w1)) (constant S_ .f32 0x00000000#32) pads_S16384x1024_S16387x1024_120_000 h_S_)) (pad S16387x1024 ![0, 0] ![3, 0] ![0, 0] (mulf g (broadcastInDim S16384x1024 ![0, 1] bcast_S1x1024_S16384x1024_0_1 w0)) (constant S_ .f32 0x00000000#32) pads_S16384x1024_S16387x1024_030_000 h_S_)

theorem dlxV_apply (f : Fin 1024 → Fin 16384 → EReal) (g : FVec Ideal S16384x1024 .f32) (hg : ∀ R k, g (ix2 R k) = zp (f k) R.val)
    (w3 w2 w1 w0 : FVec Ideal S1x1024 .f32) (q : Fin 16387) (k : Fin 1024) :
    dlxV g w3 w2 w1 w0 (ix2 q k) = w3 (ix2 0 k) * zp (f k) (q.val - 3) + w2 (ix2 0 k) * zp (f k) (q.val - 2)
      + w1 (ix2 0 k) * zp (f k) (q.val - 1) + w0 (ix2 0 k) * zp (f k) q.val := by
  pointwise [dlxV]
  have p := fun lo w n => pick (f k) (fun R => g (ix2 R k)) (fun R => hg R k) lo q.val w n
  refine congrArg₂ (· + ·) (congrArg₂ (· + ·) (congrArg₂ (· + ·) (p 3 _ _ rfl) (p 2 _ _ rfl)) (p 1 _ _ rfl)) ?_
  by_cases h : q.val < 16384
  · rw [dif_pos h, hg, mul_comm]
  · rw [dif_neg h, zp_out _ _ (by omega), mul_zero]

/-- The gradient of the second convolution's padded input. -/
def dpV (g h : FVec Ideal S16384x512 .f32) (w2 w1 w0 : FVec Ideal S1x512 .f32) : FVec Ideal S16386x512 .f32 :=
  addf (addf (pad S16386x512 ![2, 0] ![0, 0] ![0, 0] (mulf g (broadcastInDim S16384x512 ![0, 1] bcast_S1x512_S16384x512_0_1 w2)) (constant S_ .f32 0x00000000#32) pads_S16384x512_S16386x512_200_000 h_S_) (pad S16386x512 ![1, 0] ![1, 0] ![0, 0] (mulf h (broadcastInDim S16384x512 ![0, 1] bcast_S1x512_S16384x512_0_1 w1)) (constant S_ .f32 0x00000000#32) pads_S16384x512_S16386x512_110_000 h_S_)) (pad S16386x512 ![0, 0] ![2, 0] ![0, 0] (mulf h (broadcastInDim S16384x512 ![0, 1] bcast_S1x512_S16384x512_0_1 w0)) (constant S_ .f32 0x00000000#32) pads_S16384x512_S16386x512_020_000 h_S_)

theorem dpV_apply (f : Fin 512 → Fin 16384 → EReal) (g h : FVec Ideal S16384x512 .f32) (hg : ∀ R k, g (ix2 R k) = zp (f k) R.val)
    (hh : ∀ R k, h (ix2 R k) = zp (f k) R.val)
    (w2 w1 w0 : FVec Ideal S1x512 .f32) (q : Fin 16386) (k : Fin 512) :
    dpV g h w2 w1 w0 (ix2 q k) = w2 (ix2 0 k) * zp (f k) (q.val - 2) + w1 (ix2 0 k) * zp (f k) (q.val - 1)
      + w0 (ix2 0 k) * zp (f k) q.val := by
  pointwise [dpV]
  refine congrArg₂ (· + ·) (congrArg₂ (· + ·) (pick (f k) (fun R => g (ix2 R k)) (fun R => hg R k) 2 q.val _ _ rfl)
    (pick (f k) (fun R => h (ix2 R k)) (fun R => hh R k) 1 q.val _ _ rfl)) ?_
  by_cases h' : q.val < 16384
  · rw [dif_pos h', hh, mul_comm]
  · rw [dif_neg h', zp_out _ _ (by omega), mul_zero]

/-- The gradient of the first convolution's taps. -/
def dlcwV (l3 l2 l1 l0 g : FVec Ideal S16384x1024 .f32) : FVec Ideal S4x1024 .f32 :=
  addf (addf (addf (pad S4x1024 ![3, 0] ![0, 0] ![0, 0] (broadcastInDim S1x1024 ![1] bcast_S1024_S1x1024_1 (Host.reduceAdd (shapeCast S1x1024 (Host.reduceAdd (mulf l3 g) (constant S_ .f32 0x00000000#32) reducesTo_S16384x1024_S1024_d0 h_S_) shapeCasts_S1024_S1x1024) (constant S_ .f32 0x00000000#32) reducesTo_S1x1024_S1024_d0 h_S_)) (constant S_ .f32 0x00000000#32) pads_S1x1024_S4x1024_300_000 h_S_) (pad S4x1024 ![2, 0] ![1, 0] ![0, 0] (broadcastInDim S1x1024 ![1] bcast_S1024_S1x1024_1 (Host.reduceAdd (shapeCast S1x1024 (Host.reduceAdd (mulf l2 g) (constant S_ .f32 0x00000000#32) reducesTo_S16384x1024_S1024_d0 h_S_) shapeCasts_S1024_S1x1024) (constant S_ .f32 0x00000000#32) reducesTo_S1x1024_S1024_d0 h_S_)) (constant S_ .f32 0x00000000#32) pads_S1x1024_S4x1024_210_000 h_S_)) (pad S4x1024 ![1, 0] ![2, 0] ![0, 0] (broadcastInDim S1x1024 ![1] bcast_S1024_S1x1024_1 (Host.reduceAdd (shapeCast S1x1024 (Host.reduceAdd (mulf l1 g) (constant S_ .f32 0x00000000#32) reducesTo_S16384x1024_S1024_d0 h_S_) shapeCasts_S1024_S1x1024) (constant S_ .f32 0x00000000#32) reducesTo_S1x1024_S1024_d0 h_S_)) (constant S_ .f32 0x00000000#32) pads_S1x1024_S4x1024_120_000 h_S_)) (pad S4x1024 ![0, 0] ![3, 0] ![0, 0] (broadcastInDim S1x1024 ![1] bcast_S1024_S1x1024_1 (Host.reduceAdd (shapeCast S1x1024 (Host.reduceAdd (mulf l0 g) (constant S_ .f32 0x00000000#32) reducesTo_S16384x1024_S1024_d0 h_S_) shapeCasts_S1024_S1x1024) (constant S_ .f32 0x00000000#32) reducesTo_S1x1024_S1024_d0 h_S_)) (constant S_ .f32 0x00000000#32) pads_S1x1024_S4x1024_030_000 h_S_)

theorem dlcwV_apply (l3 l2 l1 l0 g : FVec Ideal S16384x1024 .f32) (j : Fin 4) (k : Fin 1024) :
    dlcwV l3 l2 l1 l0 g (ix2 j k) = ∑ R : Fin 16384, (![l0, l1, l2, l3] j) (ix2 R k) * g (ix2 R k) := by
  pointwise [dlcwV]
  fin_cases j <;> simp

/-- The gradient of the second convolution's taps. -/
def dscwV (l2 l1 l0 g h : FVec Ideal S16384x512 .f32) : FVec Ideal S3x512 .f32 :=
  addf (addf (pad S3x512 ![2, 0] ![0, 0] ![0, 0] (broadcastInDim S1x512 ![1] bcast_S512_S1x512_1 (Host.reduceAdd (shapeCast S1x512 (Host.reduceAdd (mulf l2 g) (constant S_ .f32 0x00000000#32) reducesTo_S16384x512_S512_d0 h_S_) shapeCasts_S512_S1x512) (constant S_ .f32 0x00000000#32) reducesTo_S1x512_S512_d0 h_S_)) (constant S_ .f32 0x00000000#32) pads_S1x512_S3x512_200_000 h_S_) (pad S3x512 ![1, 0] ![1, 0] ![0, 0] (broadcastInDim S1x512 ![1] bcast_S512_S1x512_1 (Host.reduceAdd (shapeCast S1x512 (Host.reduceAdd (mulf l1 h) (constant S_ .f32 0x00000000#32) reducesTo_S16384x512_S512_d0 h_S_) shapeCasts_S512_S1x512) (constant S_ .f32 0x00000000#32) reducesTo_S1x512_S512_d0 h_S_)) (constant S_ .f32 0x00000000#32) pads_S1x512_S3x512_110_000 h_S_)) (pad S3x512 ![0, 0] ![2, 0] ![0, 0] (broadcastInDim S1x512 ![1] bcast_S512_S1x512_1 (Host.reduceAdd (shapeCast S1x512 (Host.reduceAdd (mulf l0 h) (constant S_ .f32 0x00000000#32) reducesTo_S16384x512_S512_d0 h_S_) shapeCasts_S512_S1x512) (constant S_ .f32 0x00000000#32) reducesTo_S1x512_S512_d0 h_S_)) (constant S_ .f32 0x00000000#32) pads_S1x512_S3x512_020_000 h_S_)

theorem dscwV_apply (l2 l1 l0 g h : FVec Ideal S16384x512 .f32) (j : Fin 3) (k : Fin 512) :
    dscwV l2 l1 l0 g h (ix2 j k) = ∑ R : Fin 16384, (![l0, l1, l2] j) (ix2 R k) * (![h, h, g] j) (ix2 R k) := by
  pointwise [dscwV]
  fin_cases j <;> simp

theorem ro4 (a b c d : EReal) : a + b + c + d = b + d + c + a := by ac_rfl

theorem ro3 (a b c : EReal) : a + b + c = b + c + a := by ac_rfl

theorem v164_apply (q : Fin 16387) (k : Fin 1024) :
    (res_main_v164 V : FVec Ideal S16387x1024 .f32) (ix2 q k)
      = (argsV V).lw (ix2 3 k) * gCol (argsV V) k (q.val - 3) + (argsV V).lw (ix2 2 k) * gCol (argsV V) k (q.val - 2)
        + (argsV V).lw (ix2 1 k) * gCol (argsV V) k (q.val - 1) + (argsV V).lw (ix2 0 k) * gCol (argsV V) k q.val := by
  refine (dlxV_apply (fun k R => (argsV V).df (ix2 R k) + (argsV V).dr (ix2 R k)) (res_main_v120 V) (fun R k => v120_apply V R k)
    (res_main_v47 V) (res_main_v40 V) (res_main_v33 V) (res_main_v25 V) q k).trans ?_
  rw [v47_apply, v40_apply, v33_apply, v25_apply]
  rfl

theorem v114_apply (q : Fin 16386) (k : Fin 512) :
    (res_main_v114 V : FVec Ideal S16386x512 .f32) (ix2 q k)
      = (argsV V).sw (ix2 2 k) * cCol (argsV V) k (q.val - 2) + (argsV V).sw (ix2 1 k) * cCol (argsV V) k (q.val - 1)
        + (argsV V).sw (ix2 0 k) * cCol (argsV V) k q.val := by
  refine (dpV_apply (fun k R => (argsV V).dc (ix2 R k)) (res_main_v83 V) (res_main_v82 V) (fun R k => v83_apply V R k)
    (fun R k => v82_apply V R k) (res_main_v77 V) (res_main_v70 V) (res_main_v62 V) q k).trans ?_
  rw [v77_apply, v70_apply, v62_apply]
  rfl

/-- The gradient of the first convolution's input: the padded gradient from its third row on. -/
theorem dlx_of (R : Fin 16384) (q : Fin 16387) (hq : q.val = R.val + 2) (k : Fin 1024) :
    (res_main_v164 V : FVec Ideal S16387x1024 .f32) (ix2 q k) = dlx (argsV V) R k := by
  rw [v164_apply]
  unfold dlx
  rw [show ((q.val : ℤ) - 3) = R.val - 1 by omega, show ((q.val : ℤ) - 2) = R.val by omega,
    show ((q.val : ℤ) - 1) = R.val + 1 by omega, show (q.val : ℤ) = R.val + 2 by omega]
  exact ro4 _ _ _ _

theorem v116_apply (R : Fin 16384) (k : Fin 512) :
    (res_main_v116 V : FVec Ideal S16384x512 .f32) (ix2 R k) = dp (argsV V) R k := by
  pointwise [res_main_v116]
  rw [v114_apply]
  unfold dp
  rw [show (((⟨1 + R.val, by omega⟩ : Fin 16386).val : ℤ) - 2) = R.val - 1 by (try dsimp only); omega,
    show (((⟨1 + R.val, by omega⟩ : Fin 16386).val : ℤ) - 1) = R.val by (try dsimp only); omega,
    show (((⟨1 + R.val, by omega⟩ : Fin 16386).val : ℤ)) = R.val + 1 by (try dsimp only); omega]
  exact ro3 _ _ _

/-! ## The gradient of the projection and what follows from it -/

theorem v168_apply (R : Fin 16384) (q : Fin 7680) :
    (res_main_v168 V : FVec Ideal S16384x7680 .f32) (ix2 R q) = dzE (argsV V) R q := by
  pointwise [res_main_v168, dzE]
  have e1 : q.val - 1024 - 1024 = q.val - 2048 := by omega
  have e2 : q.val - 2048 - 512 = q.val - 2560 := by omega
  have e3 : q.val - 2560 - 512 = q.val - 3072 := by omega
  have e4 : q.val - 3072 - 512 = q.val - 3584 := by omega
  have e5 : q.val - 3584 - 512 = q.val - 4096 := by omega
  have e6 : q.val - 4096 - 512 = q.val - 4608 := by omega
  simp only [e1, e2, e3, e4, e5, e6]
  by_cases h0 : q.val < 1024
  · rw [dif_pos h0, dif_pos h0]
    rfl
  rw [dif_neg h0, dif_neg h0]
  by_cases h1 : q.val < 2048
  · rw [dif_pos (show q.val - 1024 < 1024 by omega), dif_pos h1]
    exact dlx_of V R _ (by (try dsimp only); omega) _
  rw [dif_neg (show ¬q.val - 1024 < 1024 by omega), dif_neg h1]
  by_cases h2 : q.val < 2560
  · rw [dif_pos (show q.val - 2048 < 512 by omega), dif_pos h2]
    rfl
  rw [dif_neg (show ¬q.val - 2048 < 512 by omega), dif_neg h2]
  by_cases h3 : q.val < 3072
  · rw [dif_pos (show q.val - 2560 < 512 by omega), dif_pos h3, v116_apply, v13_apply]
    refine congrArg (_ * ·) (congrArg (argsV V).za (congrArg (ix2 R) (Fin.ext ?_)))
    (try dsimp only); omega
  rw [dif_neg (show ¬q.val - 2560 < 512 by omega), dif_neg h3]
  by_cases h4 : q.val < 3584
  · rw [dif_pos (show q.val - 3072 < 512 by omega), dif_pos h4, v116_apply, v12_apply, mul_comm]
    refine congrArg (_ * ·) (congrArg (argsV V).za (congrArg (ix2 R) (Fin.ext ?_)))
    (try dsimp only); omega
  rw [dif_neg (show ¬q.val - 3072 < 512 by omega), dif_neg h4]
  by_cases h5 : q.val < 4096
  · rw [dif_pos (show q.val - 3584 < 512 by omega), dif_pos h5]
    rfl
  rw [dif_neg (show ¬q.val - 3584 < 512 by omega), dif_neg h5]
  by_cases h6 : q.val < 4608
  · rw [dif_pos (show q.val - 4096 < 512 by omega), dif_pos h6]
    rfl
  rw [dif_neg (show ¬q.val - 4096 < 512 by omega), dif_neg h6]
  rfl

theorem v175_apply (R : Fin 16384) (u : Fin 1) :
    (res_main_v175 V : FVec Ideal S16384x1 .f32) (ix2 R u) = den (fun l => (argsV V).x (ix2 R l)) := by
  pointwise [res_main_v175, argsV, den, len, eps]

theorem v176_apply (R : Fin 16384) (u : Fin 1) :
    (res_main_v176 V : FVec Ideal S16384x1 .f32) (ix2 R u) = rs (fun l => (argsV V).x (ix2 R l)) := by
  pointwise [res_main_v176]
  rw [v175_apply]
  rfl

theorem v181_apply (R : Fin 16384) (k : Fin 1024) :
    (res_main_v181 V : FVec Ideal S16384x1024 .f32) (ix2 R k) = (argsV V).x (ix2 R k) * rs (fun l => (argsV V).x (ix2 R l)) := by
  pointwise [res_main_v181]
  rw [v176_apply]
  rfl

theorem v185_apply (R : Fin 16384) (k : Fin 1024) :
    (res_main_v185 V : FVec Ideal S16384x1024 .f32) (ix2 R k) = dh (argsV V) R k := by
  pointwise [res_main_v185]
  simp only [v168_apply]
  rfl

theorem v190_apply (R : Fin 16384) (k : Fin 1024) :
    (res_main_v190 V : FVec Ideal S16384x1024 .f32) (ix2 R k) = dh (argsV V) R k * (argsV V).g (ix2 0 k) := by
  pointwise [res_main_v190]
  rw [v185_apply]
  rfl

theorem v201_apply (R : Fin 16384) (k : Fin 1024) :
    (res_main_v201 V : FVec Ideal S16384x1024 .f32) (ix2 R k)
      = coef (fun l => (argsV V).x (ix2 R l)) (fun l => dh (argsV V) R l * (argsV V).g (ix2 0 l)) := by
  pointwise [res_main_v201]
  simp only [v190_apply, v176_apply, v175_apply, Fin.sum_univ_one]
  rfl

/-! ## The six results -/

theorem dx_eq : (addf (addf (addf (V (Proc.devRef .tc main_arg0)) (mulf (res_main_v190 V) (broadcastInDim S16384x1024 ![0, 1] bcast_S16384x1_S16384x1024_0_1 (res_main_v176 V)))) (mulf (V (Proc.devRef .tc main_arg1)) (res_main_v201 V))) (mulf (res_main_v201 V) (V (Proc.devRef .tc main_arg1))) : FVec Ideal S16384x1024 .f32) = dxArr (argsV V) := by
  funext j
  obtain ⟨R, k, rfl⟩ : ∃ (R : Fin 16384) (k : Fin 1024), j = ix2 R k := ⟨j 0, j 1, eq_ix2 j⟩
  refine Eq.trans ?_ (rms_bwd ((argsV V).dy (ix2 R k)) (fun l => (argsV V).x (ix2 R l)) (fun l => dh (argsV V) R l * (argsV V).g (ix2 0 l)) k).symm
  pointwise
  simp only [v190_apply, v176_apply, v201_apply]
  rfl

theorem dz_eq : (truncf .bf16 (res_main_v168 V) bitsLt_bf16_f32 : FVec Ideal S16384x7680 .bf16) = dzArr (argsV V) := by
  funext j
  obtain ⟨R, k, rfl⟩ : ∃ (R : Fin 16384) (k : Fin 7680), j = ix2 R k := ⟨j 0, j 1, eq_ix2 j⟩
  exact v168_apply V R k

theorem dpg_eq : (shapeCast S1x1024 (Host.reduceAdd (mulf (res_main_v181 V) (res_main_v185 V)) (constant S_ .f32 0x00000000#32) reducesTo_S16384x1024_S1024_d0 h_S_) shapeCasts_S1024_S1x1024 : FVec Ideal S1x1024 .f32) = dpgArr (argsV V) := by
  funext j
  obtain ⟨u, k, rfl⟩ : ∃ (u : Fin 1) (k : Fin 1024), j = ix2 u k := ⟨j 0, j 1, eq_ix2 j⟩
  pointwise
  simp only [v181_apply, v185_apply]
  show _ = dpgE (argsV V) k
  unfold dpgE
  exact Finset.sum_congr rfl fun R _ => mul_comm _ _

theorem dlcb_eq : (shapeCast S1x1024 (Host.reduceAdd (res_main_v81 V) (constant S_ .f32 0x00000000#32) reducesTo_S16384x1024_S1024_d0 h_S_) shapeCasts_S1024_S1x1024 : FVec Ideal S1x1024 .f32) = dlcbArr (argsV V) := by
  funext j
  obtain ⟨u, k, rfl⟩ : ∃ (u : Fin 1) (k : Fin 1024), j = ix2 u k := ⟨j 0, j 1, eq_ix2 j⟩
  pointwise
  simp only [v81_apply]
  rfl

theorem dlcw_eq : dlcwV (res_main_v44 V) (res_main_v37 V) (res_main_v30 V) (res_main_v22 V) (res_main_v120 V) = dlcwArr (argsV V) := by
  funext j
  obtain ⟨j, k, rfl⟩ : ∃ (i : Fin 4) (k : Fin 1024), j = ix2 i k := ⟨j 0, j 1, eq_ix2 j⟩
  rw [dlcwV_apply]
  show _ = dlcwE (argsV V) j k
  unfold dlcwE
  refine Finset.sum_congr rfl fun R _ => ?_
  rw [mul_comm]
  fin_cases j
  · exact congrArg₂ (· * ·) (v120_apply V R k) (v22_apply V R k)
  · exact congrArg₂ (· * ·) (v120_apply V R k) (v30_apply V R k)
  · exact congrArg₂ (· * ·) (v120_apply V R k) (v37_apply V R k)
  · exact congrArg₂ (· * ·) (v120_apply V R k) (v44_apply V R k)

theorem dscw_eq : dscwV (res_main_v74 V) (res_main_v67 V) (res_main_v59 V) (res_main_v83 V) (res_main_v82 V) = dscwArr (argsV V) := by
  funext j
  obtain ⟨j, k, rfl⟩ : ∃ (i : Fin 3) (k : Fin 512), j = ix2 i k := ⟨j 0, j 1, eq_ix2 j⟩
  rw [dscwV_apply]
  show _ = dscwE (argsV V) j k
  unfold dscwE
  refine Finset.sum_congr rfl fun R _ => ?_
  rw [mul_comm]
  fin_cases j
  · exact congrArg₂ (· * ·) (v82_apply V R k) (v59_apply V R k)
  · exact congrArg₂ (· * ·) (v82_apply V R k) (v67_apply V R k)
  · exact congrArg₂ (· * ·) (v83_apply V R k) (v74_apply V R k)

end Cert.MixInBwd.Ref
-- ==== Proof.MixInBwd.Inputs.lean ====
/-
  THE BLOCKS THAT A GRID POINT OF THE PROJECTION'S BACKWARD CALL HOLDS, read from the arrays.

  Point `t` holds rows `256 t … 256 t + 255` of the arrays, and of some of them the 8 or 16 rows before these and after
  these. At the first point the rows "before" are the array's first ones, at the last point the rows "after" are its last
  ones; the body does not use them there.
-/
module

public import proofs.«01_k».proof.Proof.MixInBwd.Formula
public import proofs.«01_k».proof.Proof.Gen.KernelIdeal.Frame.Runs

@[expose] public section

set_option maxRecDepth 16384

noncomputable section

namespace Cert.MixInBwd

open Cert.KernelIdeal Cert.KernelIdeal.Gen Idealize.ShloMosaic Idealize.ShloMosaic.TcCoe Idealize.SL.Sem

variable (m : (ℓ : Loc nD τ sig) → Buf (Elt Ideal) ℓ) (c : Dev nD)

/-- The call's arguments, as the launch has them. -/
def argsM : Args where
  dy := m ((c : Thread nD τ).loc main_arg0)
  x := m ((c : Thread nD τ).loc main_arg1)
  za := m ((c : Thread nD τ).loc main_arg2)
  df := m ((c : Thread nD τ).loc main_arg3)
  dr := m ((c : Thread nD τ).loc main_arg4)
  dc := m ((c : Thread nD τ).loc main_arg5)
  gate := m ((c : Thread nD τ).loc main_arg6)
  sb := m ((c : Thread nD τ).loc main_arg7)
  su := m ((c : Thread nD τ).loc main_arg8)
  sv := m ((c : Thread nD τ).loc main_arg9)
  zm := m ((c : Thread nD τ).loc main_arg10)
  g := m ((c : Thread nD τ).loc main_arg11)
  lw := m ((c : Thread nD τ).loc main_arg12)
  sw := m ((c : Thread nD τ).loc main_arg13)
  w := m ((c : Thread nD τ).loc main_arg14)

theorem points : cfg0.N = 64 := N_0

/-- Row `r` of point `t`'s block, as a row of the array. -/
def row (t : Fin cfg0.N) (r : Fin 256) : Fin 16384 :=
  ⟨t.val * 256 + r.val, by have := t.isLt; have := r.isLt; have := points; omega⟩

/-! ## Where the blocks lie -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 1 := by decide +kernel
theorem index3 : ∀ t : Fin grid0.N, win0_3.index t 0 = t.val * 16 - 1 ∧ win0_3.index t 1 = 1 := by decide +kernel
theorem index4 : ∀ t : Fin grid0.N, win0_4.index t 0 = min (t.val * 16 + 16) 1023 ∧ win0_4.index t 1 = 1 := by decide +kernel
theorem index5 : ∀ t : Fin grid0.N, win0_5.index t 0 = t.val ∧ win0_5.index t 1 = 5 := by decide +kernel
theorem index6 : ∀ t : Fin grid0.N, win0_6.index t 0 = t.val * 16 - 1 ∧ win0_6.index t 1 = 5 := by decide +kernel
theorem index7 : ∀ t : Fin grid0.N, win0_7.index t 0 = min (t.val * 16 + 16) 1023 ∧ win0_7.index t 1 = 5 := by decide +kernel
theorem index8 : ∀ t : Fin grid0.N, win0_8.index t 0 = t.val ∧ win0_8.index t 1 = 6 := by decide +kernel
theorem index9 : ∀ t : Fin grid0.N, win0_9.index t 0 = t.val * 16 - 1 ∧ win0_9.index t 1 = 6 := by decide +kernel
theorem index10 : ∀ t : Fin grid0.N, win0_10.index t 0 = min (t.val * 16 + 16) 1023 ∧ win0_10.index t 1 = 6 := by decide +kernel
theorem index11 : ∀ t : Fin grid0.N, win0_11.index t 0 = t.val ∧ win0_11.index t 1 = 0 := by decide +kernel
theorem index12 : ∀ t : Fin grid0.N, win0_12.index t 0 = t.val * 32 - 1 ∧ win0_12.index t 1 = 0 := by decide +kernel
theorem index13 : ∀ t : Fin grid0.N, win0_13.index t 0 = min (t.val * 32 + 32) 2047 ∧ win0_13.index t 1 = 0 := by decide +kernel
theorem index14 : ∀ t : Fin grid0.N, win0_14.index t 0 = t.val ∧ win0_14.index t 1 = 0 := by decide +kernel
theorem index15 : ∀ t : Fin grid0.N, win0_15.index t 0 = t.val * 32 - 1 ∧ win0_15.index t 1 = 0 := by decide +kernel
theorem index16 : ∀ t : Fin grid0.N, win0_16.index t 0 = min (t.val * 32 + 32) 2047 ∧ win0_16.index t 1 = 0 := by decide +kernel
theorem index17 : ∀ t : Fin grid0.N, win0_17.index t 0 = t.val ∧ win0_17.index t 1 = 0 := by decide +kernel
theorem index18 : ∀ t : Fin grid0.N, win0_18.index t 0 = t.val * 32 - 1 ∧ win0_18.index t 1 = 0 := by decide +kernel
theorem index19 : ∀ t : Fin grid0.N, win0_19.index t 0 = min (t.val * 32 + 32) 2047 ∧ win0_19.index t 1 = 0 := by decide +kernel
theorem index20 : ∀ t : Fin grid0.N, win0_20.index t 0 = t.val ∧ win0_20.index t 1 = 0 := by decide +kernel
theorem index21 : ∀ t : Fin grid0.N, win0_21.index t 0 = t.val ∧ win0_21.index t 1 = 0 := by decide +kernel
theorem index22 : ∀ t : Fin grid0.N, win0_22.index t 0 = t.val ∧ win0_22.index t 1 = 0 := by decide +kernel
theorem index23 : ∀ t : Fin grid0.N, win0_23.index t 0 = t.val ∧ win0_23.index t 1 = 0 := by decide +kernel
theorem index24 : ∀ t : Fin grid0.N, win0_24.index t 0 = t.val ∧ win0_24.index t 1 = 0 := by decide +kernel
theorem index25 : ∀ t : Fin grid0.N, win0_25.index t 0 = 0 ∧ win0_25.index t 1 = 0 := by decide +kernel
theorem index26 : ∀ t : Fin grid0.N, win0_26.index t 0 = 0 ∧ win0_26.index t 1 = 0 := by decide +kernel
theorem index27 : ∀ t : Fin grid0.N, win0_27.index t 0 = 0 ∧ win0_27.index t 1 = 0 := by decide +kernel
theorem index28 : ∀ t : Fin grid0.N, win0_28.index t 0 = 0 ∧ win0_28.index t 1 = 0 := by decide +kernel

/-! ## The blocks -/

theorem iblk0 (t : Fin cfg0.N) (r : Fin 256) (k : Fin 1024) :
    (iblk m c 0 t : Vec Ideal S256x1024 .f32) (ix2 r k) = (argsM m c).dy (ix2 (row t r) k) := by
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 256 + 1 * r.val = t.val * 256 + r.val; rw [(index0 t).1]; omega
  | ⟨1, _⟩ => show win0_0.index t 1 * 1024 + 1 * k.val = k.val; rw [(index0 t).2]; omega

theorem iblk1 (t : Fin cfg0.N) (r : Fin 256) (k : Fin 1024) :
    (iblk m c 1 t : Vec Ideal S256x1024 .f32) (ix2 r k) = (argsM m c).x (ix2 (row t r) k) := by
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 256 + 1 * r.val = t.val * 256 + r.val; rw [(index1 t).1]; omega
  | ⟨1, _⟩ => show win0_1.index t 1 * 1024 + 1 * k.val = k.val; rw [(index1 t).2]; omega

theorem iblk2 (t : Fin cfg0.N) (r : Fin 256) (k : Fin 1024) :
    (X0_2 m c t : Vec Ideal S256x1024 .bf16) (ix2 r k) = (argsM m c).za (ix2 (row t r) (⟨1024 + k.val, by omega⟩ : Fin 4608)) := by
  unfold X0_2 Pipeline.Window.fill
  rw [dif_pos (moved0_2 t _)]
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t 0 * 256 + 1 * r.val = t.val * 256 + r.val; rw [(index2 t).1]; omega
  | ⟨1, _⟩ => show win0_2.index t 1 * 1024 + 1 * k.val = 1024 + k.val; rw [(index2 t).2]; omega

theorem iblk3 (t : Fin cfg0.N) (ht : 0 < t.val) (r : Fin 16) (k : Fin 1024) (R : Fin 16384) (hR : R.val + 16 = t.val * 256 + r.val) :
    (X0_3 m c t : Vec Ideal S16x1024 .bf16) (ix2 r k) = (argsM m c).za (ix2 R (⟨1024 + k.val, by omega⟩ : Fin 4608)) := by
  unfold X0_3 Pipeline.Window.fill
  rw [dif_pos (moved0_3 t _)]
  unfold iblk
  rw [View.read_apply]
  show V m c main_arg2 _ = _
  rw [V_main_arg2]
  refine congrArg (m ((c : Thread nD τ).loc main_arg2)) ?_
  funext a
  apply Fin.ext
  match a with
  | ⟨0, _⟩ => show win0_3.index t 0 * 16 + 1 * r.val = R.val; rw [(index3 t).1]; omega
  | ⟨1, _⟩ => show win0_3.index t 1 * 1024 + 1 * k.val = 1024 + k.val; rw [(index3 t).2]; omega

theorem iblk4 (t : Fin cfg0.N) (ht : t.val < 63) (r : Fin 16) (k : Fin 1024) (R : Fin 16384) (hR : R.val = t.val * 256 + 256 + r.val) :
    (X0_4 m c t : Vec Ideal S16x1024 .bf16) (ix2 r k) = (argsM m c).za (ix2 R (⟨1024 + k.val, by omega⟩ : Fin 4608)) := by
  unfold X0_4 Pipeline.Window.fill
  rw [dif_pos (moved0_4 t _)]
  unfold iblk
  rw [View.read_apply]
  show V m c main_arg2 _ = _
  rw [V_main_arg2]
  refine congrArg (m ((c : Thread nD τ).loc main_arg2)) ?_
  funext a
  apply Fin.ext
  match a with
  | ⟨0, _⟩ => show win0_4.index t 0 * 16 + 1 * r.val = R.val; rw [(index4 t).1]; omega
  | ⟨1, _⟩ => show win0_4.index t 1 * 1024 + 1 * k.val = 1024 + k.val; rw [(index4 t).2]; omega

theorem iblk5 (t : Fin cfg0.N) (r : Fin 256) (k : Fin 512) :
    (iblk m c 5 t : Vec Ideal S256x512 .bf16) (ix2 r k) = (argsM m c).za (ix2 (row t r) (⟨2560 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_5.index t 0 * 256 + 1 * r.val = t.val * 256 + r.val; rw [(index5 t).1]; omega
  | ⟨1, _⟩ => show win0_5.index t 1 * 512 + 1 * k.val = 2560 + k.val; rw [(index5 t).2]; omega

theorem iblk6 (t : Fin cfg0.N) (ht : 0 < t.val) (r : Fin 16) (k : Fin 512) (R : Fin 16384) (hR : R.val + 16 = t.val * 256 + r.val) :
    (iblk m c 6 t : Vec Ideal S16x512 .bf16) (ix2 r k) = (argsM m c).za (ix2 R (⟨2560 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_6.index t 0 * 16 + 1 * r.val = R.val; rw [(index6 t).1]; omega
  | ⟨1, _⟩ => show win0_6.index t 1 * 512 + 1 * k.val = 2560 + k.val; rw [(index6 t).2]; omega

theorem iblk7 (t : Fin cfg0.N) (ht : t.val < 63) (r : Fin 16) (k : Fin 512) (R : Fin 16384) (hR : R.val = t.val * 256 + 256 + r.val) :
    (iblk m c 7 t : Vec Ideal S16x512 .bf16) (ix2 r k) = (argsM m c).za (ix2 R (⟨2560 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_7.index t 0 * 16 + 1 * r.val = R.val; rw [(index7 t).1]; omega
  | ⟨1, _⟩ => show win0_7.index t 1 * 512 + 1 * k.val = 2560 + k.val; rw [(index7 t).2]; omega

theorem iblk8 (t : Fin cfg0.N) (r : Fin 256) (k : Fin 512) :
    (iblk m c 8 t : Vec Ideal S256x512 .bf16) (ix2 r k) = (argsM m c).za (ix2 (row t r) (⟨3072 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_8.index t 0 * 256 + 1 * r.val = t.val * 256 + r.val; rw [(index8 t).1]; omega
  | ⟨1, _⟩ => show win0_8.index t 1 * 512 + 1 * k.val = 3072 + k.val; rw [(index8 t).2]; omega

theorem iblk9 (t : Fin cfg0.N) (ht : 0 < t.val) (r : Fin 16) (k : Fin 512) (R : Fin 16384) (hR : R.val + 16 = t.val * 256 + r.val) :
    (iblk m c 9 t : Vec Ideal S16x512 .bf16) (ix2 r k) = (argsM m c).za (ix2 R (⟨3072 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_9.index t 0 * 16 + 1 * r.val = R.val; rw [(index9 t).1]; omega
  | ⟨1, _⟩ => show win0_9.index t 1 * 512 + 1 * k.val = 3072 + k.val; rw [(index9 t).2]; omega

theorem iblk10 (t : Fin cfg0.N) (ht : t.val < 63) (r : Fin 16) (k : Fin 512) (R : Fin 16384) (hR : R.val = t.val * 256 + 256 + r.val) :
    (iblk m c 10 t : Vec Ideal S16x512 .bf16) (ix2 r k) = (argsM m c).za (ix2 R (⟨3072 + k.val, by omega⟩ : Fin 4608)) := by
  unfold iblk
  rw [View.read_apply]
  show V m c main_arg2 _ = _
  rw [V_main_arg2]
  refine congrArg (m ((c : Thread nD τ).loc main_arg2)) ?_
  funext a
  apply Fin.ext
  match a with
  | ⟨0, _⟩ => show win0_10.index t 0 * 16 + 1 * r.val = R.val; rw [(index10 t).1]; omega
  | ⟨1, _⟩ => show win0_10.index t 1 * 512 + 1 * k.val = 3072 + k.val; rw [(index10 t).2]; omega

theorem iblk11 (t : Fin cfg0.N) (r : Fin 256) (k : Fin 1024) :
    (iblk m c 11 t : Vec Ideal S256x1024 .f32) (ix2 r k) = (argsM m c).df (ix2 (row t r) k) := by
  unfold iblk
  rw [View.read_apply]
  show V m c main_arg3 _ = _
  rw [V_main_arg3]
  refine congrArg (m ((c : Thread nD τ).loc main_arg3)) ?_
  funext a
  apply Fin.ext
  match a with
  | ⟨0, _⟩ => show win0_11.index t 0 * 256 + 1 * r.val = t.val * 256 + r.val; rw [(index11 t).1]; omega
  | ⟨1, _⟩ => show win0_11.index t 1 * 1024 + 1 * k.val = k.val; rw [(index11 t).2]; omega

theorem iblk12 (t : Fin cfg0.N) (ht : 0 < t.val) (r : Fin 8) (k : Fin 1024) (R : Fin 16384) (hR : R.val + 8 = t.val * 256 + r.val) :
    (iblk m c 12 t : Vec Ideal S8x1024 .f32) (ix2 r k) = (argsM m c).df (ix2 R k) := by
  unfold iblk
  rw [View.read_apply]
  show V m c main_arg3 _ = _
  rw [V_main_arg3]
  refine congrArg (m ((c : Thread nD τ).loc main_arg3)) ?_
  funext a
  apply Fin.ext
  match a with
  | ⟨0, _⟩ => show win0_12.index t 0 * 8 + 1 * r.val = R.val; rw [(index12 t).1]; omega
  | ⟨1, _⟩ => show win0_12.index t 1 * 1024 + 1 * k.val = k.val; rw [(index12 t).2]; omega

theorem iblk13 (t : Fin cfg0.N) (ht : t.val < 63) (r : Fin 8) (k : Fin 1024) (R : Fin 16384) (hR : R.val = t.val * 256 + 256 + r.val) :
    (iblk m c 13 t : Vec Ideal S8x1024 .f32) (ix2 r k) = (argsM m c).df (ix2 R k) := by
  unfold iblk
  rw [View.read_apply]
  show V m c main_arg3 _ = _
  rw [V_main_arg3]
  refine congrArg (m ((c : Thread nD τ).loc main_arg3)) ?_
  funext a
  apply Fin.ext
  match a with
  | ⟨0, _⟩ => show win0_13.index t 0 * 8 + 1 * r.val = R.val; rw [(index13 t).1]; omega
  | ⟨1, _⟩ => show win0_13.index t 1 * 1024 + 1 * k.val = k.val; rw [(index13 t).2]; omega

theorem iblk14 (t : Fin cfg0.N) (r : Fin 256) (k : Fin 1024) :
    (iblk m c 14 t : Vec Ideal S256x1024 .f32) (ix2 r k) = (argsM m c).dr (ix2 (row t r) k) := by
  unfold iblk
  rw [View.read_apply]
  show V m c main_arg4 _ = _
  rw [V_main_arg4]
  refine congrArg (m ((c : Thread nD τ).loc main_arg4)) ?_
  funext a
  apply Fin.ext
  match a with
  | ⟨0, _⟩ => show win0_14.index t 0 * 256 + 1 * r.val = t.val * 256 + r.val; rw [(index14 t).1]; omega
  | ⟨1, _⟩ => show win0_14.index t 1 * 1024 + 1 * k.val = k.val; rw [(index14 t).2]; omega

theorem iblk15 (t : Fin cfg0.N) (ht : 0 < t.val) (r : Fin 8) (k : Fin 1024) (R : Fin 16384) (hR : R.val + 8 = t.val * 256 + r.val) :
    (iblk m c 15 t : Vec Ideal S8x1024 .f32) (ix2 r k) = (argsM m c).dr (ix2 R k) := by
  unfold iblk
  rw [View.read_apply]
  show V m c main_arg4 _ = _
  rw [V_main_arg4]
  refine congrArg (m ((c : Thread nD τ).loc main_arg4)) ?_
  funext a
  apply Fin.ext
  match a with
  | ⟨0, _⟩ => show win0_15.index t 0 * 8 + 1 * r.val = R.val; rw [(index15 t).1]; omega
  | ⟨1, _⟩ => show win0_15.index t 1 * 1024 + 1 * k.val = k.val; rw [(index15 t).2]; omega

theorem iblk16 (t : Fin cfg0.N) (ht : t.val < 63) (r : Fin 8) (k : Fin 1024) (R : Fin 16384) (hR : R.val = t.val * 256 + 256 + r.val) :
    (iblk m c 16 t : Vec Ideal S8x1024 .f32) (ix2 r k) = (argsM m c).dr (ix2 R k) := by
  unfold iblk
  rw [View.read_apply]
  show V m c main_arg4 _ = _
  rw [V_main_arg4]
  refine congrArg (m ((c : Thread nD τ).loc main_arg4)) ?_
  funext a
  apply Fin.ext
  match a with
  | ⟨0, _⟩ => show win0_16.index t 0 * 8 + 1 * r.val = R.val; rw [(index16 t).1]; omega
  | ⟨1, _⟩ => show win0_16.index t 1 * 1024 + 1 * k.val = k.val; rw [(index16 t).2]; omega

theorem iblk17 (t : Fin cfg0.N) (r : Fin 256) (k : Fin 512) :
    (iblk m c 17 t : Vec Ideal S256x512 .f32) (ix2 r k) = (argsM m c).dc (ix2 (row t r) k) := by
  unfold iblk
  rw [View.read_apply]
  show V m c main_arg5 _ = _
  rw [V_main_arg5]
  refine congrArg (m ((c : Thread nD τ).loc main_arg5)) ?_
  funext a
  apply Fin.ext
  match a with
  | ⟨0, _⟩ => show win0_17.index t 0 * 256 + 1 * r.val = t.val * 256 + r.val; rw [(index17 t).1]; omega
  | ⟨1, _⟩ => show win0_17.index t 1 * 512 + 1 * k.val = k.val; rw [(index17 t).2]; omega

theorem iblk18 (t : Fin cfg0.N) (ht : 0 < t.val) (r : Fin 8) (k : Fin 512) (R : Fin 16384) (hR : R.val + 8 = t.val * 256 + r.val) :
    (iblk m c 18 t : Vec Ideal S8x512 .f32) (ix2 r k) = (argsM m c).dc (ix2 R k) := by
  unfold iblk
  rw [View.read_apply]
  show V m c main_arg5 _ = _
  rw [V_main_arg5]
  refine congrArg (m ((c : Thread nD τ).loc main_arg5)) ?_
  funext a
  apply Fin.ext
  match a with
  | ⟨0, _⟩ => show win0_18.index t 0 * 8 + 1 * r.val = R.val; rw [(index18 t).1]; omega
  | ⟨1, _⟩ => show win0_18.index t 1 * 512 + 1 * k.val = k.val; rw [(index18 t).2]; omega

theorem iblk19 (t : Fin cfg0.N) (ht : t.val < 63) (r : Fin 8) (k : Fin 512) (R : Fin 16384) (hR : R.val = t.val * 256 + 256 + r.val) :
    (iblk m c 19 t : Vec Ideal S8x512 .f32) (ix2 r k) = (argsM m c).dc (ix2 R k) := by
  unfold iblk
  rw [View.read_apply]
  show V m c main_arg5 _ = _
  rw [V_main_arg5]
  refine congrArg (m ((c : Thread nD τ).loc main_arg5)) ?_
  funext a
  apply Fin.ext
  match a with
  | ⟨0, _⟩ => show win0_19.index t 0 * 8 + 1 * r.val = R.val; rw [(index19 t).1]; omega
  | ⟨1, _⟩ => show win0_19.index t 1 * 512 + 1 * k.val = k.val; rw [(index19 t).2]; omega

theorem iblk20 (t : Fin cfg0.N) (r : Fin 256) (k : Fin 1024) :
    (iblk m c 20 t : Vec Ideal S256x1024 .bf16) (ix2 r k) = (argsM m c).gate (ix2 (row t r) k) := by
  unfold iblk
  rw [View.read_apply]
  show V m c main_arg6 _ = _
  rw [V_main_arg6]
  refine congrArg (m ((c : Thread nD τ).loc main_arg6)) ?_
  funext a
  apply Fin.ext
  match a with
  | ⟨0, _⟩ => show win0_20.index t 0 * 256 + 1 * r.val = t.val * 256 + r.val; rw [(index20 t).1]; omega
  | ⟨1, _⟩ => show win0_20.index t 1 * 1024 + 1 * k.val = k.val; rw [(index20 t).2]; omega

theorem iblk21 (t : Fin cfg0.N) (r : Fin 256) (k : Fin 512) :
    (iblk m c 21 t : Vec Ideal S256x512 .bf16) (ix2 r k) = (argsM m c).sb (ix2 (row t r) k) := by
  unfold iblk
  rw [View.read_apply]
  show V m c main_arg7 _ = _
  rw [V_main_arg7]
  refine congrArg (m ((c : Thread nD τ).loc main_arg7)) ?_
  funext a
  apply Fin.ext
  match a with
  | ⟨0, _⟩ => show win0_21.index t 0 * 256 + 1 * r.val = t.val * 256 + r.val; rw [(index21 t).1]; omega
  | ⟨1, _⟩ => show win0_21.index t 1 * 512 + 1 * k.val = k.val; rw [(index21 t).2]; omega

theorem iblk22 (t : Fin cfg0.N) (r : Fin 256) (k : Fin 512) :
    (iblk m c 22 t : Vec Ideal S256x512 .bf16) (ix2 r k) = (argsM m c).su (ix2 (row t r) k) := by
  unfold iblk
  rw [View.read_apply]
  show V m c main_arg8 _ = _
  rw [V_main_arg8]
  refine congrArg (m ((c : Thread nD τ).loc main_arg8)) ?_
  funext a
  apply Fin.ext
  match a with
  | ⟨0, _⟩ => show win0_22.index t 0 * 256 + 1 * r.val = t.val * 256 + r.val; rw [(index22 t).1]; omega
  | ⟨1, _⟩ => show win0_22.index t 1 * 512 + 1 * k.val = k.val; rw [(index22 t).2]; omega

theorem iblk23 (t : Fin cfg0.N) (r : Fin 256) (k : Fin 512) :
    (iblk m c 23 t : Vec Ideal S256x512 .bf16) (ix2 r k) = (argsM m c).sv (ix2 (row t r) k) := by
  unfold iblk
  rw [View.read_apply]
  show V m c main_arg9 _ = _
  rw [V_main_arg9]
  refine congrArg (m ((c : Thread nD τ).loc main_arg9)) ?_
  funext a
  apply Fin.ext
  match a with
  | ⟨0, _⟩ => show win0_23.index t 0 * 256 + 1 * r.val = t.val * 256 + r.val; rw [(index23 t).1]; omega
  | ⟨1, _⟩ => show win0_23.index t 1 * 512 + 1 * k.val = k.val; rw [(index23 t).2]; omega

theorem iblk24 (t : Fin cfg0.N) (r : Fin 256) (k : Fin 3072) :
    (iblk m c 24 t : Vec Ideal S256x3072 .bf16) (ix2 r k) = (argsM m c).zm (ix2 (row t r) k) := by
  unfold iblk
  rw [View.read_apply]
  show V m c main_arg10 _ = _
  rw [V_main_arg10]
  refine congrArg (m ((c : Thread nD τ).loc main_arg10)) ?_
  funext a
  apply Fin.ext
  match a with
  | ⟨0, _⟩ => show win0_24.index t 0 * 256 + 1 * r.val = t.val * 256 + r.val; rw [(index24 t).1]; omega
  | ⟨1, _⟩ => show win0_24.index t 1 * 3072 + 1 * k.val = k.val; rw [(index24 t).2]; omega

theorem iblk25 (t : Fin cfg0.N) (r : Fin 1) (k : Fin 1024) : (iblk m c 25 t : Vec Ideal S1x1024 .f32) (ix2 r k) = (argsM m c).g (ix2 r k) := by
  unfold iblk
  rw [View.read_apply]
  show V m c main_arg11 _ = _
  rw [V_main_arg11]
  refine congrArg (m ((c : Thread nD τ).loc main_arg11)) ?_
  funext a
  apply Fin.ext
  match a with
  | ⟨0, _⟩ => show win0_25.index t 0 * 1 + 1 * r.val = r.val; rw [(index25 t).1]; omega
  | ⟨1, _⟩ => show win0_25.index t 1 * 1024 + 1 * k.val = k.val; rw [(index25 t).2]; omega

theorem iblk26 (t : Fin cfg0.N) (r : Fin 4) (k : Fin 1024) : (iblk m c 26 t : Vec Ideal S4x1024 .f32) (ix2 r k) = (argsM m c).lw (ix2 r k) := by
  unfold iblk
  rw [View.read_apply]
  show V m c main_arg12 _ = _
  rw [V_main_arg12]
  refine congrArg (m ((c : Thread nD τ).loc main_arg12)) ?_
  funext a
  apply Fin.ext
  match a with
  | ⟨0, _⟩ => show win0_26.index t 0 * 4 + 1 * r.val = r.val; rw [(index26 t).1]; omega
  | ⟨1, _⟩ => show win0_26.index t 1 * 1024 + 1 * k.val = k.val; rw [(index26 t).2]; omega

theorem iblk27 (t : Fin cfg0.N) (r : Fin 3) (k : Fin 512) : (iblk m c 27 t : Vec Ideal S3x512 .f32) (ix2 r k) = (argsM m c).sw (ix2 r k) := by
  unfold iblk
  rw [View.read_apply]
  show V m c main_arg13 _ = _
  rw [V_main_arg13]
  refine congrArg (m ((c : Thread nD τ).loc main_arg13)) ?_
  funext a
  apply Fin.ext
  match a with
  | ⟨0, _⟩ => show win0_27.index t 0 * 3 + 1 * r.val = r.val; rw [(index27 t).1]; omega
  | ⟨1, _⟩ => show win0_27.index t 1 * 512 + 1 * k.val = k.val; rw [(index27 t).2]; omega

/-- The projection's weight, transposed by the host. -/
def prepared (w : FVec Ideal S1024x7680 .f32) : FVec Ideal S7680x1024 .bf16 :=
  truncf .bf16 (transpose S7680x1024 [1, 0] w transposes_S1024x7680_S7680x1024_1_0) bitsLt_bf16_f32

theorem prepared_apply (w : FVec Ideal S1024x7680 .f32) (q : Fin 7680) (k : Fin 1024) :
    prepared w (ix2 q k) = w (ix2 k q) := by
  pointwise [prepared]

theorem prep28 : V m c main_v1 = prepared (argsM m c).w := by
  show StableHlo.after hostOps0 _ (Proc.devRef .tc main_v1) = _
  after_results_simp <;> rfl

theorem iblk28 (t : Fin cfg0.N) (q : Fin 7680) (k : Fin 1024) :
    (iblk m c 28 t : Vec Ideal S7680x1024 .bf16) (ix2 q k) = (argsM m c).w (ix2 k q) := by
  rw [← prepared_apply (argsM m c).w, ← prep28]
  unfold iblk
  rw [View.read_apply]
  show V m c main_v1 _ = _
  congr 1
  funext a
  apply Fin.ext
  match a with
  | ⟨0, _⟩ => show win0_28.index t 0 * 7680 + 1 * q.val = q.val; rw [(index28 t).1]; omega
  | ⟨1, _⟩ => show win0_28.index t 1 * 1024 + 1 * k.val = k.val; rw [(index28 t).2]; omega

end Cert.MixInBwd
-- ==== Proof.MixInBwd.Shift.lean ====
/-
  ROWS SHIFTED BY ONE OR TWO, as one grid point of the projection's backward call computes them.

  The point holds 256 rows of an array and some rows before and after them. It rolls its rows round and replaces the
  ones that came from the wrong end by the neighbouring rows. Here each column is a function of a whole number, the row
  counted from the point's first one: the rows before it have negative numbers, the rows after it numbers from 256 on.
-/
module

public import proofs.«01_k».proof.Proof.RmsRow
public import proofs.«01_k».proof.Proof.Gen.KernelIdeal.Skeleton
public import Idealize.ShloMosaic.Lib.Tactic

@[expose] public section

set_option maxRecDepth 16384

noncomputable section

namespace Cert.MixInBwd

open Cert.KernelIdeal Cert.KernelIdeal.Gen Idealize.ShloMosaic Idealize.ShloMosaic.TcCoe Idealize.SL.Sem
open Cert.Rms

/-- Choosing by the equality of two small row numbers. -/
theorem sel_eq {α : Type} (a b : ℕ) (ha : a < 8) (hb : b < 8) (x y : α) :
    Scalar.select (IntOp.cmpi CmpIPredicate.eq (BitVec.ofNat 32 a) (BitVec.ofNat 32 b)) x y = if a = b then x else y := by
  have e : IntOp.cmpi CmpIPredicate.eq (BitVec.ofNat 32 a) (BitVec.ofNat 32 b) = if a = b then 1#1 else 0#1 := by
    have := (by decide +kernel : ∀ a b : Fin 8,
      IntOp.cmpi CmpIPredicate.eq (BitVec.ofNat 32 a.val) (BitVec.ofNat 32 b.val) = if a.val = b.val then 1#1 else 0#1)
    exact this ⟨a, ha⟩ ⟨b, hb⟩
  rw [e]
  by_cases h : a = b
  · rw [if_pos h, if_pos h]; rfl
  · rw [if_neg h, if_neg h]; rfl

/-- The test whether there is a point before. -/
theorem sgt_eq {α : Type} (t : ℕ) (ht : t < 64) (x y : α) :
    Scalar.select (Scalar.cmpi CmpIPredicate.sgt (BitVec.ofNat 32 t) 0#32) x y = if 0 < t then x else y := by
  have e := (by decide +kernel : ∀ t : Fin 64,
    Scalar.cmpi CmpIPredicate.sgt (BitVec.ofNat 32 t.val) 0#32 = if 0 < t.val then 1#1 else 0#1) ⟨t, ht⟩
  rw [e]
  by_cases h : 0 < t
  · rw [if_pos h, if_pos h]; rfl
  · rw [if_neg h, if_neg h]; rfl

/-- The test whether there is a point after. -/
theorem slt_eq {α : Type} (t : ℕ) (ht : t < 64) (x y : α) :
    Scalar.select (Scalar.cmpi CmpIPredicate.slt (BitVec.ofNat 32 t) 63#32) x y = if t < 63 then x else y := by
  have e := (by decide +kernel : ∀ t : Fin 64,
    Scalar.cmpi CmpIPredicate.slt (BitVec.ofNat 32 t.val) 63#32 = if t.val < 63 then 1#1 else 0#1) ⟨t, ht⟩
  rw [e]
  by_cases h : t < 63
  · rw [if_pos h, if_pos h]; rfl
  · rw [if_neg h, if_neg h]; rfl

/-- The row numbers of a block. -/
abbrev rowNo : IVec S256x1 32 := iota .tc S256x1 32 [0] iota_S256x1_d0_w32

/-- A sum over the rows in two parts. -/
theorem split_sum (a b n : ℕ) (h : a + b = n) (f : Fin n → EReal) :
    ∑ r, f r = ∑ x : Fin a, f ⟨x.val, by omega⟩ + ∑ x : Fin b, f ⟨a + x.val, by omega⟩ := by
  subst h
  exact Fin.sum_univ_add f

/-! ## The gradient of the convolution's input -/

/-- The rows two after and one after, times their taps, and the row itself. -/
theorem pay12_eq (v18 v19 : FVec Ideal S256x1024 .f32) (v22 : FVec Ideal S8x1024 .f32) (w2 w0 w1 : FVec Ideal S1x1024 .f32)
    (G : Fin 1024 → ℤ → EReal) (hG : ∀ r k, v18 (ix2 r k) + v19 (ix2 r k) = G k r.val)
    (h0 : ∀ k, v22 (ix2 0 k) = G k 256) (h1 : ∀ k, v22 (ix2 1 k) = G k 257) (r : Fin 256) (k : Fin 1024) :
    k0_pay12 (F := Ideal) rowNo (k0_pay4 (F := Ideal) v18 v19) v22 (k0_pay7 (F := Ideal) v18 v19 w2) w0 (k0_pay8 (F := Ideal) v18 v19) k0_pay9 (k0_pay10 (F := Ideal) v18 v19) k0_pay11 w1 (ix2 r k)
      = w2 (ix2 0 k) * G k r.val + w0 (ix2 0 k) * G k (r.val + 2) + w1 (ix2 0 k) * G k (r.val + 1) := by
  have hr := r.isLt
  pointwise [k0_pay12, k0_pay4, k0_pay7, k0_pay8, k0_pay9, k0_pay10, k0_pay11]
  simp only [hG]
  by_cases h : r.val < 248
  · simp only [dif_pos h]
    refine congrArg₂ (· + ·) (congrArg₂ (· + ·) rfl (congrArg (_ * ·) (congrArg (G k) ?_))) (congrArg (_ * ·) (congrArg (G k) ?_)) <;> (try dsimp only) <;> omega
  · simp only [dif_neg h]
    rw [sel_eq _ 7 (by omega) (by omega), sel_eq _ 6 (by omega) (by omega), sel_eq _ 7 (by omega) (by omega)]
    by_cases h7 : r.val - 248 = 7
    · rw [if_pos h7, if_pos h7, h0, h1]
      refine congrArg₂ (· + ·) (congrArg₂ (· + ·) rfl (congrArg (_ * ·) (congrArg (G k) ?_))) (congrArg (_ * ·) (congrArg (G k) ?_)) <;> (try dsimp only) <;> omega
    · rw [if_neg h7, if_neg h7]
      by_cases h6 : r.val - 248 = 6
      · rw [if_pos h6, h0]
        refine congrArg₂ (· + ·) (congrArg₂ (· + ·) rfl (congrArg (_ * ·) (congrArg (G k) ?_))) (congrArg (_ * ·) (congrArg (G k) ?_)) <;> (try dsimp only) <;> omega
      · rw [if_neg h6]
        refine congrArg₂ (· + ·) (congrArg₂ (· + ·) rfl (congrArg (_ * ·) (congrArg (G k) ?_))) (congrArg (_ * ·) (congrArg (G k) ?_)) <;> (try dsimp only) <;> omega

theorem pay13_eq (v18 v19 : FVec Ideal S256x1024 .f32) (v21 : FVec Ideal S8x1024 .f32)
    (G : Fin 1024 → ℤ → EReal) (hG : ∀ r k, v18 (ix2 r k) + v19 (ix2 r k) = G k r.val)
    (h1 : ∀ k, v21 (ix2 7 k) = G k (-1)) (r : Fin 256) (k : Fin 1024) :
    k0_pay13 (F := Ideal) rowNo (k0_pay4 (F := Ideal) v18 v19) v21 (ix2 r k) = G k (r.val - 1) := by
  have hr := r.isLt
  pointwise [k0_pay13, k0_pay4]
  by_cases h : r.val < 8
  · rw [dif_pos h, sel_eq _ 0 (by omega) (by omega)]
    by_cases h' : r.val = 0
    · rw [if_pos h', h1]; exact congrArg (G k) (by omega)
    · rw [if_neg h', hG]; refine congrArg (G k) ?_; (try dsimp only); omega
  · rw [dif_neg h, hG]; refine congrArg (G k) ?_; (try dsimp only); omega

theorem pay15_eq (v67 v81 : FVec Ideal S256x1024 .f32) (w3 : FVec Ideal S1x1024 .f32) (r : Fin 256) (k : Fin 1024) :
    k0_pay15 (F := Ideal) v67 v81 (k0_pay14 (F := Ideal) w3) (ix2 r k) = v67 (ix2 r k) + w3 (ix2 0 k) * v81 (ix2 r k) := by
  pointwise [k0_pay15, k0_pay14]

/-! ## The rows before and after the block, zero outside the array -/

theorem pay5_eq (i : grid0.Coords) (x y : FVec Ideal S8x1024 .f32) (q : Fin 8) (k : Fin 1024) :
    k0_pay5 (F := Ideal) i x y (ix2 q k) = if 0 < (i 0).val then x (ix2 q k) + y (ix2 q k) else 0 := by
  pointwise [k0_pay5]
  rw [sgt_eq _ (i 0).isLt, sgt_eq _ (i 0).isLt]
  by_cases h : 0 < (i 0).val
  · simp only [if_pos h]
  · simp only [if_neg h, add_zero]

theorem pay6_eq (i : grid0.Coords) (x y : FVec Ideal S8x1024 .f32) (q : Fin 8) (k : Fin 1024) :
    k0_pay6 (F := Ideal) i x y (ix2 q k) = if (i 0).val < 63 then x (ix2 q k) + y (ix2 q k) else 0 := by
  pointwise [k0_pay6]
  rw [slt_eq _ (i 0).isLt, slt_eq _ (i 0).isLt]
  by_cases h : (i 0).val < 63
  · simp only [if_pos h]
  · simp only [if_neg h, add_zero]

theorem pay16_eq (t : ℕ) (ht : t < 64) (x : FVec Ideal S16x1024 .bf16) (q : Fin 16) (k : Fin 1024) :
    k0_pay16 (F := Ideal) (BitVec.ofNat 32 t) x (ix2 q k) = if 0 < t then x (ix2 q k) else 0 := by
  pointwise [k0_pay16]
  rw [sgt_eq _ ht]

theorem pay17_eq (t : ℕ) (ht : t < 64) (x : FVec Ideal S16x1024 .bf16) (q : Fin 16) (k : Fin 1024) :
    k0_pay17 (F := Ideal) (BitVec.ofNat 32 t) x (ix2 q k) = if t < 63 then x (ix2 q k) else 0 := by
  pointwise [k0_pay17]
  rw [slt_eq _ ht]

theorem pay33_eq (t : ℕ) (ht : t < 64) (x : FVec Ideal S16x512 .bf16) (q : Fin 16) (k : Fin 512) :
    k0_pay33 (F := Ideal) (BitVec.ofNat 32 t) x (ix2 q k) = if 0 < t then x (ix2 q k) else 0 := by
  pointwise [k0_pay33]
  rw [sgt_eq _ ht]

theorem pay34_eq (t : ℕ) (ht : t < 64) (x : FVec Ideal S16x512 .bf16) (q : Fin 16) (k : Fin 512) :
    k0_pay34 (F := Ideal) (BitVec.ofNat 32 t) x (ix2 q k) = if t < 63 then x (ix2 q k) else 0 := by
  pointwise [k0_pay34]
  rw [slt_eq _ ht]

theorem pay35_eq (t : ℕ) (ht : t < 64) (x : FVec Ideal S16x512 .bf16) (q : Fin 16) (k : Fin 512) :
    k0_pay35 (F := Ideal) (BitVec.ofNat 32 t) x (ix2 q k) = if 0 < t then x (ix2 q k) else 0 := by
  pointwise [k0_pay35]
  rw [sgt_eq _ ht]

theorem pay42_eq (t : ℕ) (ht : t < 64) (x : FVec Ideal S8x512 .f32) (q : Fin 8) (k : Fin 512) :
    k0_pay42 (F := Ideal) (BitVec.ofNat 32 t) x (ix2 q k) = if 0 < t then x (ix2 q k) else 0 := by
  pointwise [k0_pay42]
  rw [sgt_eq _ ht]

theorem pay43_eq (t : ℕ) (ht : t < 64) (x : FVec Ideal S8x512 .f32) (q : Fin 8) (k : Fin 512) :
    k0_pay43 (F := Ideal) (BitVec.ofNat 32 t) x (ix2 q k) = if t < 63 then x (ix2 q k) else 0 := by
  pointwise [k0_pay43]
  rw [slt_eq _ ht]

/-! ## The convolution's own input, shifted, and the sums of the taps' gradients -/

theorem pay22_eq (t : ℕ) (v86 : FVec Ideal S16x1024 .bf16) (v95 : FVec Ideal S256x1024 .bf16) (L : Fin 1024 → ℤ → EReal)
    (hL : ∀ r k, v95 (ix2 r k) = L k r.val) (h0 : ∀ k, k0_pay16 (F := Ideal) (BitVec.ofNat 32 t) v86 (ix2 14 k) = L k (-2))
    (h1 : ∀ k, k0_pay16 (F := Ideal) (BitVec.ofNat 32 t) v86 (ix2 15 k) = L k (-1)) (q : Fin 8) (k : Fin 1024) :
    k0_pay22 (F := Ideal) (BitVec.ofNat 32 t) rowNo v86 v95 (ix2 q k) = L k (q.val - 2) := by
  have hq := q.isLt
  pointwise [k0_pay22, k0_pay21, k0_pay18]
  rw [sel_eq _ 1 (by omega) (by omega), sel_eq _ 0 (by omega) (by omega)]
  by_cases h : q.val = 1
  · rw [if_pos h, h1]; exact congrArg (L k) (by omega)
  · rw [if_neg h]
    by_cases h' : q.val = 0
    · rw [if_pos h', h0]; exact congrArg (L k) (by omega)
    · rw [if_neg h', hL]; refine congrArg (L k) ?_; (try dsimp only); omega

theorem pay23_eq (v95 : FVec Ideal S256x1024 .bf16) (L : Fin 1024 → ℤ → EReal)
    (hL : ∀ r k, v95 (ix2 r k) = L k r.val) (q : Fin 248) (k : Fin 1024) :
    k0_pay23 (F := Ideal) v95 (ix2 q k) = L k (q.val + 6) := by
  have hq := q.isLt
  pointwise [k0_pay23, k0_pay21, k0_pay18]
  rw [hL]; refine congrArg (L k) ?_; (try dsimp only); omega

theorem pay24_eq (v20 : FVec Ideal S256x1024 .f32) (v122 : FVec Ideal S8x1024 .f32) (v123 : FVec Ideal S248x1024 .f32)
    (G L : Fin 1024 → ℤ → EReal) (hG : ∀ r k, v20 (ix2 r k) = G k r.val) (h1 : ∀ q k, v122 (ix2 q k) = L k (q.val - 2))
    (h2 : ∀ q k, v123 (ix2 q k) = L k (q.val + 6)) (u : Fin 1) (k : Fin 1024) :
    k0_pay24 (F := Ideal) v20 v122 v123 (ix2 u k) = ∑ r : Fin 256, G k r.val * L k (r.val - 2) := by
  pointwise [k0_pay24]
  rw [split_sum 8 248 256 rfl]
  refine congrArg₂ (· + ·) (Finset.sum_congr rfl fun x _ => ?_) (Finset.sum_congr rfl fun x _ => ?_)
  · rw [hG, h1]
  · rw [hG, h2]; refine congrArg (_ * ·) (congrArg (L k) ?_); push_cast; omega

theorem pay26_eq (v20 : FVec Ideal S256x1024 .f32) (v89 : FVec Ideal S16x1024 .f32) (v96 : FVec Ideal S256x1024 .f32)
    (G L : Fin 1024 → ℤ → EReal) (hG : ∀ r k, v20 (ix2 r k) = G k r.val) (hL : ∀ r k, v96 (ix2 r k) = L k r.val)
    (h1 : ∀ k, v89 (ix2 15 k) = L k (-1)) (u : Fin 1) (k : Fin 1024) :
    k0_pay26 (F := Ideal) rowNo v20 v89 v96 (ix2 u k) = ∑ r : Fin 256, G k r.val * L k (r.val - 1) := by
  pointwise [k0_pay26]
  rw [split_sum 8 248 256 rfl]
  refine congrArg₂ (· + ·) (Finset.sum_congr rfl fun x _ => ?_) (Finset.sum_congr rfl fun x _ => ?_)
  · have hx := x.isLt
    rw [hG]
    refine congrArg (_ * ·) ?_
    rw [sel_eq _ 0 (by omega) (by omega)]
    by_cases h' : x.val = 0
    · rw [if_pos h', h1]; refine congrArg (L k) ?_; (try dsimp only); omega
    · rw [if_neg h', hL]; refine congrArg (L k) ?_; (try dsimp only); omega
  · have hx := x.isLt
    rw [hG, hL]; refine congrArg (_ * ·) (congrArg (L k) ?_); (try dsimp only); omega

theorem pay28_eq (v20 v96 : FVec Ideal S256x1024 .f32)
    (G L : Fin 1024 → ℤ → EReal) (hG : ∀ r k, v20 (ix2 r k) = G k r.val) (hL : ∀ r k, v96 (ix2 r k) = L k r.val) (u : Fin 1) (k : Fin 1024) :
    k0_pay28 (F := Ideal) v20 v96 (ix2 u k) = ∑ r : Fin 256, G k r.val * L k r.val := by
  pointwise [k0_pay28]
  exact Finset.sum_congr rfl fun r _ => by rw [hG, hL]

theorem pay31_eq (v20 : FVec Ideal S256x1024 .f32) (v94 : FVec Ideal S16x1024 .f32) (v96 : FVec Ideal S256x1024 .f32)
    (G L : Fin 1024 → ℤ → EReal) (hG : ∀ r k, v20 (ix2 r k) = G k r.val) (hL : ∀ r k, v96 (ix2 r k) = L k r.val)
    (h1 : ∀ k, v94 (ix2 0 k) = L k 256) (u : Fin 1) (k : Fin 1024) :
    k0_pay31 (F := Ideal) rowNo v20 v94 (k0_pay30 (F := Ideal) v96) (ix2 u k) = ∑ r : Fin 256, G k r.val * L k (r.val + 1) := by
  have e : ∀ (r : Fin 256) (k : Fin 1024), k0_pay30 (F := Ideal) v96 (ix2 r k) = if r.val = 255 then L k 0 else L k (r.val + 1) := by
    intro r k
    have hr := r.isLt
    pointwise [k0_pay30]
    rw [hL]
    by_cases h : r.val = 255
    · rw [if_pos h]; refine congrArg (L k) ?_; (try dsimp only); omega
    · rw [if_neg h]; refine congrArg (L k) ?_; (try dsimp only); omega
  generalize k0_pay30 (F := Ideal) v96 = v162 at e ⊢
  pointwise [k0_pay31]
  rw [split_sum 248 8 256 rfl]
  refine congrArg₂ (· + ·) (Finset.sum_congr rfl fun x _ => ?_) (Finset.sum_congr rfl fun x _ => ?_)
  · have hx := x.isLt
    rw [hG, e, if_neg (by (try dsimp only); omega)]
  · have hx := x.isLt
    rw [hG]
    refine congrArg (_ * ·) ?_
    rw [sel_eq _ 7 (by omega) (by omega)]
    by_cases h' : x.val = 7
    · rw [if_pos h', h1]; refine congrArg (L k) ?_; (try dsimp only); omega
    · rw [if_neg h', e, if_neg (by (try dsimp only); omega)]

theorem pay19_eq (v20 : FVec Ideal S256x1024 .f32) (G : Fin 1024 → ℤ → EReal) (hG : ∀ r k, v20 (ix2 r k) = G k r.val)
    (u : Fin 1) (k : Fin 1024) : k0_pay19 (F := Ideal) v20 (ix2 u k) = ∑ r : Fin 256, G k r.val := by
  pointwise [k0_pay19]
  exact Finset.sum_congr rfl fun r _ => hG r k

/-! ## The short convolution of the product of two columns -/

section
variable (v203 v205 : FVec Ideal S256x512 .bf16) (P : Fin 512 → ℤ → EReal)
  (hP : ∀ r k, v203 (ix2 r k) * v205 (ix2 r k) = P k r.val)
include hP

theorem pay39_eq (r : Fin 256) (k : Fin 512) : k0_pay39 (F := Ideal) v203 v205 (ix2 r k) = P k r.val := by
  rw [← hP]
  pointwise [k0_pay39, k0_pay37, k0_pay38]

theorem pay40_eq (v187 v197 : FVec Ideal S16x512 .f32) (h : ∀ k, v187 (ix2 15 k) * v197 (ix2 15 k) = P k (-1))
    (r : Fin 256) (k : Fin 512) : k0_pay40 (F := Ideal) rowNo v187 v197 v203 v205 (ix2 r k) = P k (r.val - 1) := by
  have hr := r.isLt
  pointwise [k0_pay40, k0_pay39, k0_pay37, k0_pay38]
  by_cases h8 : r.val < 8
  · rw [dif_pos h8, sel_eq _ 0 (by omega) (by omega)]
    by_cases h' : r.val = 0
    · rw [if_pos h', h]; exact congrArg (P k) (by omega)
    · rw [if_neg h', hP]; refine congrArg (P k) ?_; (try dsimp only); omega
  · rw [dif_neg h8, hP]; refine congrArg (P k) ?_; (try dsimp only); omega

theorem pay41_eq (t : ℕ) (ht : t < 64) (v192 v200 : FVec Ideal S16x512 .f32)
    (h : ∀ k, (if t < 63 then v192 (ix2 0 k) * v200 (ix2 0 k) else 0) = P k 256) (r : Fin 256) (k : Fin 512) :
    k0_pay41 (F := Ideal) rowNo v192 (Scalar.cmpi CmpIPredicate.slt (BitVec.ofNat 32 t) 63#32) v200 v203 v205 (ix2 r k) = P k (r.val + 1) := by
  have hr := r.isLt
  pointwise [k0_pay41, k0_pay39, k0_pay37, k0_pay38]
  by_cases h8 : r.val < 248
  · rw [dif_pos h8, hP]; refine congrArg (P k) ?_; (try dsimp only); omega
  · rw [dif_neg h8, sel_eq _ 7 (by omega) (by omega)]
    by_cases h' : r.val - 248 = 7
    · rw [if_pos h', slt_eq t ht, h]; exact congrArg (P k) (by omega)
    · rw [if_neg h', hP]; refine congrArg (P k) ?_; (try dsimp only); omega
end

theorem pay44_eq (v239 v243 : FVec Ideal S8x512 .f32) (v244 : FVec Ideal S256x512 .f32) (w1 w0 w2 : FVec Ideal S1x512 .f32)
    (G : Fin 512 → ℤ → EReal) (hG : ∀ r k, v244 (ix2 r k) = G k r.val)
    (hp : ∀ k, v239 (ix2 7 k) = G k (-1)) (hn : ∀ k, v243 (ix2 0 k) = G k 256) (r : Fin 256) (k : Fin 512) :
    k0_pay44 (F := Ideal) rowNo v239 v243 v244 w1 w0 w2 (ix2 r k)
      = w1 (ix2 0 k) * G k r.val + w0 (ix2 0 k) * G k (r.val + 1) + w2 (ix2 0 k) * G k (r.val - 1) := by
  have hr := r.isLt
  pointwise [k0_pay44]
  refine congrArg₂ (· + ·) (congrArg₂ (· + ·) (by rw [hG]) (congrArg (_ * ·) ?_)) (congrArg (_ * ·) ?_)
  · by_cases h8 : r.val < 248
    · rw [dif_pos h8, hG]; refine congrArg (G k) ?_; (try dsimp only); omega
    · rw [dif_neg h8, sel_eq _ 7 (by omega) (by omega)]
      by_cases h' : r.val - 248 = 7
      · rw [if_pos h', hn]; exact congrArg (G k) (by omega)
      · rw [if_neg h', hG]; refine congrArg (G k) ?_; (try dsimp only); omega
  · by_cases h8 : r.val < 8
    · rw [dif_pos h8, sel_eq _ 0 (by omega) (by omega)]
      by_cases h' : r.val = 0
      · rw [if_pos h', hp]; exact congrArg (G k) (by omega)
      · rw [if_neg h', hG]; refine congrArg (G k) ?_; (try dsimp only); omega
    · rw [dif_neg h8, hG]; refine congrArg (G k) ?_; (try dsimp only); omega

theorem pay45_eq (x y : FVec Ideal S256x512 .f32) (u : Fin 1) (k : Fin 512) :
    k0_pay45 (F := Ideal) x y (ix2 u k) = ∑ r : Fin 256, y (ix2 r k) * x (ix2 r k) := by
  pointwise [k0_pay45]

theorem pay47_eq (x y : FVec Ideal S256x512 .f32) (u : Fin 1) (k : Fin 512) :
    k0_pay47 (F := Ideal) x y (ix2 u k) = ∑ r : Fin 256, y (ix2 r k) * x (ix2 r k) := by
  pointwise [k0_pay47]

theorem pay49_eq (x y : FVec Ideal S256x512 .f32) (u : Fin 1) (k : Fin 512) :
    k0_pay49 (F := Ideal) x y (ix2 u k) = ∑ r : Fin 256, y (ix2 r k) * x (ix2 r k) := by
  pointwise [k0_pay49]

end Cert.MixInBwd
-- ==== Proof.MixInBwd.Entry.lean ====
/-
  WHAT A GRID POINT OF THE PROJECTION'S BACKWARD CALL COMPUTES FROM ITS BLOCKS, entry by entry, in the formulas of the
  whole arrays.
-/
module

public import proofs.«01_k».proof.Proof.MixInBwd.Inputs
public import proofs.«01_k».proof.Proof.MixInBwd.Shift
public import Idealize.ShloMosaic.Lib.Pipeline.ValueKit.Tiles

@[expose] public section

set_option maxRecDepth 16384

noncomputable section

namespace Cert.MixInBwd

open Cert.KernelIdeal Cert.KernelIdeal.Gen Idealize.ShloMosaic Idealize.ShloMosaic.TcCoe Idealize.SL.Sem
open Cert.Rms

theorem hz2 : (![0, 0] : Fin 2 → Nat) = fun _ => 0 := funext fun a => by fin_cases a <;> rfl

/-- A row of the first convolution's taps. -/
theorem ld_lw (X : Vec Ideal S4x1024 .f32) (n : ℕ) (hn : n < 4)
    (inb : ∀ a, (![n, 0] : Fin 2 → Nat) a + S1x1024.size a ≤ S4x1024.size a) (u : Fin 1) (k : Fin 1024) :
    View.ld X (Rect.unit (s := S4x1024) ![n, 0] S1x1024.size inb) (ix2 u k) = X (ix2 (⟨n, hn⟩ : Fin 4) k) := by
  refine View.ld_unit_apply_of X _ _ inb _ _ fun a => ?_
  match a with
  | ⟨0, _⟩ => show n = n + u.val; omega
  | ⟨1, _⟩ => show k.val = 0 + k.val; omega

/-- A row of the second convolution's taps. -/
theorem ld_sw (X : Vec Ideal S3x512 .f32) (n : ℕ) (hn : n < 3)
    (inb : ∀ a, (![n, 0] : Fin 2 → Nat) a + S1x512.size a ≤ S3x512.size a) (u : Fin 1) (k : Fin 512) :
    View.ld X (Rect.unit (s := S3x512) ![n, 0] S1x512.size inb) (ix2 u k) = X (ix2 (⟨n, hn⟩ : Fin 3) k) := by
  refine View.ld_unit_apply_of X _ _ inb _ _ fun a => ?_
  match a with
  | ⟨0, _⟩ => show n = n + u.val; omega
  | ⟨1, _⟩ => show k.val = 0 + k.val; omega

theorem coord : ∀ t : Fin grid0.N, (grid0.coords t 0).val = t.val := by decide +kernel

variable (m : (ℓ : Loc nD τ sig) → Buf (Elt Ideal) ℓ) (c : Dev nD) (t : Fin cfg0.N)

/-! ## The columns, counted from the point's first row -/

def G (k : Fin 1024) (n : ℤ) : EReal := gCol (argsM m c) k (t.val * 256 + n)
def L (k : Fin 1024) (n : ℤ) : EReal := lCol (argsM m c) k (t.val * 256 + n)
def P (k : Fin 512) (n : ℤ) : EReal := pCol (argsM m c) k (t.val * 256 + n)
def C (k : Fin 512) (n : ℤ) : EReal := cCol (argsM m c) k (t.val * 256 + n)

theorem lt64 : t.val < 64 := lt_of_lt_of_eq t.isLt points

theorem row_val (r : Fin 256) : ((row t r).val : ℤ) = t.val * 256 + r.val := by
  unfold row; push_cast; rfl

/-! ### The blocks' own rows -/

theorem g_cur (r : Fin 256) (k : Fin 1024) :
    @HAdd.hAdd EReal EReal EReal _ ((iblk m c 11 t : Vec Ideal S256x1024 .f32) (ix2 r k)) ((iblk m c 14 t : Vec Ideal S256x1024 .f32) (ix2 r k)) = G m c t k r.val := by
  rw [iblk11, iblk14]
  unfold G gCol
  rw [zp_of _ _ (row t r) (row_val t r).symm]

theorem g_cur4 (r : Fin 256) (k : Fin 1024) :
    k0_pay4 (F := Ideal) (iblk m c 11 t) (iblk m c 14 t) (ix2 r k) = G m c t k r.val := by
  rw [← g_cur]
  pointwise [k0_pay4]

theorem l_cur (r : Fin 256) (k : Fin 1024) : (X0_2 m c t : Vec Ideal S256x1024 .bf16) (ix2 r k) = L m c t k r.val := by
  rw [iblk2]
  unfold L lCol
  rw [zp_of _ _ (row t r) (row_val t r).symm]

theorem l_cur18 (r : Fin 256) (k : Fin 1024) : k0_pay18 (F := Ideal) (X0_2 m c t) (ix2 r k) = L m c t k r.val := by
  rw [← l_cur]
  pointwise [k0_pay18]

theorem p_cur (r : Fin 256) (k : Fin 512) :
    @HMul.hMul EReal EReal EReal _ ((iblk m c 5 t : Vec Ideal S256x512 .bf16) (ix2 r k)) ((iblk m c 8 t : Vec Ideal S256x512 .bf16) (ix2 r k)) = P m c t k r.val := by
  rw [iblk5, iblk8]
  unfold P pCol
  rw [zp_of _ _ (row t r) (row_val t r).symm]

theorem c_cur (r : Fin 256) (k : Fin 512) : (iblk m c 17 t : Vec Ideal S256x512 .f32) (ix2 r k) = C m c t k r.val := by
  rw [iblk17]
  unfold C cCol
  rw [zp_of _ _ (row t r) (row_val t r).symm]

/-! ### The rows before -/

theorem g_prev (q : Fin 8) (k : Fin 1024) :
    k0_pay5 (F := Ideal) (grid0.coords t) (iblk m c 12 t) (iblk m c 15 t) (ix2 q k) = G m c t k (q.val - 8) := by
  rw [pay5_eq, coord]
  have h64 := lt64 t
  by_cases h : 0 < t.val
  · rw [if_pos h, iblk12 m c t h q k ⟨t.val * 256 + q.val - 8, by omega⟩ (by dsimp only; omega),
      iblk15 m c t h q k ⟨t.val * 256 + q.val - 8, by omega⟩ (by dsimp only; omega)]
    unfold G gCol
    rw [zp_of _ _ ⟨t.val * 256 + q.val - 8, by omega⟩]
    (try dsimp only); omega
  · rw [if_neg h]
    unfold G gCol
    rw [zp_out]
    omega

theorem l_prev (q : Fin 16) (k : Fin 1024) :
    k0_pay16 (F := Ideal) (BitVec.ofNat 32 (grid0.coords t 0).val) (X0_3 m c t) (ix2 q k) = L m c t k (q.val - 16) := by
  rw [pay16_eq _ (grid0.coords t 0).isLt, coord]
  have h64 := lt64 t
  by_cases h : 0 < t.val
  · rw [if_pos h, iblk3 m c t h q k ⟨t.val * 256 + q.val - 16, by omega⟩ (by dsimp only; omega)]
    unfold L lCol
    rw [zp_of _ _ ⟨t.val * 256 + q.val - 16, by omega⟩]
    (try dsimp only); omega
  · rw [if_neg h]
    unfold L lCol
    rw [zp_out]
    omega

theorem p_prev (q : Fin 16) (k : Fin 512) :
    k0_pay33 (F := Ideal) (BitVec.ofNat 32 (grid0.coords t 0).val) (iblk m c 6 t) (ix2 q k)
      * k0_pay35 (F := Ideal) (BitVec.ofNat 32 (grid0.coords t 0).val) (iblk m c 9 t) (ix2 q k) = P m c t k (q.val - 16) := by
  rw [pay33_eq _ (grid0.coords t 0).isLt, pay35_eq _ (grid0.coords t 0).isLt, coord]
  have h64 := lt64 t
  by_cases h : 0 < t.val
  · rw [if_pos h, if_pos h, iblk6 m c t h q k ⟨t.val * 256 + q.val - 16, by omega⟩ (by dsimp only; omega),
      iblk9 m c t h q k ⟨t.val * 256 + q.val - 16, by omega⟩ (by dsimp only; omega)]
    unfold P pCol
    rw [zp_of _ _ ⟨t.val * 256 + q.val - 16, by omega⟩]
    (try dsimp only); omega
  · rw [if_neg h, if_neg h, mul_zero]
    unfold P pCol
    rw [zp_out]
    omega

theorem c_prev (q : Fin 8) (k : Fin 512) :
    k0_pay42 (F := Ideal) (BitVec.ofNat 32 (grid0.coords t 0).val) (iblk m c 18 t) (ix2 q k) = C m c t k (q.val - 8) := by
  rw [pay42_eq _ (grid0.coords t 0).isLt, coord]
  have h64 := lt64 t
  by_cases h : 0 < t.val
  · rw [if_pos h, iblk18 m c t h q k ⟨t.val * 256 + q.val - 8, by omega⟩ (by dsimp only; omega)]
    unfold C cCol
    rw [zp_of _ _ ⟨t.val * 256 + q.val - 8, by omega⟩]
    (try dsimp only); omega
  · rw [if_neg h]
    unfold C cCol
    rw [zp_out]
    omega

/-! ### The rows after -/

theorem g_next (q : Fin 8) (k : Fin 1024) :
    k0_pay6 (F := Ideal) (grid0.coords t) (iblk m c 13 t) (iblk m c 16 t) (ix2 q k) = G m c t k (256 + q.val) := by
  rw [pay6_eq, coord]
  have h64 := lt64 t
  by_cases h : t.val < 63
  · rw [if_pos h, iblk13 m c t h q k ⟨t.val * 256 + 256 + q.val, by omega⟩ rfl,
      iblk16 m c t h q k ⟨t.val * 256 + 256 + q.val, by omega⟩ rfl]
    unfold G gCol
    rw [zp_of _ _ ⟨t.val * 256 + 256 + q.val, by omega⟩]
    (try dsimp only); omega
  · rw [if_neg h]
    unfold G gCol
    rw [zp_out]
    omega

theorem l_next (q : Fin 16) (k : Fin 1024) :
    k0_pay17 (F := Ideal) (BitVec.ofNat 32 (grid0.coords t 0).val) (X0_4 m c t) (ix2 q k) = L m c t k (256 + q.val) := by
  rw [pay17_eq _ (grid0.coords t 0).isLt, coord]
  have h64 := lt64 t
  by_cases h : t.val < 63
  · rw [if_pos h, iblk4 m c t h q k ⟨t.val * 256 + 256 + q.val, by omega⟩ rfl]
    unfold L lCol
    rw [zp_of _ _ ⟨t.val * 256 + 256 + q.val, by omega⟩]
    (try dsimp only); omega
  · rw [if_neg h]
    unfold L lCol
    rw [zp_out]
    omega

theorem p_next (k : Fin 512) :
    (if (grid0.coords t 0).val < 63 then
      k0_pay34 (F := Ideal) (BitVec.ofNat 32 (grid0.coords t 0).val) (iblk m c 7 t) (ix2 0 k)
        * k0_pay36 (F := Ideal) (iblk m c 10 t) (ix2 0 k) else 0) = P m c t k 256 := by
  rw [pay34_eq _ (grid0.coords t 0).isLt, coord]
  have h64 := lt64 t
  have e : k0_pay36 (F := Ideal) (iblk m c 10 t) (ix2 0 k) = (iblk m c 10 t : Vec Ideal S16x512 .bf16) (ix2 0 k) := by
    pointwise [k0_pay36]
  rw [e]
  by_cases h : t.val < 63
  · rw [if_pos h, if_pos h, iblk7 m c t h 0 k ⟨t.val * 256 + 256, by omega⟩ rfl,
      iblk10 m c t h 0 k ⟨t.val * 256 + 256, by omega⟩ rfl]
    unfold P pCol
    rw [zp_of _ _ ⟨t.val * 256 + 256, by omega⟩]
    (try dsimp only); omega
  · rw [if_neg h]
    unfold P pCol
    rw [zp_out]
    omega

theorem c_next (q : Fin 8) (k : Fin 512) :
    k0_pay43 (F := Ideal) (BitVec.ofNat 32 (grid0.coords t 0).val) (iblk m c 19 t) (ix2 q k) = C m c t k (256 + q.val) := by
  rw [pay43_eq _ (grid0.coords t 0).isLt, coord]
  have h64 := lt64 t
  by_cases h : t.val < 63
  · rw [if_pos h, iblk19 m c t h q k ⟨t.val * 256 + 256 + q.val, by omega⟩ rfl]
    unfold C cCol
    rw [zp_of _ _ ⟨t.val * 256 + 256 + q.val, by omega⟩]
    (try dsimp only); omega
  · rw [if_neg h]
    unfold C cCol
    rw [zp_out]
    omega

/-! ## The gradients of the convolutions' inputs -/

/-- The body's value for the gradient of the first convolution's input. -/
abbrev dlBlk : FVec Ideal S256x1024 .f32 :=
  k0_pay15 (F := Ideal)
    (k0_pay12 (F := Ideal) rowNo (k0_pay4 (F := Ideal) (iblk m c 11 t) (iblk m c 14 t))
      (k0_pay6 (F := Ideal) (grid0.coords t) (iblk m c 13 t) (iblk m c 16 t))
      (k0_pay7 (F := Ideal) (iblk m c 11 t) (iblk m c 14 t)
        (View.ld (iblk m c 26 t : Vec Ideal S4x1024 .f32) (Rect.unit (s := S4x1024) ![2, 0] S1x1024.size inb_S4x1024_S1x1024_2_0)))
      (View.ld (iblk m c 26 t : Vec Ideal S4x1024 .f32) (Rect.unit (s := S4x1024) ![0, 0] S1x1024.size inb_S4x1024_S1x1024_0_0))
      (k0_pay8 (F := Ideal) (iblk m c 11 t) (iblk m c 14 t)) k0_pay9
      (k0_pay10 (F := Ideal) (iblk m c 11 t) (iblk m c 14 t)) k0_pay11
      (View.ld (iblk m c 26 t : Vec Ideal S4x1024 .f32) (Rect.unit (s := S4x1024) ![1, 0] S1x1024.size inb_S4x1024_S1x1024_1_0)))
    (k0_pay13 (F := Ideal) rowNo (k0_pay4 (F := Ideal) (iblk m c 11 t) (iblk m c 14 t))
      (k0_pay5 (F := Ideal) (grid0.coords t) (iblk m c 12 t) (iblk m c 15 t)))
    (k0_pay14 (F := Ideal)
      (View.ld (iblk m c 26 t : Vec Ideal S4x1024 .f32) (Rect.unit (s := S4x1024) ![3, 0] S1x1024.size inb_S4x1024_S1x1024_3_0)))

theorem dlx_eq (r : Fin 256) (k : Fin 1024) : dlBlk m c t (ix2 r k) = dlx (argsM m c) (row t r) k := by
  unfold dlBlk
  rw [pay15_eq, pay12_eq _ _ _ _ _ _ (G m c t) (g_cur m c t) (fun k => g_next m c t 0 k) (fun k => g_next m c t 1 k),
    pay13_eq _ _ _ (G m c t) (g_cur m c t) (fun k => g_prev m c t 7 k),
    ld_lw _ 2 (by omega), ld_lw _ 0 (by omega), ld_lw _ 1 (by omega), ld_lw _ 3 (by omega), iblk26, iblk26, iblk26, iblk26]
  unfold dlx G
  rw [row_val]
  simp only [add_assoc, add_sub_assoc]
  rfl

/-- The body's value for the gradient of the second convolution's input. -/
abbrev dpBlk : FVec Ideal S256x512 .f32 :=
  k0_pay44 (F := Ideal) rowNo
    (k0_pay42 (F := Ideal) (BitVec.ofNat 32 (grid0.coords t 0).val) (iblk m c 18 t))
    (k0_pay43 (F := Ideal) (BitVec.ofNat 32 (grid0.coords t 0).val) (iblk m c 19 t))
    (iblk m c 17 t)
    (View.ld (iblk m c 27 t : Vec Ideal S3x512 .f32) (Rect.unit (s := S3x512) ![1, 0] S1x512.size inb_S3x512_S1x512_1_0))
    (View.ld (iblk m c 27 t : Vec Ideal S3x512 .f32) (Rect.unit (s := S3x512) ![0, 0] S1x512.size inb_S3x512_S1x512_0_0))
    (View.ld (iblk m c 27 t : Vec Ideal S3x512 .f32) (Rect.unit (s := S3x512) ![2, 0] S1x512.size inb_S3x512_S1x512_2_0))

theorem dp_eq (r : Fin 256) (k : Fin 512) : dpBlk m c t (ix2 r k) = dp (argsM m c) (row t r) k := by
  unfold dpBlk
  rw [pay44_eq _ _ _ _ _ _ (C m c t) (c_cur m c t) (fun k => c_prev m c t 7 k) (fun k => c_next m c t 0 k),
    ld_sw _ 1 (by omega), ld_sw _ 0 (by omega), ld_sw _ 2 (by omega), iblk27, iblk27, iblk27]
  unfold dp C
  rw [row_val]
  simp only [add_assoc, add_sub_assoc]
  rfl

/-! ## The sums over the point's rows -/

theorem lcb_eq (u : Fin 1) (k : Fin 1024) :
    k0_pay19 (F := Ideal) (k0_pay4 (F := Ideal) (iblk m c 11 t) (iblk m c 14 t)) (ix2 u k) = ∑ r : Fin 256, gCol (argsM m c) k (row t r).val := by
  rw [pay19_eq _ (G m c t) (g_cur4 m c t)]
  exact Finset.sum_congr rfl fun r _ => by rw [row_val]; rfl

/-- A term of the sums for the first convolution's taps. -/
theorem lcw_term (r : Fin 256) (k : Fin 1024) (n : ℤ) (j : Fin 4) (x : ℤ) (hx : (j.val : ℤ) = x) (hn : n = r.val + x - 2) :
    G m c t k r.val * L m c t k n = gCol (argsM m c) k (row t r).val * lCol (argsM m c) k ((row t r).val + j.val - 2) := by
  unfold G L
  rw [row_val, hx, hn, show ((t.val : ℤ) * 256 + (r.val + x - 2)) = t.val * 256 + r.val + x - 2 by omega]

theorem lcw0_eq (u : Fin 1) (k : Fin 1024) :
    k0_pay24 (F := Ideal) (k0_pay4 (F := Ideal) (iblk m c 11 t) (iblk m c 14 t))
      (k0_pay22 (F := Ideal) (BitVec.ofNat 32 (grid0.coords t 0).val) rowNo (X0_3 m c t) (X0_2 m c t)) (k0_pay23 (F := Ideal) (X0_2 m c t)) (ix2 u k)
      = ∑ r : Fin 256, gCol (argsM m c) k (row t r).val * lCol (argsM m c) k ((row t r).val + (0 : Fin 4).val - 2) := by
  rw [pay24_eq _ _ _ (G m c t) (L m c t) (g_cur4 m c t)
    (pay22_eq _ _ _ (L m c t) (l_cur m c t) (fun k => l_prev m c t 14 k) (fun k => l_prev m c t 15 k))
    (pay23_eq _ (L m c t) (l_cur m c t))]
  refine Finset.sum_congr rfl fun r _ => ?_
  exact lcw_term m c t r k _ 0 0 rfl (by omega)

theorem lcw1_eq (u : Fin 1) (k : Fin 1024) :
    k0_pay26 (F := Ideal) rowNo (k0_pay4 (F := Ideal) (iblk m c 11 t) (iblk m c 14 t))
      (k0_pay16 (F := Ideal) (BitVec.ofNat 32 (grid0.coords t 0).val) (X0_3 m c t)) (k0_pay18 (F := Ideal) (X0_2 m c t)) (ix2 u k)
      = ∑ r : Fin 256, gCol (argsM m c) k (row t r).val * lCol (argsM m c) k ((row t r).val + (1 : Fin 4).val - 2) := by
  rw [pay26_eq _ _ _ (G m c t) (L m c t) (g_cur4 m c t) (l_cur18 m c t) (fun k => l_prev m c t 15 k)]
  refine Finset.sum_congr rfl fun r _ => ?_
  exact lcw_term m c t r k _ 1 1 rfl (by omega)

theorem lcw2_eq (u : Fin 1) (k : Fin 1024) :
    k0_pay28 (F := Ideal) (k0_pay4 (F := Ideal) (iblk m c 11 t) (iblk m c 14 t)) (k0_pay18 (F := Ideal) (X0_2 m c t)) (ix2 u k)
      = ∑ r : Fin 256, gCol (argsM m c) k (row t r).val * lCol (argsM m c) k ((row t r).val + (2 : Fin 4).val - 2) := by
  rw [pay28_eq _ _ (G m c t) (L m c t) (g_cur4 m c t) (l_cur18 m c t)]
  refine Finset.sum_congr rfl fun r _ => ?_
  exact lcw_term m c t r k _ 2 2 rfl (by omega)

theorem lcw3_eq (u : Fin 1) (k : Fin 1024) :
    k0_pay31 (F := Ideal) rowNo (k0_pay4 (F := Ideal) (iblk m c 11 t) (iblk m c 14 t))
      (k0_pay17 (F := Ideal) (BitVec.ofNat 32 (grid0.coords t 0).val) (X0_4 m c t)) (k0_pay30 (F := Ideal) (k0_pay18 (F := Ideal) (X0_2 m c t))) (ix2 u k)
      = ∑ r : Fin 256, gCol (argsM m c) k (row t r).val * lCol (argsM m c) k ((row t r).val + (3 : Fin 4).val - 2) := by
  rw [pay31_eq _ _ _ (G m c t) (L m c t) (g_cur4 m c t) (l_cur18 m c t) (fun k => l_next m c t 0 k)]
  refine Finset.sum_congr rfl fun r _ => ?_
  exact lcw_term m c t r k _ 3 3 rfl (by omega)

/-- A term of the sums for the second convolution's taps. -/
theorem scw_term (r : Fin 256) (k : Fin 512) (n : ℤ) (j : Fin 3) (x : ℤ) (hx : (j.val : ℤ) = x) (hn : n = r.val + x - 1) :
    C m c t k r.val * P m c t k n = cCol (argsM m c) k (row t r).val * pCol (argsM m c) k ((row t r).val + j.val - 1) := by
  unfold C P
  rw [row_val, hx, hn, show ((t.val : ℤ) * 256 + (r.val + x - 1)) = t.val * 256 + r.val + x - 1 by omega]

theorem scw0_eq (u : Fin 1) (k : Fin 512) :
    k0_pay45 (F := Ideal)
      (k0_pay40 (F := Ideal) rowNo (k0_pay33 (F := Ideal) (BitVec.ofNat 32 (grid0.coords t 0).val) (iblk m c 6 t))
        (k0_pay35 (F := Ideal) (BitVec.ofNat 32 (grid0.coords t 0).val) (iblk m c 9 t)) (iblk m c 5 t) (iblk m c 8 t))
      (iblk m c 17 t) (ix2 u k)
      = ∑ r : Fin 256, cCol (argsM m c) k (row t r).val * pCol (argsM m c) k ((row t r).val + (0 : Fin 3).val - 1) := by
  rw [pay45_eq]
  refine Finset.sum_congr rfl fun r _ => ?_
  rw [pay40_eq _ _ (P m c t) (p_cur m c t) _ _ (fun k => p_prev m c t 15 k), c_cur]
  exact scw_term m c t r k _ 0 0 rfl (by omega)

theorem scw1_eq (u : Fin 1) (k : Fin 512) :
    k0_pay47 (F := Ideal) (k0_pay39 (F := Ideal) (iblk m c 5 t) (iblk m c 8 t)) (iblk m c 17 t) (ix2 u k)
      = ∑ r : Fin 256, cCol (argsM m c) k (row t r).val * pCol (argsM m c) k ((row t r).val + (1 : Fin 3).val - 1) := by
  rw [pay47_eq]
  refine Finset.sum_congr rfl fun r _ => ?_
  rw [pay39_eq _ _ (P m c t) (p_cur m c t), c_cur]
  exact scw_term m c t r k _ 1 1 rfl (by omega)

theorem scw2_eq (u : Fin 1) (k : Fin 512) :
    k0_pay49 (F := Ideal)
      (k0_pay41 (F := Ideal) rowNo (k0_pay34 (F := Ideal) (BitVec.ofNat 32 (grid0.coords t 0).val) (iblk m c 7 t))
        (Scalar.cmpi CmpIPredicate.slt (BitVec.ofNat 32 (grid0.coords t 0).val) 63#32)
        (k0_pay36 (F := Ideal) (iblk m c 10 t)) (iblk m c 5 t) (iblk m c 8 t))
      (iblk m c 17 t) (ix2 u k)
      = ∑ r : Fin 256, cCol (argsM m c) k (row t r).val * pCol (argsM m c) k ((row t r).val + (2 : Fin 3).val - 1) := by
  rw [pay49_eq]
  refine Finset.sum_congr rfl fun r _ => ?_
  rw [pay41_eq _ _ (P m c t) (p_cur m c t) _ (grid0.coords t 0).isLt _ _ (p_next m c t), c_cur]
  exact scw_term m c t r k _ 2 2 rfl (by omega)

/-! ## The gradient of the projection, and what follows from it -/

/-- The point's rows of the projection's gradient. -/
def dzBlk : Vec Ideal S256x7680 .bf16 := fun j => dzE (argsM m c) (row t (j 0)) (j 1)

theorem dh_eq (r : Fin 256) (k : Fin 1024) :
    k0_pay54 (F := Ideal) (dzBlk m c t) (iblk m c 28 t) (ix2 r k) = dh (argsM m c) (row t r) k := by
  pointwise [k0_pay54, dh, dzBlk]
  exact Finset.sum_congr rfl fun q _ => by rw [iblk28]

theorem rs_eq (r : Fin 256) (u : Fin 1) :
    k0_pay55 (F := Ideal) (iblk m c 1 t) (ix2 r u) = rs fun k => (argsM m c).x (ix2 (row t r) k) := by
  pointwise [k0_pay55, rs, den]
  simp only [iblk1]

theorem hat_eq (r : Fin 256) (k : Fin 1024) :
    k0_pay56 (F := Ideal) (iblk m c 1 t) (ix2 r k)
      = (argsM m c).x (ix2 (row t r) k) * rs fun k => (argsM m c).x (ix2 (row t r) k) := by
  pointwise [k0_pay56]
  rw [iblk1, rs_eq]

theorem dhg_eq (r : Fin 256) (k : Fin 1024) :
    k0_pay57 (F := Ideal) (dzBlk m c t) (iblk m c 28 t) (iblk m c 25 t) (ix2 r k)
      = dh (argsM m c) (row t r) k * (argsM m c).g (ix2 0 k) := by
  pointwise [k0_pay57]
  rw [dh_eq, iblk25]

theorem dpg_eq (u : Fin 1) (k : Fin 1024) :
    k0_pay1 (F := Ideal) (k0_pay54 (F := Ideal) (dzBlk m c t) (iblk m c 28 t)) (k0_pay56 (F := Ideal) (iblk m c 1 t)) (ix2 u k)
      = ∑ r : Fin 256, dh (argsM m c) (row t r) k
          * ((argsM m c).x (ix2 (row t r) k) * rs fun l => (argsM m c).x (ix2 (row t r) l)) := by
  pointwise [k0_pay1]
  exact Finset.sum_congr rfl fun r _ => by rw [dh_eq, hat_eq]

theorem dx_eq (r : Fin 256) (k : Fin 1024) :
    k0_pay2 (F := Ideal) (k0_pay55 (F := Ideal) (iblk m c 1 t)) (k0_pay56 (F := Ideal) (iblk m c 1 t))
      (k0_pay57 (F := Ideal) (dzBlk m c t) (iblk m c 28 t) (iblk m c 25 t))
      (k0_pay58 (F := Ideal) (dzBlk m c t) (iblk m c 28 t) (iblk m c 1 t) (iblk m c 25 t))
      (FloatOps.ofBits FTy.f32 1149239296#32) (iblk m c 0 t) (ix2 r k) = dxE (argsM m c) (row t r) k := by
  pointwise [k0_pay2, k0_pay58, dxE, bwd]
  simp only [iblk0, rs_eq, hat_eq, dhg_eq]

end Cert.MixInBwd
-- ==== Proof.MixInBwd.Block.lean ====
/-
  THE SIX BLOCKS THAT A GRID POINT OF THE PROJECTION'S BACKWARD CALL LEAVES: the first point's, and a later point's, which
  adds to what the point before left in the four sums.
-/
module

public import proofs.«01_k».proof.Proof.MixInBwd.Points
public import proofs.«01_k».proof.Proof.MixInBwd.Entry

@[expose] public section

set_option maxRecDepth 16384

noncomputable section

namespace Cert.MixInBwd

open Cert.KernelIdeal Cert.KernelIdeal.Gen Idealize.ShloMosaic Idealize.ShloMosaic.TcCoe Idealize.SL.Sem
open Cert.Rms

/-! ## The column groups of the projection's gradient -/

theorem dzE_0 (A : Args) (R : Fin 16384) (k : Fin 1024) :
    dzE A R (⟨0 + k.val, by omega⟩ : Fin 7680) = A.gate (ix2 R k) := by
  have hk := k.isLt
  unfold dzE
  rw [dif_pos (by (try dsimp only); omega)]
  exact congrArg (fun q => A.gate (ix2 R q)) (Fin.ext (by (try dsimp only); omega))

theorem dzE_1 (A : Args) (R : Fin 16384) (k : Fin 1024) :
    dzE A R (⟨1024 + k.val, by omega⟩ : Fin 7680) = dlx A R k := by
  have hk := k.isLt
  unfold dzE
  rw [dif_neg (by (try dsimp only); omega), dif_pos (by (try dsimp only); omega)]
  exact congrArg (dlx A R) (Fin.ext (by (try dsimp only); omega))

theorem dzE_2 (A : Args) (R : Fin 16384) (k : Fin 512) :
    dzE A R (⟨2048 + k.val, by omega⟩ : Fin 7680) = A.sb (ix2 R k) := by
  have hk := k.isLt
  unfold dzE
  rw [dif_neg (by (try dsimp only); omega), dif_neg (by (try dsimp only); omega), dif_pos (by (try dsimp only); omega)]
  exact congrArg (fun q => A.sb (ix2 R q)) (Fin.ext (by (try dsimp only); omega))

theorem dzE_3 (A : Args) (R : Fin 16384) (k : Fin 512) :
    dzE A R (⟨2560 + k.val, by omega⟩ : Fin 7680) = dp A R k * A.za (ix2 R (⟨3072 + k.val, by omega⟩ : Fin 4608)) := by
  have hk := k.isLt
  unfold dzE
  rw [dif_neg (by (try dsimp only); omega), dif_neg (by (try dsimp only); omega), dif_neg (by (try dsimp only); omega), dif_pos (by (try dsimp only); omega)]
  have e : ((⟨2560 + k.val, by omega⟩ : Fin 7680).val - 2560) = k.val := by (try dsimp only); omega
  refine congrArg₂ (· * ·) (congrArg (dp A R) (Fin.ext e)) (congrArg (fun q => A.za (ix2 R q)) (Fin.ext ?_))
  (try dsimp only); omega

theorem dzE_4 (A : Args) (R : Fin 16384) (k : Fin 512) :
    dzE A R (⟨3072 + k.val, by omega⟩ : Fin 7680) = dp A R k * A.za (ix2 R (⟨2560 + k.val, by omega⟩ : Fin 4608)) := by
  have hk := k.isLt
  unfold dzE
  rw [dif_neg (by (try dsimp only); omega), dif_neg (by (try dsimp only); omega), dif_neg (by (try dsimp only); omega), dif_neg (by (try dsimp only); omega), dif_pos (by (try dsimp only); omega)]
  have e : ((⟨3072 + k.val, by omega⟩ : Fin 7680).val - 3072) = k.val := by (try dsimp only); omega
  refine congrArg₂ (· * ·) (congrArg (dp A R) (Fin.ext e)) (congrArg (fun q => A.za (ix2 R q)) (Fin.ext ?_))
  (try dsimp only); omega

theorem dzE_5 (A : Args) (R : Fin 16384) (k : Fin 512) :
    dzE A R (⟨3584 + k.val, by omega⟩ : Fin 7680) = A.su (ix2 R k) := by
  have hk := k.isLt
  unfold dzE
  rw [dif_neg (by (try dsimp only); omega), dif_neg (by (try dsimp only); omega), dif_neg (by (try dsimp only); omega), dif_neg (by (try dsimp only); omega), dif_neg (by (try dsimp only); omega), dif_pos (by (try dsimp only); omega)]
  exact congrArg (fun q => A.su (ix2 R q)) (Fin.ext (by (try dsimp only); omega))

theorem dzE_6 (A : Args) (R : Fin 16384) (k : Fin 512) :
    dzE A R (⟨4096 + k.val, by omega⟩ : Fin 7680) = A.sv (ix2 R k) := by
  have hk := k.isLt
  unfold dzE
  rw [dif_neg (by (try dsimp only); omega), dif_neg (by (try dsimp only); omega), dif_neg (by (try dsimp only); omega), dif_neg (by (try dsimp only); omega), dif_neg (by (try dsimp only); omega), dif_neg (by (try dsimp only); omega), dif_pos (by (try dsimp only); omega)]
  exact congrArg (fun q => A.sv (ix2 R q)) (Fin.ext (by (try dsimp only); omega))

theorem dzE_7 (A : Args) (R : Fin 16384) (k : Fin 3072) :
    dzE A R (⟨4608 + k.val, by omega⟩ : Fin 7680) = A.zm (ix2 R k) := by
  have hk := k.isLt
  unfold dzE
  rw [dif_neg (by (try dsimp only); omega), dif_neg (by (try dsimp only); omega), dif_neg (by (try dsimp only); omega), dif_neg (by (try dsimp only); omega), dif_neg (by (try dsimp only); omega), dif_neg (by (try dsimp only); omega), dif_neg (by (try dsimp only); omega)]
  exact congrArg (fun q => A.zm (ix2 R q)) (Fin.ext (by (try dsimp only); omega))

/-- Where a group of 1024 columns lies. -/
theorem emb_1024 (n : ℕ) (hn : n + 1024 ≤ 7680) (inb : ∀ a, (![0, n] : Fin 2 → Nat) a + S256x1024.size a ≤ S256x7680.size a)
    (r : Fin 256) (k : Fin 1024) :
    (Rect.unit (s := S256x7680) ![0, n] S256x1024.size inb).emb (ix2 r k) = ix2 r (⟨n + k.val, by omega⟩ : Fin 7680) := by
  funext a
  apply Fin.ext
  match a with
  | ⟨0, _⟩ => show 0 + 1 * r.val = r.val; omega
  | ⟨1, _⟩ => show n + 1 * k.val = n + k.val; omega

/-- Where a group of 512 columns lies. -/
theorem emb_512 (n : ℕ) (hn : n + 512 ≤ 7680) (inb : ∀ a, (![0, n] : Fin 2 → Nat) a + S256x512.size a ≤ S256x7680.size a)
    (r : Fin 256) (k : Fin 512) :
    (Rect.unit (s := S256x7680) ![0, n] S256x512.size inb).emb (ix2 r k) = ix2 r (⟨n + k.val, by omega⟩ : Fin 7680) := by
  funext a
  apply Fin.ext
  match a with
  | ⟨0, _⟩ => show 0 + 1 * r.val = r.val; omega
  | ⟨1, _⟩ => show n + 1 * k.val = n + k.val; omega

/-- Where a group of 3072 columns lies. -/
theorem emb_3072 (n : ℕ) (hn : n + 3072 ≤ 7680) (inb : ∀ a, (![0, n] : Fin 2 → Nat) a + S256x3072.size a ≤ S256x7680.size a)
    (r : Fin 256) (k : Fin 3072) :
    (Rect.unit (s := S256x7680) ![0, n] S256x3072.size inb).emb (ix2 r k) = ix2 r (⟨n + k.val, by omega⟩ : Fin 7680) := by
  funext a
  apply Fin.ext
  match a with
  | ⟨0, _⟩ => show 0 + 1 * r.val = r.val; omega
  | ⟨1, _⟩ => show n + 1 * k.val = n + k.val; omega

/-- Where a row of the first convolution's taps lies. -/
theorem emb_lw (n : ℕ) (hn : n < 4) (inb : ∀ a, (![n, 0] : Fin 2 → Nat) a + S1x1024.size a ≤ S4x1024.size a)
    (u : Fin 1) (k : Fin 1024) :
    (Rect.unit (s := S4x1024) ![n, 0] S1x1024.size inb).emb (ix2 u k) = ix2 (⟨n, hn⟩ : Fin 4) k := by
  funext a
  apply Fin.ext
  match a with
  | ⟨0, _⟩ => show n + 1 * u.val = n; omega
  | ⟨1, _⟩ => show 0 + 1 * k.val = k.val; omega

/-- Where a row of the second convolution's taps lies. -/
theorem emb_sw (n : ℕ) (hn : n < 3) (inb : ∀ a, (![n, 0] : Fin 2 → Nat) a + S1x512.size a ≤ S3x512.size a)
    (u : Fin 1) (k : Fin 512) :
    (Rect.unit (s := S3x512) ![n, 0] S1x512.size inb).emb (ix2 u k) = ix2 (⟨n, hn⟩ : Fin 3) k := by
  funext a
  apply Fin.ext
  match a with
  | ⟨0, _⟩ => show n + 1 * u.val = n; omega
  | ⟨1, _⟩ => show 0 + 1 * k.val = k.val; omega

variable (m : (ℓ : Loc nD τ sig) → Buf (Elt Ideal) ℓ) (c : Dev nD) (t : Fin cfg0.N)

/-! ## What a point adds, as blocks -/

def dxBlk : Vec Ideal S256x1024 .f32 := fun j => dxE (argsM m c) (row t (j 0)) (j 1)
def dpgPart : Vec Ideal S1x1024 .f32 := fun j => ∑ r : Fin 256, dh (argsM m c) (row t r) (j 1)
  * ((argsM m c).x (ix2 (row t r) (j 1)) * rs fun l => (argsM m c).x (ix2 (row t r) l))
def lcwPart : Vec Ideal S4x1024 .f32 := fun j =>
  ∑ r : Fin 256, gCol (argsM m c) (j 1) (row t r).val * lCol (argsM m c) (j 1) ((row t r).val + (j 0).val - 2)
def lcbPart : Vec Ideal S1x1024 .f32 := fun j => ∑ r : Fin 256, gCol (argsM m c) (j 1) (row t r).val
def scwPart : Vec Ideal S3x512 .f32 := fun j =>
  ∑ r : Fin 256, cCol (argsM m c) (j 1) (row t r).val * pCol (argsM m c) (j 1) ((row t r).val + (j 0).val - 1)

/-- The stores that make up the point's rows of the projection's gradient, the last one first. -/
abbrev dzL : List (View.Piece (Elt Ideal) S256x7680 .bf16) :=
  [⟨Rect.unit (s := S256x7680) ![0, 4608] S256x3072.size inb_S256x7680_S256x3072_0_4608, (iblk m c 24 t : Vec Ideal S256x3072 .bf16)⟩,
   ⟨Rect.unit (s := S256x7680) ![0, 4096] S256x512.size inb_S256x7680_S256x512_0_4096, (iblk m c 23 t : Vec Ideal S256x512 .bf16)⟩,
   ⟨Rect.unit (s := S256x7680) ![0, 3584] S256x512.size inb_S256x7680_S256x512_0_3584, (iblk m c 22 t : Vec Ideal S256x512 .bf16)⟩,
   ⟨Rect.unit (s := S256x7680) ![0, 3072] S256x512.size inb_S256x7680_S256x512_0_3072, k0_pay53 (F := Ideal) (k0_pay37 (F := Ideal) (iblk m c 5 t)) (dpBlk m c t)⟩,
   ⟨Rect.unit (s := S256x7680) ![0, 2560] S256x512.size inb_S256x7680_S256x512_0_2560, k0_pay52 (F := Ideal) (k0_pay38 (F := Ideal) (iblk m c 8 t)) (dpBlk m c t)⟩,
   ⟨Rect.unit (s := S256x7680) ![0, 2048] S256x512.size inb_S256x7680_S256x512_0_2048, (iblk m c 21 t : Vec Ideal S256x512 .bf16)⟩,
   ⟨Rect.unit (s := S256x7680) ![0, 1024] S256x1024.size inb_S256x7680_S256x1024_0_1024, k0_pay51 (F := Ideal) (dlBlk m c t)⟩,
   ⟨Rect.unit (s := S256x7680) ![0, 0] S256x1024.size inb_S256x7680_S256x1024_0_0, (iblk m c 20 t : Vec Ideal S256x1024 .bf16)⟩]

theorem dzL_val : ∀ p ∈ dzL m c t, ∀ x : p.1.shape.Idx, p.2 x = dzBlk m c t (p.1.emb x) := by
  unfold dzL
  simp only [List.forall_mem_cons]
  refine ⟨?_, ?_, ?_, ?_, ?_, ?_, ?_, ?_, fun _ h => absurd h List.not_mem_nil⟩

  · intro j
    obtain ⟨r, k, rfl⟩ : ∃ (r : Fin 256) (k : Fin 3072), j = ix2 r k := ⟨j 0, j 1, eq_ix2 j⟩
    rw [emb_3072 4608 (by omega)]
    exact (iblk24 m c t r k).trans (dzE_7 (argsM m c) (row t r) k).symm

  · intro j
    obtain ⟨r, k, rfl⟩ : ∃ (r : Fin 256) (k : Fin 512), j = ix2 r k := ⟨j 0, j 1, eq_ix2 j⟩
    rw [emb_512 4096 (by omega)]
    exact (iblk23 m c t r k).trans (dzE_6 (argsM m c) (row t r) k).symm

  · intro j
    obtain ⟨r, k, rfl⟩ : ∃ (r : Fin 256) (k : Fin 512), j = ix2 r k := ⟨j 0, j 1, eq_ix2 j⟩
    rw [emb_512 3584 (by omega)]
    exact (iblk22 m c t r k).trans (dzE_5 (argsM m c) (row t r) k).symm

  · intro j
    obtain ⟨r, k, rfl⟩ : ∃ (r : Fin 256) (k : Fin 512), j = ix2 r k := ⟨j 0, j 1, eq_ix2 j⟩
    rw [emb_512 3072 (by omega)]
    refine Eq.trans ?_ (dzE_4 (argsM m c) (row t r) k).symm
    have e : k0_pay53 (F := Ideal) (k0_pay37 (F := Ideal) (iblk m c 5 t)) (dpBlk m c t) (ix2 r k)
        = dpBlk m c t (ix2 r k) * (iblk m c 5 t : FVec Ideal S256x512 .bf16) (ix2 r k) := by
      generalize dpBlk m c t = v
      pointwise [k0_pay53, k0_pay37]
    rw [dp_eq, iblk5] at e
    exact e

  · intro j
    obtain ⟨r, k, rfl⟩ : ∃ (r : Fin 256) (k : Fin 512), j = ix2 r k := ⟨j 0, j 1, eq_ix2 j⟩
    rw [emb_512 2560 (by omega)]
    refine Eq.trans ?_ (dzE_3 (argsM m c) (row t r) k).symm
    have e : k0_pay52 (F := Ideal) (k0_pay38 (F := Ideal) (iblk m c 8 t)) (dpBlk m c t) (ix2 r k)
        = dpBlk m c t (ix2 r k) * (iblk m c 8 t : FVec Ideal S256x512 .bf16) (ix2 r k) := by
      generalize dpBlk m c t = v
      pointwise [k0_pay52, k0_pay38]
    rw [dp_eq, iblk8] at e
    exact e

  · intro j
    obtain ⟨r, k, rfl⟩ : ∃ (r : Fin 256) (k : Fin 512), j = ix2 r k := ⟨j 0, j 1, eq_ix2 j⟩
    rw [emb_512 2048 (by omega)]
    exact (iblk21 m c t r k).trans (dzE_2 (argsM m c) (row t r) k).symm

  · intro j
    obtain ⟨r, k, rfl⟩ : ∃ (r : Fin 256) (k : Fin 1024), j = ix2 r k := ⟨j 0, j 1, eq_ix2 j⟩
    rw [emb_1024 1024 (by omega)]
    refine Eq.trans ?_ (dzE_1 (argsM m c) (row t r) k).symm
    have e : k0_pay51 (F := Ideal) (dlBlk m c t) (ix2 r k) = dlBlk m c t (ix2 r k) := by
      generalize dlBlk m c t = v
      pointwise [k0_pay51]
    rw [dlx_eq] at e
    exact e

  · intro j
    obtain ⟨r, k, rfl⟩ : ∃ (r : Fin 256) (k : Fin 1024), j = ix2 r k := ⟨j 0, j 1, eq_ix2 j⟩
    rw [emb_1024 0 (by omega)]
    exact (iblk20 m c t r k).trans (dzE_0 (argsM m c) (row t r) k).symm

theorem dzL_cover (y : S256x7680.Idx) : ∃ pc ∈ dzL m c t, y ∈ pc.1.set :=
  View.cover_of_tiledBy (dzL m c t) ![256, 512] (by sl_kernel_rfl) y

theorem dzL_canon : View.canon (dzL m c t) = dzBlk m c t :=
  funext fun y => View.canon_apply_of_pieces (dzBlk m c t) _ (dzL_val m c t) y (dzL_cover m c t y)

/-- The block read back after its eight stores. -/
theorem dzL_read (v : View sig .tc .vmem S256x7680 .bf16) (inb : ∀ a, (![0, 0] : Fin 2 → Nat) a + S256x7680.size a ≤ S256x7680.size a) :
    v.readCov (dzL m c t) (Rect.unit (s := S256x7680) ![0, 0] S256x7680.size inb).toLoadRect = dzBlk m c t := by
  rw [View.readCov_eq_canon', dzL_canon]
  exact View.ld_unit_zero (S := S256x7680) hz2 inb (dzBlk m c t)

/-! ## The payloads that add to what was there -/

theorem add3 (a : FVec Ideal S256x1024 .f32) (b : FVec Ideal S256x1024 .f32) (p : FVec Ideal S1x1024 .f32) (u : Fin 1) (k : Fin 1024) :
    k0_pay3 (F := Ideal) a b p (ix2 u k) = p (ix2 u k) + k0_pay1 (F := Ideal) a b (ix2 u k) := by
  unfold k0_pay3
  generalize k0_pay1 (F := Ideal) a b = q
  pointwise []

theorem add20 (a : FVec Ideal S256x1024 .f32) (p : FVec Ideal S1x1024 .f32) (u : Fin 1) (k : Fin 1024) :
    k0_pay20 (F := Ideal) a p (ix2 u k) = p (ix2 u k) + k0_pay19 (F := Ideal) a (ix2 u k) := by
  unfold k0_pay20
  generalize k0_pay19 (F := Ideal) a = q
  pointwise []

theorem add25 (a : FVec Ideal S256x1024 .f32) (b : FVec Ideal S8x1024 .f32) (d : FVec Ideal S248x1024 .f32) (p : FVec Ideal S1x1024 .f32) (u : Fin 1) (k : Fin 1024) :
    k0_pay25 (F := Ideal) a b d p (ix2 u k) = p (ix2 u k) + k0_pay24 (F := Ideal) a b d (ix2 u k) := by
  unfold k0_pay25
  generalize k0_pay24 (F := Ideal) a b d = q
  pointwise []

theorem add27 (n : IVec S256x1 32) (a : FVec Ideal S256x1024 .f32) (b : FVec Ideal S16x1024 .f32) (d : FVec Ideal S256x1024 .f32) (p : FVec Ideal S1x1024 .f32) (u : Fin 1) (k : Fin 1024) :
    k0_pay27 (F := Ideal) n a b d p (ix2 u k) = p (ix2 u k) + k0_pay26 (F := Ideal) n a b d (ix2 u k) := by
  unfold k0_pay27
  generalize k0_pay26 (F := Ideal) n a b d = q
  pointwise []

theorem add29 (a : FVec Ideal S256x1024 .f32) (d : FVec Ideal S256x1024 .f32) (p : FVec Ideal S1x1024 .f32) (u : Fin 1) (k : Fin 1024) :
    k0_pay29 (F := Ideal) a d p (ix2 u k) = p (ix2 u k) + k0_pay28 (F := Ideal) a d (ix2 u k) := by
  unfold k0_pay29
  generalize k0_pay28 (F := Ideal) a d = q
  pointwise []

theorem add32 (n : IVec S256x1 32) (a : FVec Ideal S256x1024 .f32) (b : FVec Ideal S16x1024 .f32) (d : FVec Ideal S256x1024 .f32) (p : FVec Ideal S1x1024 .f32) (u : Fin 1) (k : Fin 1024) :
    k0_pay32 (F := Ideal) n a b d p (ix2 u k) = p (ix2 u k) + k0_pay31 (F := Ideal) n a b d (ix2 u k) := by
  unfold k0_pay32
  generalize k0_pay31 (F := Ideal) n a b d = q
  pointwise []

theorem add46 (q : FVec Ideal S1x512 .f32) (p : FVec Ideal S1x512 .f32) (u : Fin 1) (k : Fin 512) :
    k0_pay46 (F := Ideal) q p (ix2 u k) = p (ix2 u k) + q (ix2 u k) := by
  unfold k0_pay46
  skip
  pointwise []

theorem add48 (a : FVec Ideal S256x512 .f32) (b : FVec Ideal S256x512 .f32) (p : FVec Ideal S1x512 .f32) (u : Fin 1) (k : Fin 512) :
    k0_pay48 (F := Ideal) a b p (ix2 u k) = p (ix2 u k) + k0_pay47 (F := Ideal) a b (ix2 u k) := by
  unfold k0_pay48
  generalize k0_pay47 (F := Ideal) a b = q
  pointwise []

theorem add50 (a : FVec Ideal S256x512 .f32) (b : FVec Ideal S256x512 .f32) (p : FVec Ideal S1x512 .f32) (u : Fin 1) (k : Fin 512) :
    k0_pay50 (F := Ideal) a b p (ix2 u k) = p (ix2 u k) + k0_pay49 (F := Ideal) a b (ix2 u k) := by
  unfold k0_pay50
  generalize k0_pay49 (F := Ideal) a b = q
  pointwise []

/-! ## The first point -/

section
variable (h : t.val = 0)

theorem outA_30 : (outA m c t h).2.1 = dzBlk m c t := by
  unfold outA
  dsimp only
  rw [View.read_writes_junk_eq_canon]
  refine Eq.trans ?_ (dzL_canon m c t)
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
  rfl

theorem outA_29 : (outA m c t h).1 = dxBlk m c t := by
  unfold outA
  dsimp only
  rw [View.read_writes_junk_eq_canon]
  unfold runA kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
  generalize e : (ms0_30 t).view.readCov (Val := Elt Ideal) _ _ = z
  obtain rfl : z = dzBlk m c t := e.symm.trans (dzL_read m c t _ _)
  funext j
  obtain ⟨r, k, rfl⟩ : ∃ (r : Fin 256) (k : Fin 1024), j = ix2 r k := ⟨j 0, j 1, eq_ix2 j⟩
  exact dx_eq m c t r k

theorem outA_31 : (outA m c t h).2.2.1 = dpgPart m c t := by
  unfold outA
  dsimp only
  rw [View.read_writes_junk_eq_canon]
  unfold runA kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
  generalize e : (ms0_30 t).view.readCov (Val := Elt Ideal) _ _ = z
  obtain rfl : z = dzBlk m c t := e.symm.trans (dzL_read m c t _ _)
  funext j
  obtain ⟨u, k, rfl⟩ : ∃ (u : Fin 1) (k : Fin 1024), j = ix2 u k := ⟨j 0, j 1, eq_ix2 j⟩
  exact dpg_eq m c t u k

theorem outA_33 : (outA m c t h).2.2.2.2.1 = lcbPart m c t := by
  unfold outA
  dsimp only
  rw [View.read_writes_junk_eq_canon]
  unfold runA kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
  funext j
  obtain ⟨u, k, rfl⟩ : ∃ (u : Fin 1) (k : Fin 1024), j = ix2 u k := ⟨j 0, j 1, eq_ix2 j⟩
  exact lcb_eq m c t u k

theorem outA_32 : (outA m c t h).2.2.2.1 = lcwPart m c t := by
  unfold outA
  dsimp only
  rw [View.read_writes_junk_eq_canon]
  funext y
  refine View.canon_apply_of_pieces (lcwPart m c t) _ ?_ y (coverA_32 m c t h y)
  unfold runA kernelRun0_A
  dsimp only
  sl_unfold_words
  simp only [List.forall_mem_cons]
  refine ⟨?_, ?_, ?_, ?_, fun _ h => absurd h List.not_mem_nil⟩
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 1024), j = ix2 u k := ⟨j 0, j 1, eq_ix2 j⟩
    rw [emb_lw 3 (by omega)]
    exact lcw3_eq m c t u k
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 1024), j = ix2 u k := ⟨j 0, j 1, eq_ix2 j⟩
    rw [emb_lw 2 (by omega)]
    exact lcw2_eq m c t u k
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 1024), j = ix2 u k := ⟨j 0, j 1, eq_ix2 j⟩
    rw [emb_lw 1 (by omega)]
    exact lcw1_eq m c t u k
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 1024), j = ix2 u k := ⟨j 0, j 1, eq_ix2 j⟩
    rw [emb_lw 0 (by omega)]
    exact lcw0_eq m c t u k

theorem outA_34 : (outA m c t h).2.2.2.2.2 = scwPart m c t := by
  unfold outA
  dsimp only
  rw [View.read_writes_junk_eq_canon]
  funext y
  refine View.canon_apply_of_pieces (scwPart m c t) _ ?_ y (coverA_34 m c t h y)
  unfold runA kernelRun0_A
  dsimp only
  sl_unfold_words
  simp only [List.forall_mem_cons]
  refine ⟨?_, ?_, ?_, fun _ h => absurd h List.not_mem_nil⟩
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 512), j = ix2 u k := ⟨j 0, j 1, eq_ix2 j⟩
    rw [emb_sw 2 (by omega)]
    exact scw2_eq m c t u k
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 512), j = ix2 u k := ⟨j 0, j 1, eq_ix2 j⟩
    rw [emb_sw 1 (by omega)]
    exact scw1_eq m c t u k
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2]
    obtain ⟨u, k, rfl⟩ : ∃ (u : Fin 1) (k : Fin 512), j = ix2 u k := ⟨j 0, j 1, eq_ix2 j⟩
    rw [emb_sw 0 (by omega)]
    exact scw0_eq m c t u k

end

/-! ## A later point -/

section
variable (h : t.val ≠ 0) (y31 : Vec Ideal S1x1024 .f32) (y32 : Vec Ideal S4x1024 .f32) (y33 : Vec Ideal S1x1024 .f32) (y34 : Vec Ideal S3x512 .f32)

theorem outB_30 : (outB m c t h y31 y32 y33 y34).2.1 = dzBlk m c t := by
  unfold outB
  dsimp only
  rw [View.read_writes_junk_eq_canon]
  refine Eq.trans ?_ (dzL_canon m c t)
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
  rfl

theorem outB_29 : (outB m c t h y31 y32 y33 y34).1 = dxBlk m c t := by
  unfold outB
  dsimp only
  rw [View.read_writes_junk_eq_canon]
  unfold runB kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
  generalize e : (ms0_30 t).view.readCov (Val := Elt Ideal) _ _ = z
  obtain rfl : z = dzBlk m c t := e.symm.trans (dzL_read m c t _ _)
  funext j
  obtain ⟨r, k, rfl⟩ : ∃ (r : Fin 256) (k : Fin 1024), j = ix2 r k := ⟨j 0, j 1, eq_ix2 j⟩
  exact dx_eq m c t r k

theorem outB_31 : (outB m c t h y31 y32 y33 y34).2.2.1 = fun j => y31 j + dpgPart m c t j := by
  unfold outB
  dsimp only
  rw [View.read_writes_junk_eq_canon]
  unfold runB kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
  generalize e : (ms0_30 t).view.readCov (Val := Elt Ideal) _ _ = z
  obtain rfl : z = dzBlk m c t := e.symm.trans (dzL_read m c t _ _)
  funext j
  obtain ⟨u, k, rfl⟩ : ∃ (u : Fin 1) (k : Fin 1024), j = ix2 u k := ⟨j 0, j 1, eq_ix2 j⟩
  rw [add3, dpg_eq]
  rfl

theorem outB_33 : (outB m c t h y31 y32 y33 y34).2.2.2.2.1 = fun j => y33 j + lcbPart m c t j := by
  unfold outB
  dsimp only
  rw [View.read_writes_junk_eq_canon]
  unfold runB kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
  funext j
  obtain ⟨u, k, rfl⟩ : ∃ (u : Fin 1) (k : Fin 1024), j = ix2 u k := ⟨j 0, j 1, eq_ix2 j⟩
  rw [add20, lcb_eq]
  rfl

theorem outB_32 : (outB m c t h y31 y32 y33 y34).2.2.2.1 = fun j => y32 j + lcwPart m c t j := by
  unfold outB
  dsimp only
  rw [View.read_writes_junk_eq_canon]
  funext y
  refine View.canon_apply_of_pieces (fun j => y32 j + lcwPart m c t j) _ ?_ y (coverB_32 m c t h y31 y32 y33 y34 y)
  unfold runB kernelRun0_B
  dsimp only
  sl_unfold_words
  simp only [List.forall_mem_cons]
  refine ⟨?_, ?_, ?_, ?_, fun _ h => absurd h List.not_mem_nil⟩
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 1024), j = ix2 u k := ⟨j 0, j 1, eq_ix2 j⟩
    rw [emb_lw 3 (by omega)]
    rw [add32, lcw3_eq, ld_lw _ 3 (by omega)]
    rfl
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 1024), j = ix2 u k := ⟨j 0, j 1, eq_ix2 j⟩
    rw [emb_lw 2 (by omega)]
    rw [add29, lcw2_eq, ld_lw _ 2 (by omega)]
    rfl
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 1024), j = ix2 u k := ⟨j 0, j 1, eq_ix2 j⟩
    rw [emb_lw 1 (by omega)]
    rw [add27, lcw1_eq, ld_lw _ 1 (by omega)]
    rfl
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 1024), j = ix2 u k := ⟨j 0, j 1, eq_ix2 j⟩
    rw [emb_lw 0 (by omega)]
    rw [add25, lcw0_eq, ld_lw _ 0 (by omega)]
    rfl

theorem outB_34 : (outB m c t h y31 y32 y33 y34).2.2.2.2.2 = fun j => y34 j + scwPart m c t j := by
  unfold outB
  dsimp only
  rw [View.read_writes_junk_eq_canon]
  funext y
  refine View.canon_apply_of_pieces (fun j => y34 j + scwPart m c t j) _ ?_ y (coverB_34 m c t h y31 y32 y33 y34 y)
  unfold runB kernelRun0_B
  dsimp only
  sl_unfold_words
  simp only [List.forall_mem_cons]
  refine ⟨?_, ?_, ?_, fun _ h => absurd h List.not_mem_nil⟩
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 512), j = ix2 u k := ⟨j 0, j 1, eq_ix2 j⟩
    rw [emb_sw 2 (by omega)]
    rw [add50, scw2_eq, ld_sw _ 2 (by omega)]
    rfl
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 512), j = ix2 u k := ⟨j 0, j 1, eq_ix2 j⟩
    rw [emb_sw 1 (by omega)]
    rw [add48, scw1_eq, ld_sw _ 1 (by omega)]
    rfl
  · intro j
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread, (hs0_19 t).read_unread, (hs0_20 t).read_unread, (hs0_21 t).read_unread, (hs0_22 t).read_unread, (hs0_23 t).read_unread, (hs0_24 t).read_unread, (hs0_25 t).read_unread, (hs0_26 t).read_unread, (hs0_27 t).read_unread, (hs0_28 t).read_unread, View.ld_unit_zero (S := S256x1024) hz2, View.ld_unit_zero (S := S256x512) hz2, View.ld_unit_zero (S := S256x3072) hz2, View.ld_unit_zero (S := S16x1024) hz2, View.ld_unit_zero (S := S16x512) hz2, View.ld_unit_zero (S := S8x1024) hz2, View.ld_unit_zero (S := S8x512) hz2, View.ld_unit_zero (S := S1x1024) hz2, View.ld_unit_zero (S := S7680x1024) hz2, (hs0_31 t).read_unread, (hs0_32 t).read_unread, (hs0_33 t).read_unread, (hs0_34 t).read_unread]
    obtain ⟨u, k, rfl⟩ : ∃ (u : Fin 1) (k : Fin 512), j = ix2 u k := ⟨j 0, j 1, eq_ix2 j⟩
    rw [emb_sw 0 (by omega)]
    rw [add46, scw0_eq, ld_sw _ 0 (by omega)]
    rfl

end

end Cert.MixInBwd
-- ==== Proof.MixInBwd.Array.lean ====
/-
  WHAT THE PROJECTION'S BACKWARD CALL LEAVES IN ITS RESULT ARRAYS: grid point `t` works on rows `256 t … 256 t + 255`, its
  two row blocks lie there, and the four sums grow from point to point.
-/
module

public import proofs.«01_k».proof.Proof.MixInBwd.Block

@[expose] public section

set_option maxRecDepth 16384

noncomputable section

namespace Cert.MixInBwd

open Cert.KernelIdeal Cert.KernelIdeal.Gen Idealize.ShloMosaic Idealize.ShloMosaic.TcCoe Idealize.SL.Sem
open Cert.Rms

variable (m : (ℓ : Loc nD τ sig) → Buf (Elt Ideal) ℓ) (c : Dev nD)

theorem index29 : ∀ t : Fin grid0.N, win0_29.index t 0 = t.val ∧ win0_29.index t 1 = 0 := by decide +kernel
theorem index30 : ∀ t : Fin grid0.N, win0_30.index t 0 = t.val ∧ win0_30.index t 1 = 0 := by decide +kernel
theorem index31 : ∀ t : Fin grid0.N, win0_31.index t 0 = 0 ∧ win0_31.index t 1 = 0 := by decide +kernel
theorem index32 : ∀ t : Fin grid0.N, win0_32.index t 0 = 0 ∧ win0_32.index t 1 = 0 := by decide +kernel
theorem index33 : ∀ t : Fin grid0.N, win0_33.index t 0 = 0 ∧ win0_33.index t 1 = 0 := by decide +kernel
theorem index34 : ∀ t : Fin grid0.N, win0_34.index t 0 = 0 ∧ win0_34.index t 1 = 0 := by decide +kernel

theorem lt_points {n : ℕ} (h : n < cfg0.N) (p : Fin (n + 1)) : p.val < cfg0.N := lt_of_lt_of_le p.isLt h

/-! ## What each point leaves -/

theorem left29 (t : Fin cfg0.N) : (outsAt0 m c t.val t.isLt).1 = dxBlk m c t := by
  by_cases h : t.val = 0
  · rw [outsAt0_A m c t h, outA_29]
  · rw [outsAt0_B m c t h, outB_29]

theorem left30 (t : Fin cfg0.N) : (outsAt0 m c t.val t.isLt).2.1 = dzBlk m c t := by
  by_cases h : t.val = 0
  · rw [outsAt0_A m c t h, outA_30]
  · rw [outsAt0_B m c t h, outB_30]

/-- After point `n` this output holds the sum of the parts of the points so far. -/
theorem left31 : ∀ (n : ℕ) (h : n < cfg0.N) (u : Fin 1) (k : Fin 1024), (outsAt0 m c n h).2.2.1 (ix2 u k)
      = ∑ p : Fin (n + 1), dpgPart m c ⟨p.val, lt_points h p⟩ (ix2 u k)
  | 0, h, u, k => by
    rw [outsAt0_A m c ⟨0, h⟩ rfl, Fin.sum_univ_one, outA_31]
    rfl
  | n + 1, h, u, k => by
    rw [outsAt0_B m c ⟨n + 1, h⟩ (Nat.succ_ne_zero n), Fin.sum_univ_castSucc, outB_31]
    exact congrArg (· + _) (left31 n (Nat.lt_of_succ_lt h) u k)

/-- After point `n` this output holds the sum of the parts of the points so far. -/
theorem left32 : ∀ (n : ℕ) (h : n < cfg0.N) (u : Fin 4) (k : Fin 1024), (outsAt0 m c n h).2.2.2.1 (ix2 u k)
      = ∑ p : Fin (n + 1), lcwPart m c ⟨p.val, lt_points h p⟩ (ix2 u k)
  | 0, h, u, k => by
    rw [outsAt0_A m c ⟨0, h⟩ rfl, Fin.sum_univ_one, outA_32]
    rfl
  | n + 1, h, u, k => by
    rw [outsAt0_B m c ⟨n + 1, h⟩ (Nat.succ_ne_zero n), Fin.sum_univ_castSucc, outB_32]
    exact congrArg (· + _) (left32 n (Nat.lt_of_succ_lt h) u k)

/-- After point `n` this output holds the sum of the parts of the points so far. -/
theorem left33 : ∀ (n : ℕ) (h : n < cfg0.N) (u : Fin 1) (k : Fin 1024), (outsAt0 m c n h).2.2.2.2.1 (ix2 u k)
      = ∑ p : Fin (n + 1), lcbPart m c ⟨p.val, lt_points h p⟩ (ix2 u k)
  | 0, h, u, k => by
    rw [outsAt0_A m c ⟨0, h⟩ rfl, Fin.sum_univ_one, outA_33]
    rfl
  | n + 1, h, u, k => by
    rw [outsAt0_B m c ⟨n + 1, h⟩ (Nat.succ_ne_zero n), Fin.sum_univ_castSucc, outB_33]
    exact congrArg (· + _) (left33 n (Nat.lt_of_succ_lt h) u k)

/-- After point `n` this output holds the sum of the parts of the points so far. -/
theorem left34 : ∀ (n : ℕ) (h : n < cfg0.N) (u : Fin 3) (k : Fin 512), (outsAt0 m c n h).2.2.2.2.2 (ix2 u k)
      = ∑ p : Fin (n + 1), scwPart m c ⟨p.val, lt_points h p⟩ (ix2 u k)
  | 0, h, u, k => by
    rw [outsAt0_A m c ⟨0, h⟩ rfl, Fin.sum_univ_one, outA_34]
    rfl
  | n + 1, h, u, k => by
    rw [outsAt0_B m c ⟨n + 1, h⟩ (Nat.succ_ne_zero n), Fin.sum_univ_castSucc, outB_34]
    exact congrArg (· + _) (left34 n (Nat.lt_of_succ_lt h) u k)

/-! ## The arrays -/

/-- Point `t`'s block of an array of result `29`'s shape, entry by entry. -/
theorem block29 (G : Vec Ideal S16384x1024 .f32) (t : Fin cfg0.N) (r : Fin 256) (k : Fin 1024) :
    ((cfg0.win 29).blk t).view.read (Elt Ideal) (show Buf (Elt Ideal) ((cfg0.win 29).arr.view.loc (c.tc : Thread nD τ)) from G) (ix2 r k) = G (ix2 (row t r) k) := by
  rw [View.read_apply]
  show G _ = G _
  refine congrArg G ?_
  funext a
  apply Fin.ext
  match a with
  | ⟨0, _⟩ => show win0_29.index t 0 * 256 + 1 * r.val = t.val * 256 + r.val; rw [(index29 t).1]; omega
  | ⟨1, _⟩ => show win0_29.index t 1 * 1024 + 1 * k.val = k.val; rw [(index29 t).2]; omega

/-- Point `t`'s block of an array of result `30`'s shape, entry by entry. -/
theorem block30 (G : Vec Ideal S16384x7680 .bf16) (t : Fin cfg0.N) (r : Fin 256) (k : Fin 7680) :
    ((cfg0.win 30).blk t).view.read (Elt Ideal) (show Buf (Elt Ideal) ((cfg0.win 30).arr.view.loc (c.tc : Thread nD τ)) from G) (ix2 r k) = G (ix2 (row t r) k) := by
  rw [View.read_apply]
  show G _ = G _
  refine congrArg G ?_
  funext a
  apply Fin.ext
  match a with
  | ⟨0, _⟩ => show win0_30.index t 0 * 256 + 1 * r.val = t.val * 256 + r.val; rw [(index30 t).1]; omega
  | ⟨1, _⟩ => show win0_30.index t 1 * 7680 + 1 * k.val = k.val; rw [(index30 t).2]; omega

theorem mem29 (t : Fin cfg0.N) (i : S16384x1024.Idx) (h0 : t.val * 256 ≤ (i 0).val ∧ (i 0).val < t.val * 256 + 256) : i ∈ ((cfg0.win 29).blk t).view.set := by
  show i ∈ ((View.whole main_v2_0).slice (win0_29.rect t)).set
  rw [View.set_slice_whole, Rect.mem_set_unit]
  intro a
  match a with
  | ⟨0, _⟩ =>
    show win0_29.index t 0 * 256 ≤ (i 0 : Nat) ∧ (i 0 : Nat) < win0_29.index t 0 * 256 + 256
    rw [(index29 t).1]
    exact h0
  | ⟨1, _⟩ =>
    show win0_29.index t 1 * 1024 ≤ (i 1 : Nat) ∧ (i 1 : Nat) < win0_29.index t 1 * 1024 + 1024
    rw [(index29 t).2]
    rw [Nat.zero_mul, Nat.zero_add]
    exact ⟨Nat.zero_le _, (i 1).isLt⟩

theorem mem30 (t : Fin cfg0.N) (i : S16384x7680.Idx) (h0 : t.val * 256 ≤ (i 0).val ∧ (i 0).val < t.val * 256 + 256) : i ∈ ((cfg0.win 30).blk t).view.set := by
  show i ∈ ((View.whole main_v2_1).slice (win0_30.rect t)).set
  rw [View.set_slice_whole, Rect.mem_set_unit]
  intro a
  match a with
  | ⟨0, _⟩ =>
    show win0_30.index t 0 * 256 ≤ (i 0 : Nat) ∧ (i 0 : Nat) < win0_30.index t 0 * 256 + 256
    rw [(index30 t).1]
    exact h0
  | ⟨1, _⟩ =>
    show win0_30.index t 1 * 7680 ≤ (i 1 : Nat) ∧ (i 1 : Nat) < win0_30.index t 1 * 7680 + 7680
    rw [(index30 t).2]
    rw [Nat.zero_mul, Nat.zero_add]
    exact ⟨Nat.zero_le _, (i 1).isLt⟩

theorem mem31 (t : Fin cfg0.N) (i : S1x1024.Idx)  : i ∈ ((cfg0.win 31).blk t).view.set := by
  show i ∈ ((View.whole main_v2_2).slice (win0_31.rect t)).set
  rw [View.set_slice_whole, Rect.mem_set_unit]
  intro a
  match a with
  | ⟨0, _⟩ =>
    show win0_31.index t 0 * 1 ≤ (i 0 : Nat) ∧ (i 0 : Nat) < win0_31.index t 0 * 1 + 1
    rw [(index31 t).1]
    rw [Nat.zero_mul, Nat.zero_add]
    exact ⟨Nat.zero_le _, (i 0).isLt⟩
  | ⟨1, _⟩ =>
    show win0_31.index t 1 * 1024 ≤ (i 1 : Nat) ∧ (i 1 : Nat) < win0_31.index t 1 * 1024 + 1024
    rw [(index31 t).2]
    rw [Nat.zero_mul, Nat.zero_add]
    exact ⟨Nat.zero_le _, (i 1).isLt⟩

theorem mem32 (t : Fin cfg0.N) (i : S4x1024.Idx)  : i ∈ ((cfg0.win 32).blk t).view.set := by
  show i ∈ ((View.whole main_v2_3).slice (win0_32.rect t)).set
  rw [View.set_slice_whole, Rect.mem_set_unit]
  intro a
  match a with
  | ⟨0, _⟩ =>
    show win0_32.index t 0 * 4 ≤ (i 0 : Nat) ∧ (i 0 : Nat) < win0_32.index t 0 * 4 + 4
    rw [(index32 t).1]
    rw [Nat.zero_mul, Nat.zero_add]
    exact ⟨Nat.zero_le _, (i 0).isLt⟩
  | ⟨1, _⟩ =>
    show win0_32.index t 1 * 1024 ≤ (i 1 : Nat) ∧ (i 1 : Nat) < win0_32.index t 1 * 1024 + 1024
    rw [(index32 t).2]
    rw [Nat.zero_mul, Nat.zero_add]
    exact ⟨Nat.zero_le _, (i 1).isLt⟩

theorem mem33 (t : Fin cfg0.N) (i : S1x1024.Idx)  : i ∈ ((cfg0.win 33).blk t).view.set := by
  show i ∈ ((View.whole main_v2_4).slice (win0_33.rect t)).set
  rw [View.set_slice_whole, Rect.mem_set_unit]
  intro a
  match a with
  | ⟨0, _⟩ =>
    show win0_33.index t 0 * 1 ≤ (i 0 : Nat) ∧ (i 0 : Nat) < win0_33.index t 0 * 1 + 1
    rw [(index33 t).1]
    rw [Nat.zero_mul, Nat.zero_add]
    exact ⟨Nat.zero_le _, (i 0).isLt⟩
  | ⟨1, _⟩ =>
    show win0_33.index t 1 * 1024 ≤ (i 1 : Nat) ∧ (i 1 : Nat) < win0_33.index t 1 * 1024 + 1024
    rw [(index33 t).2]
    rw [Nat.zero_mul, Nat.zero_add]
    exact ⟨Nat.zero_le _, (i 1).isLt⟩

theorem mem34 (t : Fin cfg0.N) (i : S3x512.Idx)  : i ∈ ((cfg0.win 34).blk t).view.set := by
  show i ∈ ((View.whole main_v2_5).slice (win0_34.rect t)).set
  rw [View.set_slice_whole, Rect.mem_set_unit]
  intro a
  match a with
  | ⟨0, _⟩ =>
    show win0_34.index t 0 * 3 ≤ (i 0 : Nat) ∧ (i 0 : Nat) < win0_34.index t 0 * 3 + 3
    rw [(index34 t).1]
    rw [Nat.zero_mul, Nat.zero_add]
    exact ⟨Nat.zero_le _, (i 0).isLt⟩
  | ⟨1, _⟩ =>
    show win0_34.index t 1 * 512 ≤ (i 1 : Nat) ∧ (i 1 : Nat) < win0_34.index t 1 * 512 + 512
    rw [(index34 t).2]
    rw [Nat.zero_mul, Nat.zero_add]
    exact ⟨Nat.zero_le _, (i 1).isLt⟩

theorem final29 : (Gen.dats m 0 c).arrAt 29 cfg0.N = dxArr (argsM m c) :=
  (dats m 0 c).arrAt_eq_of_cover 29 (dxArr (argsM m c)) (fun t _ => by
    show (cfg0.win 29).cut (grid0.coords t) ((dats m 0 c).after 29 t) = _
    rw [after0_29, left29]
    funext j
    obtain ⟨r, k, rfl⟩ : ∃ (r : Fin 256) (k : Fin 1024), j = ix2 r k := ⟨j 0, j 1, eq_ix2 j⟩
    refine Eq.trans ?_ (block29 c (dxArr (argsM m c)) t r k).symm
    show dxBlk _ _ _ (ix2 r k) = _
    simp only [dxBlk, dxArr, ix2_0, ix2_1]) fun (i : S16384x1024.Idx) => by
    have hN := points
    have h : (i 0).val < 16384 := (i 0).isLt
    exact ⟨⟨(i 0).val / 256, by show (i 0).val / 256 < cfg0.N; omega⟩, flush0_29 _, mem29 _ i (by dsimp only; omega)⟩

theorem final30 : (Gen.dats m 0 c).arrAt 30 cfg0.N = dzArr (argsM m c) :=
  (dats m 0 c).arrAt_eq_of_cover 30 (dzArr (argsM m c)) (fun t _ => by
    show (cfg0.win 30).cut (grid0.coords t) ((dats m 0 c).after 30 t) = _
    rw [after0_30, left30]
    funext j
    obtain ⟨r, k, rfl⟩ : ∃ (r : Fin 256) (k : Fin 7680), j = ix2 r k := ⟨j 0, j 1, eq_ix2 j⟩
    refine Eq.trans ?_ (block30 c (dzArr (argsM m c)) t r k).symm
    show dzBlk _ _ _ (ix2 r k) = _
    simp only [dzBlk, dzArr, ix2_0, ix2_1]) fun (i : S16384x7680.Idx) => by
    have hN := points
    have h : (i 0).val < 16384 := (i 0).isLt
    exact ⟨⟨(i 0).val / 256, by show (i 0).val / 256 < cfg0.N; omega⟩, flush0_30 _, mem30 _ i (by dsimp only; omega)⟩

theorem final31 : (Gen.dats m 0 c).arrAt 31 cfg0.N = dpgArr (argsM m c) :=
  (dats m 0 c).arrAt_eq_of_cover 31 (dpgArr (argsM m c)) (fun t ht => by
    have hN := points
    have htl : t.val = 63 := by have := (flush0_31 t).1 ht; have := t.isLt; omega
    have hz : (fun a => win0_31.index t a * main_v2_2.ty.shape.size a) = fun _ => 0 := funext fun a =>
      match a with
      | ⟨0, _⟩ => by show win0_31.index t 0 * _ = 0; rw [(index31 t).1, Nat.zero_mul]
      | ⟨1, _⟩ => by show win0_31.index t 1 * _ = 0; rw [(index31 t).2, Nat.zero_mul]
    refine Eq.trans ?_ (Memref.read_access_unit_zero (Elt Ideal) main_v2_2 hz (fun a => by rw [congrFun hz a]; simp) (dpgArr (argsM m c))).symm
    show (cfg0.win 31).cut (grid0.coords _) ((dats m 0 c).after 31 _) = _
    rw [after0_31]
    funext j
    obtain ⟨u, k, rfl⟩ : ∃ (u : Fin 1) (k : Fin 1024), j = ix2 u k := ⟨j 0, j 1, eq_ix2 j⟩
    show (outsAt0 m c t.val _).2.2.1 (ix2 u k) = _
    rw [left31]
    show _ = dpgE (argsM m c) k
    unfold dpgE dpgPart
    rw [Fin.sum_univ_tiles 64 256 rfl]
    exact Fintype.sum_equiv (finCongr (by omega)) _ _ fun p => rfl) fun (i : S1x1024.Idx) => by
    have hN := points
    exact ⟨⟨63, by omega⟩, (flush0_31 _).2 rfl, mem31 _ i⟩

theorem final32 : (Gen.dats m 0 c).arrAt 32 cfg0.N = dlcwArr (argsM m c) :=
  (dats m 0 c).arrAt_eq_of_cover 32 (dlcwArr (argsM m c)) (fun t ht => by
    have hN := points
    have htl : t.val = 63 := by have := (flush0_32 t).1 ht; have := t.isLt; omega
    have hz : (fun a => win0_32.index t a * main_v2_3.ty.shape.size a) = fun _ => 0 := funext fun a =>
      match a with
      | ⟨0, _⟩ => by show win0_32.index t 0 * _ = 0; rw [(index32 t).1, Nat.zero_mul]
      | ⟨1, _⟩ => by show win0_32.index t 1 * _ = 0; rw [(index32 t).2, Nat.zero_mul]
    refine Eq.trans ?_ (Memref.read_access_unit_zero (Elt Ideal) main_v2_3 hz (fun a => by rw [congrFun hz a]; simp) (dlcwArr (argsM m c))).symm
    show (cfg0.win 32).cut (grid0.coords _) ((dats m 0 c).after 32 _) = _
    rw [after0_32]
    funext j
    obtain ⟨u, k, rfl⟩ : ∃ (u : Fin 4) (k : Fin 1024), j = ix2 u k := ⟨j 0, j 1, eq_ix2 j⟩
    show (outsAt0 m c t.val _).2.2.2.1 (ix2 u k) = _
    rw [left32]
    show _ = dlcwE (argsM m c) u k
    unfold dlcwE lcwPart
    rw [Fin.sum_univ_tiles 64 256 rfl]
    exact Fintype.sum_equiv (finCongr (by omega)) _ _ fun p => rfl) fun (i : S4x1024.Idx) => by
    have hN := points
    exact ⟨⟨63, by omega⟩, (flush0_32 _).2 rfl, mem32 _ i⟩

theorem final33 : (Gen.dats m 0 c).arrAt 33 cfg0.N = dlcbArr (argsM m c) :=
  (dats m 0 c).arrAt_eq_of_cover 33 (dlcbArr (argsM m c)) (fun t ht => by
    have hN := points
    have htl : t.val = 63 := by have := (flush0_33 t).1 ht; have := t.isLt; omega
    have hz : (fun a => win0_33.index t a * main_v2_4.ty.shape.size a) = fun _ => 0 := funext fun a =>
      match a with
      | ⟨0, _⟩ => by show win0_33.index t 0 * _ = 0; rw [(index33 t).1, Nat.zero_mul]
      | ⟨1, _⟩ => by show win0_33.index t 1 * _ = 0; rw [(index33 t).2, Nat.zero_mul]
    refine Eq.trans ?_ (Memref.read_access_unit_zero (Elt Ideal) main_v2_4 hz (fun a => by rw [congrFun hz a]; simp) (dlcbArr (argsM m c))).symm
    show (cfg0.win 33).cut (grid0.coords _) ((dats m 0 c).after 33 _) = _
    rw [after0_33]
    funext j
    obtain ⟨u, k, rfl⟩ : ∃ (u : Fin 1) (k : Fin 1024), j = ix2 u k := ⟨j 0, j 1, eq_ix2 j⟩
    show (outsAt0 m c t.val _).2.2.2.2.1 (ix2 u k) = _
    rw [left33]
    show _ = dlcbE (argsM m c) k
    unfold dlcbE lcbPart
    rw [Fin.sum_univ_tiles 64 256 rfl]
    exact Fintype.sum_equiv (finCongr (by omega)) _ _ fun p => rfl) fun (i : S1x1024.Idx) => by
    have hN := points
    exact ⟨⟨63, by omega⟩, (flush0_33 _).2 rfl, mem33 _ i⟩

theorem final34 : (Gen.dats m 0 c).arrAt 34 cfg0.N = dscwArr (argsM m c) :=
  (dats m 0 c).arrAt_eq_of_cover 34 (dscwArr (argsM m c)) (fun t ht => by
    have hN := points
    have htl : t.val = 63 := by have := (flush0_34 t).1 ht; have := t.isLt; omega
    have hz : (fun a => win0_34.index t a * main_v2_5.ty.shape.size a) = fun _ => 0 := funext fun a =>
      match a with
      | ⟨0, _⟩ => by show win0_34.index t 0 * _ = 0; rw [(index34 t).1, Nat.zero_mul]
      | ⟨1, _⟩ => by show win0_34.index t 1 * _ = 0; rw [(index34 t).2, Nat.zero_mul]
    refine Eq.trans ?_ (Memref.read_access_unit_zero (Elt Ideal) main_v2_5 hz (fun a => by rw [congrFun hz a]; simp) (dscwArr (argsM m c))).symm
    show (cfg0.win 34).cut (grid0.coords _) ((dats m 0 c).after 34 _) = _
    rw [after0_34]
    funext j
    obtain ⟨u, k, rfl⟩ : ∃ (u : Fin 3) (k : Fin 512), j = ix2 u k := ⟨j 0, j 1, eq_ix2 j⟩
    show (outsAt0 m c t.val _).2.2.2.2.2 (ix2 u k) = _
    rw [left34]
    show _ = dscwE (argsM m c) u k
    unfold dscwE scwPart
    rw [Fin.sum_univ_tiles 64 256 rfl]
    exact Fintype.sum_equiv (finCongr (by omega)) _ _ fun p => rfl) fun (i : S3x512.Idx) => by
    have hN := points
    exact ⟨⟨63, by omega⟩, (flush0_34 _).2 rfl, mem34 _ i⟩

end Cert.MixInBwd
-- ==== Proof.MixInBwd.Blocks.lean ====
/-
  WHAT THE PROJECTION'S BACKWARD CALL WRITES BACK, point by point, and the state after its run in these terms: each result
  array is its initial contents with every point's block written in, and the arguments are as they were.
-/
module

public import proofs.«01_k».proof.Proof.MixInBwd.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to result 29. -/
theorem flushed29 (c : Dev nD) (t : Fin cfg0.N) :
    (dats m 0 c).flushed 29 t = (cfg0.win 29).cut (grid0.coords t) ((outsAt0 m c t.val t.isLt).1) := by
  show (cfg0.win 29).cut (grid0.coords t) ((dats m 0 c).after 29 t) = _
  rw [after0_29]

theorem idx_inj29 : ∀ t t' : Fin cfg0.N, win0_29.index t = win0_29.index t' → t = t' :=
  (by decide +kernel : ∀ t t' : Fin grid0.N, win0_29.index t = win0_29.index t' → t = t')

/-- So the blocks of two points have no entry in common. -/
theorem disjoint29 : ∀ t t' : Fin cfg0.N, (cfg0.win 29).flush t = true → (cfg0.win 29).flush t' = true → t ≠ t' →
    Disjoint ((cfg0.win 29).blk t).view.set ((cfg0.win 29).blk t').view.set :=
  fun t t' _ _ hne => (cfg0.win 29).disjoint_blk fun h => hne (idx_inj29 t t' h)

/-- A block of the final array is what its point wrote. -/
theorem blocks29 (c : Dev nD) (t : Fin cfg0.N) (hf : (cfg0.win 29).flush t = true) :
    ((cfg0.win 29).blk t).view.read (Elt F) ((dats m 0 c).arrAt 29 cfg0.N) = (dats m 0 c).flushed 29 t :=
  (dats m 0 c).read_blk_arrAt_eq_flushed 29 disjoint29 cfg0.N t t.isLt hf

/-- An entry no block holds is as before the call. -/
theorem entry29 (c : Dev nD) (i : S16384x1024.Idx) (h : ∀ t : Fin cfg0.N, (cfg0.win 29).flush t = true → i ∉ ((cfg0.win 29).blk t).view.set) :
    (dats m 0 c).arrAt 29 cfg0.N i = V m c (Pipeline.arrRef spec0 29) i := by
  rw [(dats m 0 c).arrAt_apply_of_forall_not_mem 29 cfg0.N i (fun t _ hf => h t hf), A_eq]

/-- What point `t` writes back to result 30. -/
theorem flushed30 (c : Dev nD) (t : Fin cfg0.N) :
    (dats m 0 c).flushed 30 t = (cfg0.win 30).cut (grid0.coords t) ((outsAt0 m c t.val t.isLt).2.1) := by
  show (cfg0.win 30).cut (grid0.coords t) ((dats m 0 c).after 30 t) = _
  rw [after0_30]

theorem idx_inj30 : ∀ t t' : Fin cfg0.N, win0_30.index t = win0_30.index t' → t = t' :=
  (by decide +kernel : ∀ t t' : Fin grid0.N, win0_30.index t = win0_30.index t' → t = t')

/-- So the blocks of two points have no entry in common. -/
theorem disjoint30 : ∀ t t' : Fin cfg0.N, (cfg0.win 30).flush t = true → (cfg0.win 30).flush t' = true → t ≠ t' →
    Disjoint ((cfg0.win 30).blk t).view.set ((cfg0.win 30).blk t').view.set :=
  fun t t' _ _ hne => (cfg0.win 30).disjoint_blk fun h => hne (idx_inj30 t t' h)

/-- A block of the final array is what its point wrote. -/
theorem blocks30 (c : Dev nD) (t : Fin cfg0.N) (hf : (cfg0.win 30).flush t = true) :
    ((cfg0.win 30).blk t).view.read (Elt F) ((dats m 0 c).arrAt 30 cfg0.N) = (dats m 0 c).flushed 30 t :=
  (dats m 0 c).read_blk_arrAt_eq_flushed 30 disjoint30 cfg0.N t t.isLt hf

/-- An entry no block holds is as before the call. -/
theorem entry30 (c : Dev nD) (i : S16384x7680.Idx) (h : ∀ t : Fin cfg0.N, (cfg0.win 30).flush t = true → i ∉ ((cfg0.win 30).blk t).view.set) :
    (dats m 0 c).arrAt 30 cfg0.N i = V m c (Pipeline.arrRef spec0 30) i := by
  rw [(dats m 0 c).arrAt_apply_of_forall_not_mem 30 cfg0.N i (fun t _ hf => h t hf), A_eq]

/-- What point `t` writes back to result 31. -/
theorem flushed31 (c : Dev nD) (t : Fin cfg0.N) :
    (dats m 0 c).flushed 31 t = (cfg0.win 31).cut (grid0.coords t) ((outsAt0 m c t.val t.isLt).2.2.1) := by
  show (cfg0.win 31).cut (grid0.coords t) ((dats m 0 c).after 31 t) = _
  rw [after0_31]

/-- An entry no block holds is as before the call. -/
theorem entry31 (c : Dev nD) (i : S1x1024.Idx) (h : ∀ t : Fin cfg0.N, (cfg0.win 31).flush t = true → i ∉ ((cfg0.win 31).blk t).view.set) :
    (dats m 0 c).arrAt 31 cfg0.N i = V m c (Pipeline.arrRef spec0 31) i := by
  rw [(dats m 0 c).arrAt_apply_of_forall_not_mem 31 cfg0.N i (fun t _ hf => h t hf), A_eq]

/-- What point `t` writes back to result 32. -/
theorem flushed32 (c : Dev nD) (t : Fin cfg0.N) :
    (dats m 0 c).flushed 32 t = (cfg0.win 32).cut (grid0.coords t) ((outsAt0 m c t.val t.isLt).2.2.2.1) := by
  show (cfg0.win 32).cut (grid0.coords t) ((dats m 0 c).after 32 t) = _
  rw [after0_32]

/-- An entry no block holds is as before the call. -/
theorem entry32 (c : Dev nD) (i : S4x1024.Idx) (h : ∀ t : Fin cfg0.N, (cfg0.win 32).flush t = true → i ∉ ((cfg0.win 32).blk t).view.set) :
    (dats m 0 c).arrAt 32 cfg0.N i = V m c (Pipeline.arrRef spec0 32) i := by
  rw [(dats m 0 c).arrAt_apply_of_forall_not_mem 32 cfg0.N i (fun t _ hf => h t hf), A_eq]

/-- What point `t` writes back to result 33. -/
theorem flushed33 (c : Dev nD) (t : Fin cfg0.N) :
    (dats m 0 c).flushed 33 t = (cfg0.win 33).cut (grid0.coords t) ((outsAt0 m c t.val t.isLt).2.2.2.2.1) := by
  show (cfg0.win 33).cut (grid0.coords t) ((dats m 0 c).after 33 t) = _
  rw [after0_33]

/-- An entry no block holds is as before the call. -/
theorem entry33 (c : Dev nD) (i : S1x1024.Idx) (h : ∀ t : Fin cfg0.N, (cfg0.win 33).flush t = true → i ∉ ((cfg0.win 33).blk t).view.set) :
    (dats m 0 c).arrAt 33 cfg0.N i = V m c (Pipeline.arrRef spec0 33) i := by
  rw [(dats m 0 c).arrAt_apply_of_forall_not_mem 33 cfg0.N i (fun t _ hf => h t hf), A_eq]

/-- What point `t` writes back to result 34. -/
theorem flushed34 (c : Dev nD) (t : Fin cfg0.N) :
    (dats m 0 c).flushed 34 t = (cfg0.win 34).cut (grid0.coords t) ((outsAt0 m c t.val t.isLt).2.2.2.2.2) := by
  show (cfg0.win 34).cut (grid0.coords t) ((dats m 0 c).after 34 t) = _
  rw [after0_34]

/-- An entry no block holds is as before the call. -/
theorem entry34 (c : Dev nD) (i : S3x512.Idx) (h : ∀ t : Fin cfg0.N, (cfg0.win 34).flush t = true → i ∉ ((cfg0.win 34).blk t).view.set) :
    (dats m 0 c).arrAt 34 cfg0.N i = V m c (Pipeline.arrRef spec0 34) i := by
  rw [(dats m 0 c).arrAt_apply_of_forall_not_mem 34 cfg0.N i (fun t _ hf => h t hf), A_eq]

/-- After the frame run, output window 29's array is `(dats m 0 c).arrAt 29 N`. -/
theorem post29 (r : PUnit × MemSt nD τ sig (Elt F)) (h : Pipeline.FramePost cfgs (dats m) 0 (V m) r) (c : Dev nD) :
    r.2.mem ((c : Thread nD τ).loc main_v2_0) = (dats m 0 c).arrAt 29 cfg0.N :=
  (h c).1 29

/-- After the frame run, output window 30's array is `(dats m 0 c).arrAt 30 N`. -/
theorem post30 (r : PUnit × MemSt nD τ sig (Elt F)) (h : Pipeline.FramePost cfgs (dats m) 0 (V m) r) (c : Dev nD) :
    r.2.mem ((c : Thread nD τ).loc main_v2_1) = (dats m 0 c).arrAt 30 cfg0.N :=
  (h c).1 30

/-- After the frame run, output window 31's array is `(dats m 0 c).arrAt 31 N`. -/
theorem post31 (r : PUnit × MemSt nD τ sig (Elt F)) (h : Pipeline.FramePost cfgs (dats m) 0 (V m) r) (c : Dev nD) :
    r.2.mem ((c : Thread nD τ).loc main_v2_2) = (dats m 0 c).arrAt 31 cfg0.N :=
  (h c).1 31

/-- After the frame run, output window 32's array is `(dats m 0 c).arrAt 32 N`. -/
theorem post32 (r : PUnit × MemSt nD τ sig (Elt F)) (h : Pipeline.FramePost cfgs (dats m) 0 (V m) r) (c : Dev nD) :
    r.2.mem ((c : Thread nD τ).loc main_v2_3) = (dats m 0 c).arrAt 32 cfg0.N :=
  (h c).1 32

/-- After the frame run, output window 33's array is `(dats m 0 c).arrAt 33 N`. -/
theorem post33 (r : PUnit × MemSt nD τ sig (Elt F)) (h : Pipeline.FramePost cfgs (dats m) 0 (V m) r) (c : Dev nD) :
    r.2.mem ((c : Thread nD τ).loc main_v2_4) = (dats m 0 c).arrAt 33 cfg0.N :=
  (h c).1 33

/-- After the frame run, output window 34's array is `(dats m 0 c).arrAt 34 N`. -/
theorem post34 (r : PUnit × MemSt nD τ sig (Elt F)) (h : Pipeline.FramePost cfgs (dats m) 0 (V m) r) (c : Dev nD) :
    r.2.mem ((c : Thread nD τ).loc main_v2_5) = (dats m 0 c).arrAt 34 cfg0.N :=
  (h c).1 34

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 10 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 10).trans (((dats m 0 c).arrAt_in 10 rfl _).trans ((A_eq m c 10).trans (V_main_arg2 m c)))

/-- After the frame run, argument `main_arg3` is as launched: input window 13 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 13).trans (((dats m 0 c).arrAt_in 13 rfl _).trans ((A_eq m c 13).trans (V_main_arg3 m c)))

/-- After the frame run, argument `main_arg4` is as launched: input window 16 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 16).trans (((dats m 0 c).arrAt_in 16 rfl _).trans ((A_eq m c 16).trans (V_main_arg4 m c)))

/-- After the frame run, argument `main_arg5` is as launched: input window 19 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 19).trans (((dats m 0 c).arrAt_in 19 rfl _).trans ((A_eq m c 19).trans (V_main_arg5 m c)))

/-- After the frame run, argument `main_arg6` is as launched: input window 20 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 20).trans (((dats m 0 c).arrAt_in 20 rfl _).trans ((A_eq m c 20).trans (V_main_arg6 m c)))

/-- After the frame run, argument `main_arg7` is as launched: input window 21 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 21).trans (((dats m 0 c).arrAt_in 21 rfl _).trans ((A_eq m c 21).trans (V_main_arg7 m c)))

/-- After the frame run, argument `main_arg8` is as launched: input window 22 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 22).trans (((dats m 0 c).arrAt_in 22 rfl _).trans ((A_eq m c 22).trans (V_main_arg8 m c)))

/-- After the frame run, argument `main_arg9` is as launched: input window 23 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 23).trans (((dats m 0 c).arrAt_in 23 rfl _).trans ((A_eq m c 23).trans (V_main_arg9 m c)))

/-- After the frame run, argument `main_arg10` is as launched: input window 24 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 24).trans (((dats m 0 c).arrAt_in 24 rfl _).trans ((A_eq m c 24).trans (V_main_arg10 m c)))

/-- After the frame run, argument `main_arg11` is as launched: input window 25 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 25).trans (((dats m 0 c).arrAt_in 25 rfl _).trans ((A_eq m c 25).trans (V_main_arg11 m c)))

/-- After the frame run, argument `main_arg12` is as launched: input window 26 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 26).trans (((dats m 0 c).arrAt_in 26 rfl _).trans ((A_eq m c 26).trans (V_main_arg12 m c)))

/-- After the frame run, argument `main_arg13` is as launched: input window 27 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 27).trans (((dats m 0 c).arrAt_in 27 rfl _).trans ((A_eq m c 27).trans (V_main_arg13 m c)))

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 29 cfg0.N
      ∧ r.2.mem ((c : Thread nD τ).loc main_v2_1) = (dats m 0 c).arrAt 30 cfg0.N
      ∧ r.2.mem ((c : Thread nD τ).loc main_v2_2) = (dats m 0 c).arrAt 31 cfg0.N
      ∧ r.2.mem ((c : Thread nD τ).loc main_v2_3) = (dats m 0 c).arrAt 32 cfg0.N
      ∧ r.2.mem ((c : Thread nD τ).loc main_v2_4) = (dats m 0 c).arrAt 33 cfg0.N
      ∧ r.2.mem ((c : Thread nD τ).loc main_v2_5) = (dats m 0 c).arrAt 34 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post29 m r h c,
      post30 m r h c,
      post31 m r h c,
      post32 m r h c,
      post33 m r h c,
      post34 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.KernelIdeal.Value
-- ==== Proof.MixInBwd.Equal.lean ====
/-
  THE EQUATION: the projection's backward call and its reference leave the same six arrays.
-/
module

public import proofs.«01_k».proof.Proof.MixInBwd.Ref
public import proofs.«01_k».proof.Proof.MixInBwd.Array
public import proofs.«01_k».proof.Proof.MixInBwd.Blocks
public import proofs.«01_k».proof.Defs

@[expose] public section

set_option maxRecDepth 16384

noncomputable section

namespace Cert.MixInBwd

open Cert.KernelIdeal Cert.KernelIdeal.Gen Idealize.ShloMosaic Idealize.ShloMosaic.TcCoe Idealize.SL.Sem Idealize.ShloMosaic.StableHlo

theorem algebraic : Cert.algebraic_KernelIdeal_ReferenceIdeal (hKernelIdeal := Cert.KernelIdeal.Gen.facts) (hReferenceIdeal := Cert.ReferenceIdeal.Gen.facts) := by
  intro m g m' g' _ h
  refine ⟨fun c => dxArr (argsM m c), fun c => dzArr (argsM m c), fun c => dpgArr (argsM m c), fun c => dlcwArr (argsM m c),
    fun c => dlcbArr (argsM m c), fun c => dscwArr (argsM m c), ?_, ?_⟩
  · refine (θ_run _ _ _).mono (fun r hr c => ?_) (Value.run_blocks m g)
    have e := hr c
    exact ⟨(e.1).trans (final29 m c), (e.2.1).trans (final30 m c), (e.2.2.1).trans (final31 m c), (e.2.2.2.1).trans (final32 m c), (e.2.2.2.2.1).trans (final33 m c), (e.2.2.2.2.2.1).trans (final34 m c), e.2.2.2.2.2.2⟩
  · refine (θ_run _ _ _).mono (fun r hr c => ?_) (Cert.ReferenceIdeal.Value.run m' g')
    have e := hr c
    obtain ⟨a0, a1, a2, a3, a4, a5, a6, a7, a8, a9, a10, a11, a12, a13, a14⟩ := h c
    have q : Ref.argsV (launchContents m' c) = argsM m c := by
      unfold Ref.argsV argsM
      simp only [Args.mk.injEq]
      exact ⟨a0, a1, a2, a3, a4, a5, a6, a7, a8, a9, a10, a11, a12, a13, a14⟩
    exact ⟨(e.1).trans ((Ref.dx_eq _).trans (congrArg dxArr q)), (e.2.1).trans ((Ref.dz_eq _).trans (congrArg dzArr q)), (e.2.2.1).trans ((Ref.dpg_eq _).trans (congrArg dpgArr q)), (e.2.2.2.1).trans ((Ref.dlcw_eq _).trans (congrArg dlcwArr q)), (e.2.2.2.2.1).trans ((Ref.dlcb_eq _).trans (congrArg dlcbArr q)), (e.2.2.2.2.2.1).trans ((Ref.dscw_eq _).trans (congrArg dscwArr q)), e.2.2.2.2.2.2⟩

end Cert.MixInBwd
-- ==== Proof.FfnBwdB.Block.lean ====
/-
  WHAT ONE GRID POINT OF THE FEED-FORWARD BACKWARD CALL COMPUTES, from its blocks.

  The point holds 512 rows of the step's gradient `dy` and of the layer's input `x`, the same rows of the two hidden
  gradients `dg`, `du` (cut in four column groups of 704), the norm's scale `g`, and the two weights transposed (cut in
  four row groups of 704). It leaves, in its three outputs:

    · the gradient of `x`: `dy` plus the normalisation's backward pass of `dh · g`, where `dh` is the sum over the four
      groups of `dg · w_gateᵀ + du · w_upᵀ` (`dhid`);
    · the normalised rows times `g`;
    · the sum over its rows of `dh · x · rs`, alone at the first point and added to what is there at the others.
-/
module

public import proofs.«01_k».proof.Proof.RmsRow
public import proofs.«01_k».proof.Proof.Gen.Kernel2Ideal.Value
public import Idealize.ShloMosaic.Lib.Tactic

@[expose] public section

set_option maxRecDepth 16384

noncomputable section

namespace Cert.FfnBwdB

open Cert.Kernel2Ideal Cert.Kernel2Ideal.Gen Idealize.ShloMosaic Idealize.ShloMosaic.TcCoe Idealize.SL.Sem
open Cert.Rms

theorem hz2 : (![0, 0] : Fin 2 → Nat) = fun _ => 0 := funext fun a => by fin_cases a <;> rfl

/-- The gradient of the normalised row `r` at column `k`, from the point's blocks: over the four column groups, the
    products of the two hidden gradients with the two transposed weights. -/
def dhid (x2 x3 : Vec Ideal S4x512x704 .bf16) (x5 x6 : Vec Ideal S4x704x1024 .bf16) (r : Fin 512) (k : Fin 1024) : EReal :=
  ∑ s : Fin 4, ((∑ f : Fin 704, x2 (ix3 s r f) * x5 (ix3 s f k)) + ∑ f : Fin 704, x3 (ix3 s r f) * x6 (ix3 s f k))

section
variable (x0 x1 : Vec Ideal S512x1024 .f32) (x2 x3 : Vec Ideal S4x512x704 .bf16) (x4 : Vec Ideal S1x1024 .f32)
  (x5 x6 : Vec Ideal S4x704x1024 .bf16)

/-- The gradient of `x`, as a block. -/
def dxBlk : Vec Ideal S512x1024 .f32 := fun j =>
  x0 j + bwd (fun k => x1 (ix2 (j 0) k)) (fun k => dhid x2 x3 x5 x6 (j 0) k * x4 (ix2 0 k)) (j 1)

/-- The normalised rows times the scale, as a block. -/
def hBlk : Vec Ideal S512x1024 .bf16 := fun j =>
  x1 j * rs (fun k => x1 (ix2 (j 0) k)) * x4 (ix2 0 (j 1))

/-- The block's part of the scale's gradient. -/
def dgBlk : Vec Ideal S1x1024 .f32 := fun j =>
  ∑ r : Fin 512, dhid x2 x3 x5 x6 r (j 1) * (x1 (ix2 r (j 1)) * rs (fun k => x1 (ix2 r k)))
end

/-! ## The payloads, entry by entry -/

/-- The accumulated products are `dhid`. -/
theorem dh_eq (x2 x3 : Vec Ideal S4x512x704 .bf16) (x5 x6 : Vec Ideal S4x704x1024 .bf16) (r : Fin 512) (k : Fin 1024) :
    k0_pay6 (k0_pay5 (k0_pay3 (View.ld x2 (Rect.unit (s := S4x512x704) ![0, 0, 0] S1x512x704.size inb_S4x512x704_S1x512x704_0_0_0)) (View.ld x5 (Rect.unit (s := S4x704x1024) ![0, 0, 0] S1x704x1024.size inb_S4x704x1024_S1x704x1024_0_0_0)) (View.ld x3 (Rect.unit (s := S4x512x704) ![0, 0, 0] S1x512x704.size inb_S4x512x704_S1x512x704_0_0_0)) (View.ld x6 (Rect.unit (s := S4x704x1024) ![0, 0, 0] S1x704x1024.size inb_S4x704x1024_S1x704x1024_0_0_0)))
        (k0_pay4 (View.ld x2 (Rect.unit (s := S4x512x704) ![1, 0, 0] S1x512x704.size inb_S4x512x704_S1x512x704_1_0_0)))
        (View.ld x5 (Rect.unit (s := S4x704x1024) ![1, 0, 0] S1x704x1024.size inb_S4x704x1024_S1x704x1024_1_0_0))
        (View.ld x3 (Rect.unit (s := S4x512x704) ![1, 0, 0] S1x512x704.size inb_S4x512x704_S1x512x704_1_0_0))
        (View.ld x6 (Rect.unit (s := S4x704x1024) ![1, 0, 0] S1x704x1024.size inb_S4x704x1024_S1x704x1024_1_0_0))
        (View.ld x2 (Rect.unit (s := S4x512x704) ![2, 0, 0] S1x512x704.size inb_S4x512x704_S1x512x704_2_0_0))
        (View.ld x5 (Rect.unit (s := S4x704x1024) ![2, 0, 0] S1x704x1024.size inb_S4x704x1024_S1x704x1024_2_0_0))
        (View.ld x3 (Rect.unit (s := S4x512x704) ![2, 0, 0] S1x512x704.size inb_S4x512x704_S1x512x704_2_0_0))
        (View.ld x6 (Rect.unit (s := S4x704x1024) ![2, 0, 0] S1x704x1024.size inb_S4x704x1024_S1x704x1024_2_0_0))
        (View.ld x2 (Rect.unit (s := S4x512x704) ![3, 0, 0] S1x512x704.size inb_S4x512x704_S1x512x704_3_0_0))
        (View.ld x5 (Rect.unit (s := S4x704x1024) ![3, 0, 0] S1x704x1024.size inb_S4x704x1024_S1x704x1024_3_0_0)))
      (View.ld x3 (Rect.unit (s := S4x512x704) ![3, 0, 0] S1x512x704.size inb_S4x512x704_S1x512x704_3_0_0))
      (View.ld x6 (Rect.unit (s := S4x704x1024) ![3, 0, 0] S1x704x1024.size inb_S4x704x1024_S1x704x1024_3_0_0)) (ix2 r k)
    = dhid x2 x3 x5 x6 r k := by
  pointwise [k0_pay6, k0_pay5, k0_pay4, k0_pay3]
  unfold dhid
  rw [Fin.sum_univ_four]
  simp only [add_assoc]

theorem rs_eq (x1 : Vec Ideal S512x1024 .f32) (r : Fin 512) (u : Fin 1) : k0_pay7 x1 (ix2 r u) = rs fun k => x1 (ix2 r k) := by
  pointwise [k0_pay7, rs, den]

/-- The first point leaves the gradient of `x`, -/
theorem out_A_7 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (hc1 : ¬cond0_1 i)
    (x0 x1 : Vec Ideal S512x1024 .f32) (x2 x3 : Vec Ideal S4x512x704 .bf16) (x4 : Vec Ideal S1x1024 .f32)
    (x5 x6 : Vec Ideal S4x704x1024 .bf16) :
    out0_A_7 c i a1 h1 a2 h2 a3 h3 a4 h4 a5 h5 a6 h6 a7 h7 a8 h8 a9 h9 a10 h10 hc0 hc1 x0 x1 x2 x3 x4 x5 x6 = dxBlk x0 x1 x2 x3 x4 x5 x6 := by
  unfold out0_A_7
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay10, k0_pay8, dxBlk, bwd]
  simp only [dh_eq, rs_eq]

/-- the normalised rows, -/
theorem out_A_8 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (hc1 : ¬cond0_1 i)
    (x0 x1 : Vec Ideal S512x1024 .f32) (x2 x3 : Vec Ideal S4x512x704 .bf16) (x4 : Vec Ideal S1x1024 .f32)
    (x5 x6 : Vec Ideal S4x704x1024 .bf16) :
    out0_A_8 c i a1 h1 a2 h2 a3 h3 a4 h4 a5 h5 a6 h6 a7 h7 a8 h8 a9 h9 a10 h10 hc0 hc1 x0 x1 x2 x3 x4 x5 x6 = hBlk x1 x4 := by
  unfold out0_A_8
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay2, hBlk, rs, den]

/-- and its part of the gradient of the scale, alone. -/
theorem out_A_9 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (hc1 : ¬cond0_1 i)
    (x0 x1 : Vec Ideal S512x1024 .f32) (x2 x3 : Vec Ideal S4x512x704 .bf16) (x4 : Vec Ideal S1x1024 .f32)
    (x5 x6 : Vec Ideal S4x704x1024 .bf16) :
    out0_A_9 c i a1 h1 a2 h2 a3 h3 a4 h4 a5 h5 a6 h6 a7 h7 a8 h8 a9 h9 a10 h10 hc0 hc1 x0 x1 x2 x3 x4 x5 x6 = dgBlk x1 x2 x3 x5 x6 := by
  unfold out0_A_9
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay1, k0_pay9, k0_pay8, dgBlk]
  simp only [dh_eq, rs_eq]

/-- Every other point leaves the gradient of `x`, -/
theorem out_B_7 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (hc1 : cond0_1 i)
    (x0 x1 : Vec Ideal S512x1024 .f32) (x2 x3 : Vec Ideal S4x512x704 .bf16) (x4 : Vec Ideal S1x1024 .f32)
    (x5 x6 : Vec Ideal S4x704x1024 .bf16) (xo : Vec Ideal S1x1024 .f32) :
    out0_B_7 c i a1 h1 a2 h2 a3 h3 a4 h4 a5 h5 a6 h6 a7 h7 a8 h8 a9 h9 a10 h10 hc0 hc1 x0 x1 x2 x3 x4 x5 x6 xo = dxBlk x0 x1 x2 x3 x4 x5 x6 := by
  unfold out0_B_7
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay10, k0_pay8, dxBlk, bwd]
  simp only [dh_eq, rs_eq]

/-- the normalised rows, -/
theorem out_B_8 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (hc1 : cond0_1 i)
    (x0 x1 : Vec Ideal S512x1024 .f32) (x2 x3 : Vec Ideal S4x512x704 .bf16) (x4 : Vec Ideal S1x1024 .f32)
    (x5 x6 : Vec Ideal S4x704x1024 .bf16) (xo : Vec Ideal S1x1024 .f32) :
    out0_B_8 c i a1 h1 a2 h2 a3 h3 a4 h4 a5 h5 a6 h6 a7 h7 a8 h8 a9 h9 a10 h10 hc0 hc1 x0 x1 x2 x3 x4 x5 x6 xo = hBlk x1 x4 := by
  unfold out0_B_8
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay2, hBlk, rs, den]

/-- and its part of the gradient of the scale, added to what was there. -/
theorem out_B_9 (c : Dev nD) (i : grid0.Coords) (a1 : Memref sig .tc .vmem S512x1024 .f32) (h1 : a1.IsWhole) (a2 : Memref sig .tc .vmem S512x1024 .f32) (h2 : a2.IsWhole) (a3 : Memref sig .tc .vmem S4x512x704 .bf16) (h3 : a3.IsWhole) (a4 : Memref sig .tc .vmem S4x512x704 .bf16) (h4 : a4.IsWhole) (a5 : Memref sig .tc .vmem S1x1024 .f32) (h5 : a5.IsWhole) (a6 : Memref sig .tc .vmem S4x704x1024 .bf16) (h6 : a6.IsWhole) (a7 : Memref sig .tc .vmem S4x704x1024 .bf16) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (hc1 : cond0_1 i)
    (x0 x1 : Vec Ideal S512x1024 .f32) (x2 x3 : Vec Ideal S4x512x704 .bf16) (x4 : Vec Ideal S1x1024 .f32)
    (x5 x6 : Vec Ideal S4x704x1024 .bf16) (xo : Vec Ideal S1x1024 .f32) :
    out0_B_9 c i a1 h1 a2 h2 a3 h3 a4 h4 a5 h5 a6 h6 a7 h7 a8 h8 a9 h9 a10 h10 hc0 hc1 x0 x1 x2 x3 x4 x5 x6 xo = fun j => xo j + dgBlk x1 x2 x3 x5 x6 j := by
  unfold out0_B_9
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, h10.read_unread, View.ld_unit_zero (S := S512x1024) hz2,
    View.ld_unit_zero (S := S1x1024) hz2]
  funext j
  idx_vars j
  pointwise [k0_pay1, k0_pay9, k0_pay8, dgBlk]
  simp only [dh_eq, rs_eq]

end Cert.FfnBwdB
-- ==== Proof.FfnBwdB.Array.lean ====
/-
  WHAT THE FEED-FORWARD BACKWARD CALL LEAVES IN ITS RESULT ARRAYS.

  Grid point `t` works on rows `512 t … 512 t + 511`. The gradient of `x` and the normalised rows are written block by
  block, so an entry of row `512 t + r` is the entry of the block's row `r`. The scale's gradient stays in one block over
  all 32 points: it ends as the sum of the points' parts, and so as one sum over all 16384 rows.
-/
module

public import proofs.«01_k».proof.Proof.FfnBwdB.Block

@[expose] public section

set_option maxRecDepth 16384

noncomputable section

namespace Cert.FfnBwdB

open Cert.Kernel2Ideal Cert.Kernel2Ideal.Gen Idealize.ShloMosaic Idealize.ShloMosaic.TcCoe Idealize.SL.Sem
open Cert.Rms

variable (m : (ℓ : Loc nD τ sig) → Buf (Elt Ideal) ℓ) (c : Dev nD)

abbrev aDy : Vec Ideal S16384x1024 .f32 := m ((c : Thread nD τ).loc main_arg0)
abbrev aX : Vec Ideal S16384x1024 .f32 := m ((c : Thread nD τ).loc main_arg1)
abbrev aDg : Vec Ideal S4x16384x704 .bf16 := m ((c : Thread nD τ).loc main_arg2)
abbrev aDu : Vec Ideal S4x16384x704 .bf16 := m ((c : Thread nD τ).loc main_arg3)
abbrev aG : Vec Ideal S1x1024 .f32 := m ((c : Thread nD τ).loc main_arg4)
abbrev aWg : Vec Ideal S1024x2816 .f32 := m ((c : Thread nD τ).loc main_arg5)
abbrev aWu : Vec Ideal S1024x2816 .f32 := m ((c : Thread nD τ).loc main_arg6)

theorem points : cfg0.N = 32 := N_0

/-- Row `r` of point `t`'s block, as a row of the array. -/
def row (t : Fin cfg0.N) (r : Fin 512) : Fin 16384 :=
  ⟨t.val * 512 + r.val, by have := t.isLt; have := r.isLt; have := points; omega⟩

/-- Column `f` of column group `s`. -/
def col (s : Fin 4) (f : Fin 704) : Fin 2816 := ⟨s.val * 704 + f.val, by have := s.isLt; have := f.isLt; omega⟩

/-- A sum over the columns, group by group. -/
theorem sum_col (f : Fin 2816 → EReal) : ∑ k, f k = ∑ s : Fin 4, ∑ t : Fin 704, f (col s t) :=
  Fin.sum_univ_tiles 4 704 (by norm_num) f

/-- The gradient of the normalised row `R` at column `k`. -/
def dh (R : Fin 16384) (k : Fin 1024) : EReal :=
  ∑ s : Fin 4, ((∑ f : Fin 704, aDg m c (ix3 s R f) * aWg m c (ix2 k (col s f)))
    + ∑ f : Fin 704, aDu m c (ix3 s R f) * aWu m c (ix2 k (col s f)))

/-- The gradient of `x`. -/
def dxArr : Vec Ideal S16384x1024 .f32 := fun i =>
  aDy m c i + bwd (fun k => aX m c (ix2 (i 0) k)) (fun k => dh m c (i 0) k * aG m c (ix2 0 k)) (i 1)

/-- The normalised rows times the scale. -/
def hArr : Vec Ideal S16384x1024 .bf16 := fun i =>
  aX m c i * rs (fun k => aX m c (ix2 (i 0) k)) * aG m c (ix2 0 (i 1))

/-- The gradient of the scale. -/
def dgArr : Vec Ideal S1x1024 .f32 := fun i =>
  ∑ R : Fin 16384, dh m c R (i 1) * (aX m c (ix2 R (i 1)) * rs (fun k => aX m c (ix2 R k)))

/-! ## The blocks, read from the arrays -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = t.val ∧ win0_2.index t 2 = 0 := by decide +kernel
theorem index3 : ∀ t : Fin grid0.N, win0_3.index t 0 = 0 ∧ win0_3.index t 1 = t.val ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 ∧ win0_5.index t 2 = 0 := by decide +kernel
theorem index6 : ∀ t : Fin grid0.N, win0_6.index t 0 = 0 ∧ win0_6.index t 1 = 0 ∧ win0_6.index t 2 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = 0 ∧ win0_9.index t 1 = 0 := by decide +kernel

theorem iblk0 (t : Fin cfg0.N) (r : Fin 512) (k : Fin 1024) :
    (iblk m c 0 t : Vec Ideal S512x1024 .f32) (ix2 r k) = aDy m c (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

theorem iblk1 (t : Fin cfg0.N) (r : Fin 512) (k : Fin 1024) :
    (iblk m c 1 t : Vec Ideal S512x1024 .f32) (ix2 r k) = aX m c (ix2 (row t r) k) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(index1 t).1]; omega
  | ⟨1, _⟩ => show win0_1.index t 1 * 1024 + 1 * k.val = k.val; rw [(index1 t).2]; omega

theorem iblk2 (t : Fin cfg0.N) (s : Fin 4) (r : Fin 512) (f : Fin 704) :
    (iblk m c 2 t : Vec Ideal S4x512x704 .bf16) (ix3 s r f) = aDg m c (ix3 s (row t r) f) := by
  unfold iblk
  rw [View.read_apply]
  show V m c main_arg2 _ = _
  rw [V_main_arg2]
  congr 1
  funext a
  apply Fin.ext
  match a with
  | ⟨0, _⟩ => show win0_2.index t 0 * 4 + 1 * s.val = s.val; rw [(index2 t).1]; omega
  | ⟨1, _⟩ => show win0_2.index t 1 * 512 + 1 * r.val = t.val * 512 + r.val; rw [(index2 t).2.1]; omega
  | ⟨2, _⟩ => show win0_2.index t 2 * 704 + 1 * f.val = f.val; rw [(index2 t).2.2]; omega

theorem iblk3 (t : Fin cfg0.N) (s : Fin 4) (r : Fin 512) (f : Fin 704) :
    (iblk m c 3 t : Vec Ideal S4x512x704 .bf16) (ix3 s r f) = aDu m c (ix3 s (row t r) f) := by
  unfold iblk
  rw [View.read_apply]
  show V m c main_arg3 _ = _
  rw [V_main_arg3]
  congr 1
  funext a
  apply Fin.ext
  match a with
  | ⟨0, _⟩ => show win0_3.index t 0 * 4 + 1 * s.val = s.val; rw [(index3 t).1]; omega
  | ⟨1, _⟩ => show win0_3.index t 1 * 512 + 1 * r.val = t.val * 512 + r.val; rw [(index3 t).2.1]; omega
  | ⟨2, _⟩ => show win0_3.index t 2 * 704 + 1 * f.val = f.val; rw [(index3 t).2.2]; omega

theorem iblk4 (t : Fin cfg0.N) (u : Fin 1) (k : Fin 1024) :
    (iblk m c 4 t : Vec Ideal S1x1024 .f32) (ix2 u k) = aG m c (ix2 u k) := by
  unfold iblk
  rw [View.read_apply]
  show V m c main_arg4 _ = _
  rw [V_main_arg4]
  congr 1
  funext a
  apply Fin.ext
  match a with
  | ⟨0, _⟩ => show win0_4.index t 0 * 1 + 1 * u.val = u.val; rw [(index4 t).1]; omega
  | ⟨1, _⟩ => show win0_4.index t 1 * 1024 + 1 * k.val = k.val; rw [(index4 t).2]; omega

/-- A weight transposed and cut into its four row groups, as the host prepares it. -/
def prepared (w : FVec Ideal S1024x2816 .f32) : FVec Ideal S4x704x1024 .bf16 :=
  truncf .bf16 (shapeCast S4x704x1024 (transpose S2816x1024 [1, 0] w transposes_S1024x2816_S2816x1024_1_0)
    shapeCasts_S2816x1024_S4x704x1024) bitsLt_bf16_f32

theorem prepared_apply (w : FVec Ideal S1024x2816 .f32) (s : Fin 4) (f : Fin 704) (k : Fin 1024) :
    prepared w (ix3 s f k) = w (ix2 k (col s f)) := by
  pointwise [prepared, col]

theorem prep5 : V m c main_v2 = prepared (aWg m c) := by
  show StableHlo.after hostOps0 _ (Proc.devRef .tc main_v2) = _
  after_results_simp <;> rfl

theorem prep6 : V m c main_v5 = prepared (aWu m c) := by
  show StableHlo.after hostOps0 _ (Proc.devRef .tc main_v5) = _
  after_results_simp <;> rfl

theorem iblk5 (t : Fin cfg0.N) (s : Fin 4) (f : Fin 704) (k : Fin 1024) :
    (iblk m c 5 t : Vec Ideal S4x704x1024 .bf16) (ix3 s f k) = aWg m c (ix2 k (col s f)) := by
  rw [← prepared_apply (aWg m c), ← prep5]
  unfold iblk
  rw [View.read_apply]
  show V m c main_v2 _ = _
  congr 1
  funext a
  apply Fin.ext
  match a with
  | ⟨0, _⟩ => show win0_5.index t 0 * 4 + 1 * s.val = s.val; rw [(index5 t).1]; omega
  | ⟨1, _⟩ => show win0_5.index t 1 * 704 + 1 * f.val = f.val; rw [(index5 t).2.1]; omega
  | ⟨2, _⟩ => show win0_5.index t 2 * 1024 + 1 * k.val = k.val; rw [(index5 t).2.2]; omega

theorem iblk6 (t : Fin cfg0.N) (s : Fin 4) (f : Fin 704) (k : Fin 1024) :
    (iblk m c 6 t : Vec Ideal S4x704x1024 .bf16) (ix3 s f k) = aWu m c (ix2 k (col s f)) := by
  rw [← prepared_apply (aWu m c), ← prep6]
  unfold iblk
  rw [View.read_apply]
  show V m c main_v5 _ = _
  congr 1
  funext a
  apply Fin.ext
  match a with
  | ⟨0, _⟩ => show win0_6.index t 0 * 4 + 1 * s.val = s.val; rw [(index6 t).1]; omega
  | ⟨1, _⟩ => show win0_6.index t 1 * 704 + 1 * f.val = f.val; rw [(index6 t).2.1]; omega
  | ⟨2, _⟩ => show win0_6.index t 2 * 1024 + 1 * k.val = k.val; rw [(index6 t).2.2]; omega

theorem dhid_eq (t : Fin cfg0.N) (r : Fin 512) (k : Fin 1024) :
    dhid (iblk m c 2 t) (iblk m c 3 t) (iblk m c 5 t) (iblk m c 6 t) r k = dh m c (row t r) k := by
  simp only [dhid, dh, iblk2, iblk3, iblk5, iblk6]

/-! ## What a point leaves -/

theorem left7 (t : Fin cfg0.N) : (outsAt0 m c t.val t.isLt).1
    = dxBlk (iblk m c 0 t) (iblk m c 1 t) (iblk m c 2 t) (iblk m c 3 t) (iblk m c 4 t) (iblk m c 5 t) (iblk m c 6 t) := by
  have hN := points
  have ht := t.isLt
  by_cases h : t.val = 0
  · rw [outsAt0_A m c t (by omega) (by omega)]; dsimp only; rw [out_A_7]
  · rw [outsAt0_B m c t (by omega) (by omega)]; dsimp only; rw [out_B_7]

theorem left8 (t : Fin cfg0.N) : (outsAt0 m c t.val t.isLt).2.1 = hBlk (iblk m c 1 t) (iblk m c 4 t) := by
  have hN := points
  have ht := t.isLt
  by_cases h : t.val = 0
  · rw [outsAt0_A m c t (by omega) (by omega)]; dsimp only; rw [out_A_8]
  · rw [outsAt0_B m c t (by omega) (by omega)]; dsimp only; rw [out_B_8]

/-- The rows of point `t`'s part of the scale's gradient. -/
theorem dgBlk_eq (t : Fin cfg0.N) (u : Fin 1) (k : Fin 1024) :
    dgBlk (iblk m c 1 t) (iblk m c 2 t) (iblk m c 3 t) (iblk m c 5 t) (iblk m c 6 t) (ix2 u k)
      = ∑ r : Fin 512, dh m c (row t r) k * (aX m c (ix2 (row t r) k) * rs (fun l => aX m c (ix2 (row t r) l))) := by
  unfold dgBlk
  simp only [ix2_0, ix2_1, dhid_eq, iblk1]

/-- After point `n` the third output holds the sum of the parts of the points so far. -/
theorem left9 : ∀ (n : ℕ) (h : n < cfg0.N) (u : Fin 1) (k : Fin 1024), (outsAt0 m c n h).2.2 (ix2 u k)
      = ∑ p : Fin (n + 1), ∑ r : Fin 512, dh m c (row ⟨p.val, by omega⟩ r) k
          * (aX m c (ix2 (row ⟨p.val, by omega⟩ r) k) * rs (fun l => aX m c (ix2 (row ⟨p.val, by omega⟩ r) l)))
  | 0, h, u, k => by
    rw [outsAt0_A m c ⟨0, h⟩ rfl (by simp), Fin.sum_univ_one]
    dsimp only
    rw [out_A_9, dgBlk_eq]
    rfl
  | n + 1, h, u, k => by
    have hN := points
    rw [outsAt0_B m c ⟨n + 1, h⟩ (by dsimp only; omega) (by dsimp only; omega), Fin.sum_univ_castSucc]
    dsimp only
    rw [out_B_9]
    dsimp only
    rw [dgBlk_eq]
    exact congrArg (· + _) (left9 n (Nat.lt_of_succ_lt h) u k)

/-! ## The arrays -/

/-- Point `t`'s block of an array of result `7`'s shape, entry by entry. -/
theorem block7 (G : Vec Ideal S16384x1024 .f32) (t : Fin cfg0.N) (r : Fin 512) (k : Fin 1024) :
    ((cfg0.win 7).blk t).view.read (Elt Ideal) (show Buf (Elt Ideal) ((cfg0.win 7).arr.view.loc (c.tc : Thread nD τ)) from G) (ix2 r k) = G (ix2 (row t r) k) := by
  rw [View.read_apply]
  show G _ = G _
  refine congrArg G ?_
  funext a
  apply Fin.ext
  match a with
  | ⟨0, _⟩ => show win0_7.index t 0 * 512 + 1 * r.val = t.val * 512 + r.val; rw [(index7 t).1]; omega
  | ⟨1, _⟩ => show win0_7.index t 1 * 1024 + 1 * k.val = k.val; rw [(index7 t).2]; omega

theorem mem7 (t : Fin cfg0.N) (i : S16384x1024.Idx) (h0 : t.val * 512 ≤ (i 0).val ∧ (i 0).val < t.val * 512 + 512) : i ∈ ((cfg0.win 7).blk t).view.set := by
  show i ∈ ((View.whole main_v6_0).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [(index7 t).1]
    exact h0
  | ⟨1, _⟩ =>
    show win0_7.index t 1 * 1024 ≤ (i 1 : Nat) ∧ (i 1 : Nat) < win0_7.index t 1 * 1024 + 1024
    rw [(index7 t).2]
    rw [Nat.zero_mul, Nat.zero_add]
    exact ⟨Nat.zero_le _, (i 1).isLt⟩

/-- Point `t`'s block of an array of result `8`'s shape, entry by entry. -/
theorem block8 (G : Vec Ideal S16384x1024 .bf16) (t : Fin cfg0.N) (r : Fin 512) (k : Fin 1024) :
    ((cfg0.win 8).blk t).view.read (Elt Ideal) (show Buf (Elt Ideal) ((cfg0.win 8).arr.view.loc (c.tc : Thread nD τ)) from G) (ix2 r k) = G (ix2 (row t r) k) := by
  rw [View.read_apply]
  show G _ = G _
  refine congrArg G ?_
  funext a
  apply Fin.ext
  match a with
  | ⟨0, _⟩ => show win0_8.index t 0 * 512 + 1 * r.val = t.val * 512 + r.val; rw [(index8 t).1]; omega
  | ⟨1, _⟩ => show win0_8.index t 1 * 1024 + 1 * k.val = k.val; rw [(index8 t).2]; omega

theorem mem8 (t : Fin cfg0.N) (i : S16384x1024.Idx) (h0 : t.val * 512 ≤ (i 0).val ∧ (i 0).val < t.val * 512 + 512) : i ∈ ((cfg0.win 8).blk t).view.set := by
  show i ∈ ((View.whole main_v6_1).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(index8 t).1]
    exact h0
  | ⟨1, _⟩ =>
    show win0_8.index t 1 * 1024 ≤ (i 1 : Nat) ∧ (i 1 : Nat) < win0_8.index t 1 * 1024 + 1024
    rw [(index8 t).2]
    rw [Nat.zero_mul, Nat.zero_add]
    exact ⟨Nat.zero_le _, (i 1).isLt⟩

theorem mem9 (t : Fin cfg0.N) (i : S1x1024.Idx)  : i ∈ ((cfg0.win 9).blk t).view.set := by
  show i ∈ ((View.whole main_v6_2).slice (win0_9.rect t)).set
  rw [View.set_slice_whole, Rect.mem_set_unit]
  intro a
  match a with
  | ⟨0, _⟩ =>
    show win0_9.index t 0 * 1 ≤ (i 0 : Nat) ∧ (i 0 : Nat) < win0_9.index t 0 * 1 + 1
    rw [(index9 t).1]
    rw [Nat.zero_mul, Nat.zero_add]
    exact ⟨Nat.zero_le _, (i 0).isLt⟩
  | ⟨1, _⟩ =>
    show win0_9.index t 1 * 1024 ≤ (i 1 : Nat) ∧ (i 1 : Nat) < win0_9.index t 1 * 1024 + 1024
    rw [(index9 t).2]
    rw [Nat.zero_mul, Nat.zero_add]
    exact ⟨Nat.zero_le _, (i 1).isLt⟩

theorem final7 : (Gen.dats m 0 c).arrAt 7 cfg0.N = dxArr m c :=
  (dats m 0 c).arrAt_eq_of_cover 7 (dxArr m c) (fun t _ => by
    show (cfg0.win 7).cut (grid0.coords t) ((dats m 0 c).after 7 t) = _
    rw [after0_7, left7]
    funext j
    obtain ⟨r, k, rfl⟩ : ∃ (r : Fin 512) (k : Fin 1024), j = ix2 r k := ⟨j 0, j 1, eq_ix2 j⟩
    refine Eq.trans ?_ (block7 c (dxArr m c) t r k).symm
    show dxBlk _ _ _ _ _ _ _ (ix2 r k) = _
    simp only [dxBlk, dxArr, dhid_eq, iblk0, iblk1, iblk4, ix2_0, ix2_1]) fun (i : S16384x1024.Idx) => by
    have hN := points
    have h : (i 0).val < 16384 := (i 0).isLt
    exact ⟨⟨(i 0).val / 512, by omega⟩, flush0_7 _, mem7 _ i (by dsimp only; omega)⟩

theorem final8 : (Gen.dats m 0 c).arrAt 8 cfg0.N = hArr m c :=
  (dats m 0 c).arrAt_eq_of_cover 8 (hArr m c) (fun t _ => by
    show (cfg0.win 8).cut (grid0.coords t) ((dats m 0 c).after 8 t) = _
    rw [after0_8, left8]
    funext j
    obtain ⟨r, k, rfl⟩ : ∃ (r : Fin 512) (k : Fin 1024), j = ix2 r k := ⟨j 0, j 1, eq_ix2 j⟩
    refine Eq.trans ?_ (block8 c (hArr m c) t r k).symm
    show hBlk _ _ (ix2 r k) = _
    simp only [hBlk, hArr, iblk1, iblk4, ix2_0, ix2_1]) fun (i : S16384x1024.Idx) => by
    have hN := points
    have h : (i 0).val < 16384 := (i 0).isLt
    exact ⟨⟨(i 0).val / 512, by omega⟩, flush0_8 _, mem8 _ i (by dsimp only; omega)⟩

theorem final9 : (Gen.dats m 0 c).arrAt 9 cfg0.N = dgArr m c :=
  (dats m 0 c).arrAt_eq_of_cover 9 (dgArr m c) (fun t ht => by
    have hN := points
    have htl : t.val = 31 := by have := (flush0_9 t).1 ht; have := t.isLt; omega
    have hz : (fun a => win0_9.index t a * main_v6_2.ty.shape.size a) = fun _ => 0 := funext fun a =>
      match a with
      | ⟨0, _⟩ => by show win0_9.index t 0 * _ = 0; rw [(index9 t).1, Nat.zero_mul]
      | ⟨1, _⟩ => by show win0_9.index t 1 * _ = 0; rw [(index9 t).2, Nat.zero_mul]
    refine Eq.trans ?_ (Memref.read_access_unit_zero (Elt Ideal) main_v6_2 hz (fun a => by rw [congrFun hz a]; simp) (dgArr m c)).symm
    show (cfg0.win 9).cut (grid0.coords _) ((dats m 0 c).after 9 _) = _
    rw [after0_9]
    funext j
    obtain ⟨u, k, rfl⟩ : ∃ (u : Fin 1) (k : Fin 1024), j = ix2 u k := ⟨j 0, j 1, eq_ix2 j⟩
    show (outsAt0 m c t.val _).2.2 (ix2 u k) = _
    rw [left9]
    unfold dgArr
    rw [Fin.sum_univ_tiles 32 512 rfl]
    exact Fintype.sum_equiv (finCongr (by omega)) _ _ fun p => rfl) fun (i : S1x1024.Idx) => by
    have hN := points
    exact ⟨⟨31, by omega⟩, (flush0_9 _).2 rfl, mem9 _ i⟩

end Cert.FfnBwdB
-- ==== Proof.FfnBwdB.Ref.lean ====
/-
  WHAT THE FEED-FORWARD BACKWARD REFERENCE COMPUTES, ENTRY BY ENTRY.

  Its three results are terms over whole arrays; each is read here at one index. The products run over the 2816 columns in
  one sum, which is the sum over the four column groups.
-/
module

public import proofs.«01_k».proof.Proof.FfnBwdB.Array
public import proofs.«01_k».proof.Proof.Gen.Reference2Ideal.Run

@[expose] public section

set_option maxRecDepth 16384

noncomputable section

namespace Cert.FfnBwdB.Ref

open Cert.Reference2Ideal Cert.Reference2Ideal.Gen Idealize.ShloMosaic Idealize.ShloMosaic.TcCoe Idealize.SL.Sem
open Cert.Rms Cert.FfnBwdB

variable (dy x : FVec Ideal S16384x1024 .f32) (dg du : FVec Ideal S4x16384x704 .bf16) (g : FVec Ideal S1x1024 .f32)
  (wg wu : FVec Ideal S1024x2816 .f32)

/-- The square root's reciprocal of each row, as the reference writes it. -/
def rsV : FVec Ideal S16384x1 .f32 :=
  Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

/-- The gradient of the normalised rows. -/
def dhV : FVec Ideal S16384x1024 .f32 :=
  addf (Host.dotGeneral dot_S16384x2816_S1024x2816_S16384x1024_1_1_0_0_n_n none
      (extf .f32 (shapeCast S16384x2816 (transpose S16384x4x704 [1, 0, 2] du transposes_S4x16384x704_S16384x4x704_1_0_2) shapeCasts_S16384x4x704_S16384x2816) bitsLt_bf16_f32) wu)
    (Host.dotGeneral dot_S16384x2816_S1024x2816_S16384x1024_1_1_0_0_n_n none
      (extf .f32 (shapeCast S16384x2816 (transpose S16384x4x704 [1, 0, 2] dg transposes_S4x16384x704_S16384x4x704_1_0_2) shapeCasts_S16384x4x704_S16384x2816) bitsLt_bf16_f32) wg)

theorem rsV_apply (R : Fin 16384) (u : Fin 1) : rsV x (ix2 R u) = rs (fun k => x (ix2 R k)) := by
  pointwise [rsV, rs, den, len, eps]

/-- The coefficient of the row that comes from the row's own length. -/
def coefV (a : FVec Ideal S16384x1024 .f32) : FVec Ideal S16384x1024 .f32 :=
  broadcastInDim S16384x1024 ![0] bcast_S16384_S16384x1024_0 (Host.reduceAdd (Host.divf (mulf
      (shapeCast S16384x1 (Host.reduceAdd (mulf x a) (constant S_ .f32 0x00000000#32) reducesTo_S16384x1024_S16384_d1 h_S_) shapeCasts_S16384_S16384x1)
      (mulf (broadcastInDim S16384x1 ![] bcast_S_S16384x1 (constant S_ .f32 0xBF000000#32)) (Host.divf (rsV x)
        (addf (Host.divf (broadcastInDim S16384x1 ![0] bcast_S16384_S16384x1_0
          (Host.reduceAdd (mulf x x) (constant S_ .f32 0x00000000#32) reducesTo_S16384x1024_S16384_d1 h_S_))
          (broadcastInDim S16384x1 ![] bcast_S_S16384x1 (constant S_ .f32 0x44800000#32)))
          (broadcastInDim S16384x1 ![] bcast_S_S16384x1 (constant S_ .f32 0x358637BD#32))))))
      (broadcastInDim S16384x1 ![] bcast_S_S16384x1 (constant S_ .f32 0x44800000#32)))
    (constant S_ .f32 0x00000000#32) reducesTo_S16384x1_S16384_d1 h_S_)

/-- The gradient of `x`. -/
def dxV (dh : FVec Ideal S16384x1024 .f32) : FVec Ideal S16384x1024 .f32 :=
  addf (addf (addf dy (mulf (mulf dh (broadcastInDim S16384x1024 ![0, 1] bcast_S1x1024_S16384x1024_0_1 g))
        (broadcastInDim S16384x1024 ![0, 1] bcast_S16384x1_S16384x1024_0_1 (rsV x))))
      (mulf x (coefV x (mulf dh (broadcastInDim S16384x1024 ![0, 1] bcast_S1x1024_S16384x1024_0_1 g)))))
    (mulf (coefV x (mulf dh (broadcastInDim S16384x1024 ![0, 1] bcast_S1x1024_S16384x1024_0_1 g))) x)

/-- The normalised rows times the scale. -/
def hV : FVec Ideal S16384x1024 .bf16 :=
  truncf .bf16 (mulf (mulf x (broadcastInDim S16384x1024 ![0, 1] bcast_S16384x1_S16384x1024_0_1 (rsV x)))
    (broadcastInDim S16384x1024 ![0, 1] bcast_S1x1024_S16384x1024_0_1 g)) bitsLt_bf16_f32

/-- The gradient of the scale. -/
def dgV (dh : FVec Ideal S16384x1024 .f32) : FVec Ideal S1x1024 .f32 :=
  shapeCast S1x1024 (Host.reduceAdd (mulf (mulf x (broadcastInDim S16384x1024 ![0, 1] bcast_S16384x1_S16384x1024_0_1 (rsV x))) dh)
    (constant S_ .f32 0x00000000#32) reducesTo_S16384x1024_S1024_d0 h_S_) shapeCasts_S1024_S1x1024

theorem dhV_apply (R : Fin 16384) (k : Fin 1024) : dhV dg du wg wu (ix2 R k)
    = ∑ s : Fin 4, ((∑ f : Fin 704, dg (ix3 s R f) * wg (ix2 k (col s f))) + ∑ f : Fin 704, du (ix3 s R f) * wu (ix2 k (col s f))) := by
  pointwise [dhV]
  rw [sum_col, sum_col, add_comm, ← Finset.sum_add_distrib]
  have hs : ∀ (s : Fin 4) (f : Fin 704) (h), (⟨(col s f).val / 704, h⟩ : Fin 4) = s := fun s f h =>
    Fin.ext (by show (s.val * 704 + f.val) / 704 = s.val; have := f.isLt; omega)
  have hf : ∀ (s : Fin 4) (f : Fin 704) (h), (⟨(col s f).val % 704, h⟩ : Fin 704) = f := fun s f h =>
    Fin.ext (by show (s.val * 704 + f.val) % 704 = f.val; have := f.isLt; omega)
  simp only [hs, hf]

theorem coefV_apply (a : FVec Ideal S16384x1024 .f32) (R : Fin 16384) (k : Fin 1024) :
    coefV x a (ix2 R k) = coef (fun l => x (ix2 R l)) (fun l => a (ix2 R l)) := by
  pointwise [coefV]
  simp only [rsV_apply, Fin.sum_univ_one]
  rfl

theorem dxV_apply (dh : FVec Ideal S16384x1024 .f32) (R : Fin 16384) (k : Fin 1024) :
    dxV dy x g dh (ix2 R k) = dy (ix2 R k) + bwd (fun l => x (ix2 R l)) (fun l => dh (ix2 R l) * g (ix2 0 l)) k := by
  have h : (fun l => mulf dh (broadcastInDim S16384x1024 ![0, 1] bcast_S1x1024_S16384x1024_0_1 g) (ix2 R l))
      = fun l => dh (ix2 R l) * g (ix2 0 l) := funext fun l => by pointwise
  rw [rms_bwd]
  pointwise [dxV]
  simp only [rsV_apply, coefV_apply, h]

theorem hV_apply (R : Fin 16384) (k : Fin 1024) :
    hV x g (ix2 R k) = x (ix2 R k) * rs (fun l => x (ix2 R l)) * g (ix2 0 k) := by
  pointwise [hV]
  simp only [rsV_apply]

theorem dgV_apply (dh : FVec Ideal S16384x1024 .f32) (u : Fin 1) (k : Fin 1024) :
    dgV x dh (ix2 u k) = ∑ R : Fin 16384, dh (ix2 R k) * (x (ix2 R k) * rs (fun l => x (ix2 R l))) := by
  pointwise [dgV]
  simp only [rsV_apply]
  exact Finset.sum_congr rfl fun R _ => mul_comm _ _

variable (m : (ℓ : Loc nD τ sig) → Buf (Elt Ideal) ℓ) (c : Dev nD)

theorem run (ρ : Dev nD → PrngReg) :
    θ_run defs (onTc (τ := τ) (main (F := Ideal))) ⟨m, fun _ => 0, ρ⟩ fun r => ∀ c : Dev nD,
      r.2.mem ((c.tc : Thread nD τ).loc main_v45) = dxV (m ((c.tc : Thread nD τ).loc main_arg0)) (m ((c.tc : Thread nD τ).loc main_arg1)) (m ((c.tc : Thread nD τ).loc main_arg4))
          (dhV (m ((c.tc : Thread nD τ).loc main_arg2)) (m ((c.tc : Thread nD τ).loc main_arg3)) (m ((c.tc : Thread nD τ).loc main_arg5)) (m ((c.tc : Thread nD τ).loc main_arg6)))
      ∧ r.2.mem ((c.tc : Thread nD τ).loc main_v58) = hV (m ((c.tc : Thread nD τ).loc main_arg1)) (m ((c.tc : Thread nD τ).loc main_arg4))
      ∧ r.2.mem ((c.tc : Thread nD τ).loc main_v28) = dgV (m ((c.tc : Thread nD τ).loc main_arg1))
          (dhV (m ((c.tc : Thread nD τ).loc main_arg2)) (m ((c.tc : Thread nD τ).loc main_arg3)) (m ((c.tc : Thread nD τ).loc main_arg5)) (m ((c.tc : Thread nD τ).loc main_arg6))) :=
  (θ_run defs _ _).mono (fun _ h c => ⟨(h c).1, (h c).2.1, (h c).2.2.1⟩) (Value.run m ρ)

end Cert.FfnBwdB.Ref
-- ==== Proof.FfnBwdB.Equal.lean ====
/-
  THE EQUATION: the feed-forward backward call and its reference leave the same three arrays.
-/
module

public import proofs.«01_k».proof.Proof.FfnBwdB.Ref
public import proofs.«01_k».proof.Proof.Gen.Kernel2Ideal.Value
public import proofs.«01_k».proof.Defs

@[expose] public section

set_option maxRecDepth 16384

noncomputable section

namespace Cert.FfnBwdB

open Cert.Kernel2Ideal Cert.Kernel2Ideal.Gen Idealize.ShloMosaic Idealize.ShloMosaic.TcCoe Idealize.SL.Sem

section
variable (m : (ℓ : Loc nD τ sig) → Buf (Elt Ideal) ℓ) (c : Dev nD)

theorem dx_eq : Ref.dxV (aDy m c) (aX m c) (aG m c) (Ref.dhV (aDg m c) (aDu m c) (aWg m c) (aWu m c)) = dxArr m c := by
  funext j
  obtain ⟨R, k, rfl⟩ : ∃ (R : Fin 16384) (k : Fin 1024), j = ix2 R k := ⟨j 0, j 1, eq_ix2 j⟩
  rw [Ref.dxV_apply]
  simp only [Ref.dhV_apply]
  rfl

theorem h_eq : Ref.hV (aX m c) (aG m c) = hArr m c := by
  funext j
  obtain ⟨R, k, rfl⟩ : ∃ (R : Fin 16384) (k : Fin 1024), j = ix2 R k := ⟨j 0, j 1, eq_ix2 j⟩
  rw [Ref.hV_apply]
  rfl

theorem dg_eq : Ref.dgV (aX m c) (Ref.dhV (aDg m c) (aDu m c) (aWg m c) (aWu m c)) = dgArr m c := by
  funext j
  obtain ⟨u, k, rfl⟩ : ∃ (u : Fin 1) (k : Fin 1024), j = ix2 u k := ⟨j 0, j 1, eq_ix2 j⟩
  rw [Ref.dgV_apply]
  simp only [Ref.dhV_apply]
  rfl

end

theorem algebraic : Cert.algebraic_Kernel2Ideal_Reference2Ideal (hKernel2Ideal := Cert.Kernel2Ideal.Gen.facts) (hReference2Ideal := Cert.Reference2Ideal.Gen.facts) := by
  intro m g m' g' _ h
  refine ⟨fun c => dxArr m c, fun c => hArr m c, fun c => dgArr m c, ?_, ?_⟩
  · refine (θ_run _ _ _).mono (fun r hr c => ?_) (Value.run_blocks m g)
    have e := hr c
    exact ⟨(e.1).trans (final7 m c), (e.2.1).trans (final8 m c), (e.2.2.1).trans (final9 m c), e.2.2.2.1, e.2.2.2.2.1, e.2.2.2.2.2.1, e.2.2.2.2.2.2.1, e.2.2.2.2.2.2.2.1, e.2.2.2.2.2.2.2.2.1, e.2.2.2.2.2.2.2.2.2⟩
  · refine (θ_run _ _ _).mono (fun r hr c => ?_) (Cert.Reference2Ideal.Value.run m' g')
    have e := hr c
    obtain ⟨a0, a1, a2, a3, a4, a5, a6⟩ := h c
    have h0 : Ref.dxV (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) (Ref.dhV (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6))) = dxArr m c := by
      rw [a0, a1, a2, a3, a4, a5, a6]
      exact dx_eq m c
    have h1 : Ref.hV (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg4)) = hArr m c := by
      rw [a1, a4]
      exact h_eq m c
    have h2 : Ref.dgV (m' ((c.tc : Thread Cert.Reference2Ideal.nD Cert.Reference2Ideal.τ).loc Cert.Reference2Ideal.main_arg1)) (Ref.dhV (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6))) = dgArr m c := by
      rw [a1, a2, a3, a5, a6]
      exact dg_eq m c
    exact ⟨(e.1).trans h0, (e.2.1).trans h1, (e.2.2.1).trans h2, e.2.2.2.1, e.2.2.2.2.1, e.2.2.2.2.2.1, e.2.2.2.2.2.2.1, e.2.2.2.2.2.2.2.1, e.2.2.2.2.2.2.2.2.1, e.2.2.2.2.2.2.2.2.2⟩

end Cert.FfnBwdB
-- ==== Proof.FfnBwdA.Block.lean ====
/-
  WHAT ONE GRID POINT OF THE FEED-FORWARD BACKWARD'S FIRST CALL COMPUTES, from its blocks.

  The point holds 512 rows of the step's gradient `dy`, of the block's output `f` before its norm and of the two factors
  `d1`, `d2` (the products' derivatives that the forward pass saved, cut in four column groups of 704), the norm's scale
  `g`, and the output weight (cut in four row groups of 704). It leaves:

    · `df`, the norm's backward pass of half of `dy · g`;
    · `df · w_downᵀ` times `d1`, and times `d2`, group by group;
    · the sum over its rows of half of `dy` times the normed `f`, alone at the first point and added to what is there at
      the others.
-/
module

public import proofs.«01_k».proof.Proof.RmsRow
public import proofs.«01_k».proof.Proof.Gen.Kernel3Ideal.Value
public import Idealize.ShloMosaic.Lib.Tactic

@[expose] public section

set_option maxRecDepth 16384

noncomputable section

namespace Cert.FfnBwdA

open Cert.Kernel3Ideal Cert.Kernel3Ideal.Gen Idealize.ShloMosaic Idealize.ShloMosaic.TcCoe Idealize.SL.Sem
open Cert.Rms

theorem hz2 : (![0, 0] : Fin 2 → Nat) = fun _ => 0 := funext fun a => by fin_cases a <;> rfl

/-- One half, as the kernel and the reference write it. -/
def half : EReal := Ideal.ofBits .f32 0x3F000000#32

section
variable (x0 : Vec Ideal S512x1024 .f32) (d : Vec Ideal S4x512x704 .bf16) (x3 : Vec Ideal S512x1024 .bf16) (x4 : Vec Ideal S1x1024 .f32)
  (x5 : Vec Ideal S4x704x1024 .bf16)

/-- The gradient of row `r` of the block's output, at column `k`. -/
def df (r : Fin 512) (k : Fin 1024) : EReal :=
  bwd (fun k => x3 (ix2 r k)) (fun k => half * x0 (ix2 r k) * x4 (ix2 0 k)) k

/-- The gradient of the block's output, as a block. -/
def dfBlk : Vec Ideal S512x1024 .bf16 := fun j => df x0 x3 x4 (j 0) (j 1)

/-- That gradient times the transposed weight, times the factor `d`, as a block. -/
def hidBlk : Vec Ideal S4x512x704 .bf16 := fun j =>
  (∑ k : Fin 1024, df x0 x3 x4 (j 1) k * x5 (ix3 (j 0) (j 2) k)) * d j

/-- The block's part of the scale's gradient. -/
def dgBlk : Vec Ideal S1x1024 .f32 := fun j =>
  ∑ r : Fin 512, half * x0 (ix2 r (j 1)) * (x3 (ix2 r (j 1)) * rs (fun k => x3 (ix2 r k)))
end

/-! ## The payloads, entry by entry -/

theorem rs_eq (x3 : Vec Ideal S512x1024 .bf16) (r : Fin 512) (u : Fin 1) : k0_pay6 x3 (ix2 r u) = rs fun k => x3 (ix2 r k) := by
  pointwise [k0_pay6, k0_pay5, rs, den]

theorem df_eq (x0 : Vec Ideal S512x1024 .f32) (x3 : Vec Ideal S512x1024 .bf16) (x4 : Vec Ideal S1x1024 .f32) (r : Fin 512) (k : Fin 1024) :
    k0_pay9 x0 x3 x4 (ix2 r k) = df x0 x3 x4 r k := by
  pointwise [k0_pay9, k0_pay7, k0_pay5, k0_pay4, df, bwd, half]
  simp only [rs_eq]

theorem dg_eq (x0 : Vec Ideal S512x1024 .f32) (x3 : Vec Ideal S512x1024 .bf16) (u : Fin 1) (k : Fin 1024) :
    k0_pay8 x0 x3 (ix2 u k) = dgBlk x0 x3 (ix2 u k) := by
  pointwise [k0_pay8, k0_pay7, k0_pay5, k0_pay4, dgBlk, half]
  simp only [rs_eq]

/-- Where the block of column group `n` lies among the four. -/
theorem emb_eq (n : ℕ) (hn : n < 4) (inb : ∀ a, (![n, 0, 0] : Fin 3 → Nat) a + S1x512x704.size a ≤ S4x512x704.size a)
    (u : Fin 1) (r : Fin 512) (f : Fin 704) :
    (Rect.unit (s := S4x512x704) ![n, 0, 0] S1x512x704.size inb).emb (ix3 u r f) = ix3 (⟨n, hn⟩ : Fin 4) r f := by
  funext a
  apply Fin.ext
  match a with
  | ⟨0, _⟩ => show n + 1 * u.val = n; omega
  | ⟨1, _⟩ => show 0 + 1 * r.val = r.val; omega
  | ⟨2, _⟩ => show 0 + 1 * f.val = f.val; omega

section
variable (c : Dev nD) (i : grid0.Coords)
  (a1 : Memref sig .tc .vmem S512x1024 .f32) (h1 : a1.IsWhole)
  (a2 : Memref sig .tc .vmem S4x512x704 .bf16) (h2 : a2.IsWhole)
  (a3 : Memref sig .tc .vmem S4x512x704 .bf16) (h3 : a3.IsWhole)
  (a4 : Memref sig .tc .vmem S512x1024 .bf16) (h4 : a4.IsWhole)
  (a5 : Memref sig .tc .vmem S1x1024 .f32) (h5 : a5.IsWhole)
  (a6 : Memref sig .tc .vmem S4x704x1024 .bf16) (h6 : a6.IsWhole)
  (a7 : Memref sig .tc .vmem S4x512x704 .bf16) (h7 : a7.IsWhole)
  (a8 : Memref sig .tc .vmem S4x512x704 .bf16) (h8 : a8.IsWhole)
  (a9 : Memref sig .tc .vmem S512x1024 .bf16) (h9 : a9.IsWhole)
  (a10 : Memref sig .tc .vmem S1x1024 .f32) (h10 : a10.IsWhole)
  (x0 : Vec Ideal S512x1024 .f32) (x1 x2 : Vec Ideal S4x512x704 .bf16) (x3 : Vec Ideal S512x1024 .bf16) (x4 : Vec Ideal S1x1024 .f32)
  (x5 : Vec Ideal S4x704x1024 .bf16) (xo : Vec Ideal S1x1024 .f32)

/-- At the first point the first hidden gradient. -/
theorem out_A_6 (hc0 : cond0_0 i) (hc1 : ¬cond0_1 i) :
    out0_A_6 c i a1 h1 a2 h2 a3 h3 a4 h4 a5 h5 a6 h6 a7 h7 a8 h8 a9 h9 a10 h10 hc0 hc1 x0 x1 x2 x3 x4 x5 = hidBlk x0 x1 x3 x4 x5 := by
  unfold out0_A_6
  rw [View.read_writes_junk_eq_canon]
  funext y
  refine View.canon_apply_of_pieces (hidBlk x0 x1 x3 x4 x5) _ ?_ y (cover0_A_6 c i a1 h1 a2 h2 a3 h3 a4 h4 a5 h5 a6 h6 a7 h7 a8 h8 a9 h9 a10 h10 hc0 hc1 x0 x1 x2 x3 x4 x5 y)
  unfold kernelRun0_A
  dsimp only
  sl_unfold_words
  simp only [List.forall_mem_cons]
  refine ⟨?_, ?_, ?_, ?_, fun _ h => absurd h List.not_mem_nil⟩
  all_goals
    intro j
    simp only [View.readAt_eq_ld, h1.read_unread, h2.read_unread, h3.read_unread, h4.read_unread, h5.read_unread, h6.read_unread, h10.read_unread, View.ld_unit_zero (S := S512x1024) hz2,
    View.ld_unit_zero (S := S1x1024) hz2]
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay1, k0_pay2, k0_pay10, k0_pay11, k0_pay12, k0_pay13, k0_pay14, k0_pay15, k0_pay16, k0_pay17, k0_pay18, k0_pay19, k0_pay20, k0_pay21, hidBlk]
    simp only [df_eq]

/-- At the first point the second hidden gradient. -/
theorem out_A_7 (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4 x5 = hidBlk x0 x2 x3 x4 x5 := by
  unfold out0_A_7
  rw [View.read_writes_junk_eq_canon]
  funext y
  refine View.canon_apply_of_pieces (hidBlk x0 x2 x3 x4 x5) _ ?_ y (cover0_A_7 c i a1 h1 a2 h2 a3 h3 a4 h4 a5 h5 a6 h6 a7 h7 a8 h8 a9 h9 a10 h10 hc0 hc1 x0 x1 x2 x3 x4 x5 y)
  unfold kernelRun0_A
  dsimp only
  sl_unfold_words
  simp only [List.forall_mem_cons]
  refine ⟨?_, ?_, ?_, ?_, fun _ h => absurd h List.not_mem_nil⟩
  all_goals
    intro j
    simp only [View.readAt_eq_ld, h1.read_unread, h2.read_unread, h3.read_unread, h4.read_unread, h5.read_unread, h6.read_unread, h10.read_unread, View.ld_unit_zero (S := S512x1024) hz2,
    View.ld_unit_zero (S := S1x1024) hz2]
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay1, k0_pay2, k0_pay10, k0_pay11, k0_pay12, k0_pay13, k0_pay14, k0_pay15, k0_pay16, k0_pay17, k0_pay18, k0_pay19, k0_pay20, k0_pay21, hidBlk]
    simp only [df_eq]

/-- At the first point the output's gradient. -/
theorem out_A_8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4 x5 = dfBlk x0 x3 x4 := by
  unfold out0_A_8
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2,
    View.ld_unit_zero (S := S1x1024) hz2]
  funext j
  idx_vars j
  rw [df_eq]
  rfl

/-- At the first point the scale's gradient. -/
theorem out_A_9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4 x5 = dgBlk x0 x3 := by
  unfold out0_A_9
  rw [View.read_writes_junk_eq_canon]
  unfold kernelRun0_A
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2,
    View.ld_unit_zero (S := S1x1024) hz2]
  funext j
  idx_vars j
  rw [dg_eq]

/-- At every other point the first hidden gradient. -/
theorem out_B_6 (hc0 : ¬cond0_0 i) (hc1 : cond0_1 i) :
    out0_B_6 c i a1 h1 a2 h2 a3 h3 a4 h4 a5 h5 a6 h6 a7 h7 a8 h8 a9 h9 a10 h10 hc0 hc1 x0 x1 x2 x3 x4 x5 xo = hidBlk x0 x1 x3 x4 x5 := by
  unfold out0_B_6
  rw [View.read_writes_junk_eq_canon]
  funext y
  refine View.canon_apply_of_pieces (hidBlk x0 x1 x3 x4 x5) _ ?_ y (cover0_B_6 c i a1 h1 a2 h2 a3 h3 a4 h4 a5 h5 a6 h6 a7 h7 a8 h8 a9 h9 a10 h10 hc0 hc1 x0 x1 x2 x3 x4 x5 xo y)
  unfold kernelRun0_B
  dsimp only
  sl_unfold_words
  simp only [List.forall_mem_cons]
  refine ⟨?_, ?_, ?_, ?_, fun _ h => absurd h List.not_mem_nil⟩
  all_goals
    intro j
    simp only [View.readAt_eq_ld, h1.read_unread, h2.read_unread, h3.read_unread, h4.read_unread, h5.read_unread, h6.read_unread, h10.read_unread, View.ld_unit_zero (S := S512x1024) hz2,
    View.ld_unit_zero (S := S1x1024) hz2]
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay1, k0_pay2, k0_pay10, k0_pay11, k0_pay12, k0_pay13, k0_pay14, k0_pay15, k0_pay16, k0_pay17, k0_pay18, k0_pay19, k0_pay20, k0_pay21, hidBlk]
    simp only [df_eq]

/-- At every other point the second hidden gradient. -/
theorem out_B_7 (hc0 : ¬cond0_0 i) (hc1 : cond0_1 i) :
    out0_B_7 c i a1 h1 a2 h2 a3 h3 a4 h4 a5 h5 a6 h6 a7 h7 a8 h8 a9 h9 a10 h10 hc0 hc1 x0 x1 x2 x3 x4 x5 xo = hidBlk x0 x2 x3 x4 x5 := by
  unfold out0_B_7
  rw [View.read_writes_junk_eq_canon]
  funext y
  refine View.canon_apply_of_pieces (hidBlk x0 x2 x3 x4 x5) _ ?_ y (cover0_B_7 c i a1 h1 a2 h2 a3 h3 a4 h4 a5 h5 a6 h6 a7 h7 a8 h8 a9 h9 a10 h10 hc0 hc1 x0 x1 x2 x3 x4 x5 xo y)
  unfold kernelRun0_B
  dsimp only
  sl_unfold_words
  simp only [List.forall_mem_cons]
  refine ⟨?_, ?_, ?_, ?_, fun _ h => absurd h List.not_mem_nil⟩
  all_goals
    intro j
    simp only [View.readAt_eq_ld, h1.read_unread, h2.read_unread, h3.read_unread, h4.read_unread, h5.read_unread, h6.read_unread, h10.read_unread, View.ld_unit_zero (S := S512x1024) hz2,
    View.ld_unit_zero (S := S1x1024) hz2]
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay1, k0_pay2, k0_pay10, k0_pay11, k0_pay12, k0_pay13, k0_pay14, k0_pay15, k0_pay16, k0_pay17, k0_pay18, k0_pay19, k0_pay20, k0_pay21, hidBlk]
    simp only [df_eq]

/-- At every other point the output's gradient. -/
theorem out_B_8 (hc0 : ¬cond0_0 i) (hc1 : cond0_1 i) :
    out0_B_8 c i a1 h1 a2 h2 a3 h3 a4 h4 a5 h5 a6 h6 a7 h7 a8 h8 a9 h9 a10 h10 hc0 hc1 x0 x1 x2 x3 x4 x5 xo = dfBlk x0 x3 x4 := by
  unfold out0_B_8
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2,
    View.ld_unit_zero (S := S1x1024) hz2]
  funext j
  idx_vars j
  rw [df_eq]
  rfl

/-- At every other point the scale's gradient. -/
theorem out_B_9 (hc0 : ¬cond0_0 i) (hc1 : cond0_1 i) :
    out0_B_9 c i a1 h1 a2 h2 a3 h3 a4 h4 a5 h5 a6 h6 a7 h7 a8 h8 a9 h9 a10 h10 hc0 hc1 x0 x1 x2 x3 x4 x5 xo = fun j => xo j + dgBlk x0 x3 j := by
  unfold out0_B_9
  rw [View.read_writes_junk_eq_canon]
  unfold kernelRun0_B
  dsimp only
  sl_unfold_words
  rw [View.canon_unit_zero hz2]
  simp only [View.readAt_eq_ld, h1.read_unread, h2.read_unread, h3.read_unread, h4.read_unread, h5.read_unread, h6.read_unread, h10.read_unread, View.ld_unit_zero (S := S512x1024) hz2,
    View.ld_unit_zero (S := S1x1024) hz2]
  funext j
  idx_vars j
  pointwise [k0_pay3]
  rw [dg_eq]

end

end Cert.FfnBwdA
-- ==== Proof.FfnBwdA.Array.lean ====
/-
  WHAT THE FEED-FORWARD BACKWARD'S FIRST CALL LEAVES IN ITS RESULT ARRAYS.

  Grid point `t` works on rows `512 t … 512 t + 511`. The two hidden gradients and the output's gradient are written block
  by block. The scale's gradient stays in one block over all 32 points: it ends as the sum of the points' parts, and so as
  one sum over all 16384 rows.
-/
module

public import proofs.«01_k».proof.Proof.FfnBwdA.Block

@[expose] public section

set_option maxRecDepth 16384

noncomputable section

namespace Cert.FfnBwdA

open Cert.Kernel3Ideal Cert.Kernel3Ideal.Gen Idealize.ShloMosaic Idealize.ShloMosaic.TcCoe Idealize.SL.Sem
open Cert.Rms

variable (m : (ℓ : Loc nD τ sig) → Buf (Elt Ideal) ℓ) (c : Dev nD)

abbrev aDy : Vec Ideal S16384x1024 .f32 := m ((c : Thread nD τ).loc main_arg0)
abbrev aD1 : Vec Ideal S4x16384x704 .bf16 := m ((c : Thread nD τ).loc main_arg1)
abbrev aD2 : Vec Ideal S4x16384x704 .bf16 := m ((c : Thread nD τ).loc main_arg2)
abbrev aF : Vec Ideal S16384x1024 .bf16 := m ((c : Thread nD τ).loc main_arg3)
abbrev aG : Vec Ideal S1x1024 .f32 := m ((c : Thread nD τ).loc main_arg4)
abbrev aWd : Vec Ideal S2816x1024 .f32 := m ((c : Thread nD τ).loc main_arg5)

theorem points : cfg0.N = 32 := N_0

/-- Row `r` of point `t`'s block, as a row of the array. -/
def row (t : Fin cfg0.N) (r : Fin 512) : Fin 16384 :=
  ⟨t.val * 512 + r.val, by have := t.isLt; have := r.isLt; have := points; omega⟩

/-- Column `f` of column group `s`. -/
def col (s : Fin 4) (f : Fin 704) : Fin 2816 := ⟨s.val * 704 + f.val, by have := s.isLt; have := f.isLt; omega⟩

/-- The gradient of row `R` of the block's output, at column `k`. -/
def dF (R : Fin 16384) (k : Fin 1024) : EReal :=
  bwd (fun k => aF m c (ix2 R k)) (fun k => half * aDy m c (ix2 R k) * aG m c (ix2 0 k)) k

/-- The gradient of the block's output. -/
def dfArr : Vec Ideal S16384x1024 .bf16 := fun i => dF m c (i 0) (i 1)

/-- A hidden gradient: the output's gradient times the transposed weight, times the factor `d`. -/
def hidArr (d : Vec Ideal S4x16384x704 .bf16) : Vec Ideal S4x16384x704 .bf16 := fun i =>
  (∑ k : Fin 1024, dF m c (i 1) k * aWd m c (ix2 (col (i 0) (i 2)) k)) * d i

/-- The gradient of the scale. -/
def dgArr : Vec Ideal S1x1024 .f32 := fun i =>
  ∑ R : Fin 16384, half * aDy m c (ix2 R (i 1)) * (aF m c (ix2 R (i 1)) * rs (fun k => aF m c (ix2 R k)))

/-! ## The blocks, read from the arrays -/

theorem index0 : ∀ t : Fin grid0.N, win0_0.index t 0 = t.val ∧ win0_0.index t 1 = 0 := by decide +kernel
theorem index3 : ∀ t : Fin grid0.N, win0_3.index t 0 = t.val ∧ win0_3.index t 1 = 0 := by decide +kernel
theorem index8 : ∀ t : Fin grid0.N, win0_8.index t 0 = t.val ∧ win0_8.index t 1 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = t.val ∧ win0_2.index t 2 = 0 := by decide +kernel
theorem index6 : ∀ t : Fin grid0.N, win0_6.index t 0 = 0 ∧ win0_6.index t 1 = t.val ∧ win0_6.index t 2 = 0 := by decide +kernel
theorem index7 : ∀ t : Fin grid0.N, win0_7.index t 0 = 0 ∧ win0_7.index t 1 = t.val ∧ win0_7.index t 2 = 0 := by decide +kernel
theorem index4 : ∀ t : Fin grid0.N, win0_4.index t 0 = 0 ∧ win0_4.index t 1 = 0 := by decide +kernel
theorem index9 : ∀ t : Fin grid0.N, win0_9.index t 0 = 0 ∧ win0_9.index t 1 = 0 := by decide +kernel
theorem index5 : ∀ t : Fin grid0.N, win0_5.index t 0 = 0 ∧ win0_5.index t 1 = 0 ∧ win0_5.index t 2 = 0 := by decide +kernel

theorem iblk0 (t : Fin cfg0.N) (r : Fin 512) (k : Fin 1024) :
    (iblk m c 0 t : Vec Ideal S512x1024 .f32) (ix2 r k) = aDy m c (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

theorem iblk3 (t : Fin cfg0.N) (r : Fin 512) (k : Fin 1024) :
    (iblk m c 3 t : Vec Ideal S512x1024 .bf16) (ix2 r k) = aF m c (ix2 (row t r) k) := by
  unfold iblk
  rw [View.read_apply]
  show V m c main_arg3 _ = _
  rw [V_main_arg3]
  congr 1
  funext a
  apply Fin.ext
  match a with
  | ⟨0, _⟩ => show win0_3.index t 0 * 512 + 1 * r.val = t.val * 512 + r.val; rw [(index3 t).1]; omega
  | ⟨1, _⟩ => show win0_3.index t 1 * 1024 + 1 * k.val = k.val; rw [(index3 t).2]; omega

theorem iblk1 (t : Fin cfg0.N) (s : Fin 4) (r : Fin 512) (f : Fin 704) :
    (iblk m c 1 t : Vec Ideal S4x512x704 .bf16) (ix3 s r f) = aD1 m c (ix3 s (row t r) f) := by
  unfold iblk
  rw [View.read_apply]
  show V m c main_arg1 _ = _
  rw [V_main_arg1]
  congr 1
  funext a
  apply Fin.ext
  match a with
  | ⟨0, _⟩ => show win0_1.index t 0 * 4 + 1 * s.val = s.val; rw [(index1 t).1]; omega
  | ⟨1, _⟩ => show win0_1.index t 1 * 512 + 1 * r.val = t.val * 512 + r.val; rw [(index1 t).2.1]; omega
  | ⟨2, _⟩ => show win0_1.index t 2 * 704 + 1 * f.val = f.val; rw [(index1 t).2.2]; omega

theorem iblk2 (t : Fin cfg0.N) (s : Fin 4) (r : Fin 512) (f : Fin 704) :
    (iblk m c 2 t : Vec Ideal S4x512x704 .bf16) (ix3 s r f) = aD2 m c (ix3 s (row t r) f) := by
  unfold iblk
  rw [View.read_apply]
  show V m c main_arg2 _ = _
  rw [V_main_arg2]
  congr 1
  funext a
  apply Fin.ext
  match a with
  | ⟨0, _⟩ => show win0_2.index t 0 * 4 + 1 * s.val = s.val; rw [(index2 t).1]; omega
  | ⟨1, _⟩ => show win0_2.index t 1 * 512 + 1 * r.val = t.val * 512 + r.val; rw [(index2 t).2.1]; omega
  | ⟨2, _⟩ => show win0_2.index t 2 * 704 + 1 * f.val = f.val; rw [(index2 t).2.2]; omega

theorem iblk4 (t : Fin cfg0.N) (u : Fin 1) (k : Fin 1024) :
    (iblk m c 4 t : Vec Ideal S1x1024 .f32) (ix2 u k) = aG m c (ix2 u k) := by
  unfold iblk
  rw [View.read_apply]
  show V m c main_arg4 _ = _
  rw [V_main_arg4]
  congr 1
  funext a
  apply Fin.ext
  match a with
  | ⟨0, _⟩ => show win0_4.index t 0 * 1 + 1 * u.val = u.val; rw [(index4 t).1]; omega
  | ⟨1, _⟩ => show win0_4.index t 1 * 1024 + 1 * k.val = k.val; rw [(index4 t).2]; omega

/-- The weight cut into its four row groups, as the host prepares it. -/
def prepared (w : FVec Ideal S2816x1024 .f32) : FVec Ideal S4x704x1024 .bf16 :=
  truncf .bf16 (shapeCast S4x704x1024 w shapeCasts_S2816x1024_S4x704x1024) bitsLt_bf16_f32

theorem prepared_apply (w : FVec Ideal S2816x1024 .f32) (s : Fin 4) (f : Fin 704) (k : Fin 1024) :
    prepared w (ix3 s f k) = w (ix2 (col s f) k) := by
  pointwise [prepared, col]

theorem prep5 : V m c main_v1 = prepared (aWd m c) := by
  show StableHlo.after hostOps0 _ (Proc.devRef .tc main_v1) = _
  after_results_simp <;> rfl

theorem iblk5 (t : Fin cfg0.N) (s : Fin 4) (f : Fin 704) (k : Fin 1024) :
    (iblk m c 5 t : Vec Ideal S4x704x1024 .bf16) (ix3 s f k) = aWd m c (ix2 (col s f) k) := by
  rw [← prepared_apply (aWd m c), ← prep5]
  unfold iblk
  rw [View.read_apply]
  show V m c main_v1 _ = _
  congr 1
  funext a
  apply Fin.ext
  match a with
  | ⟨0, _⟩ => show win0_5.index t 0 * 4 + 1 * s.val = s.val; rw [(index5 t).1]; omega
  | ⟨1, _⟩ => show win0_5.index t 1 * 704 + 1 * f.val = f.val; rw [(index5 t).2.1]; omega
  | ⟨2, _⟩ => show win0_5.index t 2 * 1024 + 1 * k.val = k.val; rw [(index5 t).2.2]; omega

theorem df_at (t : Fin cfg0.N) (r : Fin 512) (k : Fin 1024) :
    df (iblk m c 0 t) (iblk m c 3 t) (iblk m c 4 t) r k = dF m c (row t r) k := by
  simp only [df, dF, iblk0, iblk3, iblk4]

/-! ## What a point leaves -/

theorem left6 (t : Fin cfg0.N) : (outsAt0 m c t.val t.isLt).1 = hidBlk (iblk m c 0 t) (iblk m c 1 t) (iblk m c 3 t) (iblk m c 4 t) (iblk m c 5 t) := by
  have hN := points
  have ht := t.isLt
  by_cases h : t.val = 0
  · rw [outsAt0_A m c t (by omega) (by omega)]; dsimp only; rw [out_A_6]
  · rw [outsAt0_B m c t (by omega) (by omega)]; dsimp only; rw [out_B_6]

theorem left7 (t : Fin cfg0.N) : (outsAt0 m c t.val t.isLt).2.1 = hidBlk (iblk m c 0 t) (iblk m c 2 t) (iblk m c 3 t) (iblk m c 4 t) (iblk m c 5 t) := by
  have hN := points
  have ht := t.isLt
  by_cases h : t.val = 0
  · rw [outsAt0_A m c t (by omega) (by omega)]; dsimp only; rw [out_A_7]
  · rw [outsAt0_B m c t (by omega) (by omega)]; dsimp only; rw [out_B_7]

theorem left8 (t : Fin cfg0.N) : (outsAt0 m c t.val t.isLt).2.2.1 = dfBlk (iblk m c 0 t) (iblk m c 3 t) (iblk m c 4 t) := by
  have hN := points
  have ht := t.isLt
  by_cases h : t.val = 0
  · rw [outsAt0_A m c t (by omega) (by omega)]; dsimp only; rw [out_A_8]
  · rw [outsAt0_B m c t (by omega) (by omega)]; dsimp only; rw [out_B_8]

/-- The rows of point `t`'s part of the scale's gradient. -/
theorem dgBlk_eq (t : Fin cfg0.N) (u : Fin 1) (k : Fin 1024) :
    dgBlk (iblk m c 0 t) (iblk m c 3 t) (ix2 u k)
      = ∑ r : Fin 512, half * aDy m c (ix2 (row t r) k) * (aF m c (ix2 (row t r) k) * rs (fun l => aF m c (ix2 (row t r) l))) := by
  unfold dgBlk
  simp only [ix2_0, ix2_1, iblk0, iblk3]

/-- After point `n` the fourth output holds the sum of the parts of the points so far. -/
theorem left9 : ∀ (n : ℕ) (h : n < cfg0.N) (u : Fin 1) (k : Fin 1024), (outsAt0 m c n h).2.2.2 (ix2 u k)
      = ∑ p : Fin (n + 1), ∑ r : Fin 512, half * aDy m c (ix2 (row ⟨p.val, by omega⟩ r) k)
          * (aF m c (ix2 (row ⟨p.val, by omega⟩ r) k) * rs (fun l => aF m c (ix2 (row ⟨p.val, by omega⟩ r) l)))
  | 0, h, u, k => by
    rw [outsAt0_A m c ⟨0, h⟩ rfl (by simp), Fin.sum_univ_one]
    dsimp only
    rw [out_A_9, dgBlk_eq]
    rfl
  | n + 1, h, u, k => by
    have hN := points
    rw [outsAt0_B m c ⟨n + 1, h⟩ (by dsimp only; omega) (by dsimp only; omega), Fin.sum_univ_castSucc]
    dsimp only
    rw [out_B_9]
    dsimp only
    rw [dgBlk_eq]
    exact congrArg (· + _) (left9 n (Nat.lt_of_succ_lt h) u k)

/-! ## The arrays -/

/-- Point `t`'s block of an array of result `6`'s shape, entry by entry. -/
theorem block6 (G : Vec Ideal S4x16384x704 .bf16) (t : Fin cfg0.N) (s : Fin 4) (r : Fin 512) (f : Fin 704) :
    ((cfg0.win 6).blk t).view.read (Elt Ideal) (show Buf (Elt Ideal) ((cfg0.win 6).arr.view.loc (c.tc : Thread nD τ)) from G) (ix3 s r f) = G (ix3 s (row t r) f) := by
  rw [View.read_apply]
  show G _ = G _
  refine congrArg G ?_
  funext a
  apply Fin.ext
  match a with
  | ⟨0, _⟩ => show win0_6.index t 0 * 4 + 1 * s.val = s.val; rw [(index6 t).1]; omega
  | ⟨1, _⟩ => show win0_6.index t 1 * 512 + 1 * r.val = t.val * 512 + r.val; rw [(index6 t).2.1]; omega
  | ⟨2, _⟩ => show win0_6.index t 2 * 704 + 1 * f.val = f.val; rw [(index6 t).2.2]; omega

theorem mem6 (t : Fin cfg0.N) (i : S4x16384x704.Idx) (h1 : t.val * 512 ≤ (i 1).val ∧ (i 1).val < t.val * 512 + 512) : i ∈ ((cfg0.win 6).blk t).view.set := by
  show i ∈ ((View.whole main_v2_0).slice (win0_6.rect t)).set
  rw [View.set_slice_whole, Rect.mem_set_unit]
  intro a
  match a with
  | ⟨0, _⟩ =>
    show win0_6.index t 0 * 4 ≤ (i 0 : Nat) ∧ (i 0 : Nat) < win0_6.index t 0 * 4 + 4
    rw [(index6 t).1]
    rw [Nat.zero_mul, Nat.zero_add]
    exact ⟨Nat.zero_le _, (i 0).isLt⟩
  | ⟨1, _⟩ =>
    show win0_6.index t 1 * 512 ≤ (i 1 : Nat) ∧ (i 1 : Nat) < win0_6.index t 1 * 512 + 512
    rw [(index6 t).2.1]
    exact h1
  | ⟨2, _⟩ =>
    show win0_6.index t 2 * 704 ≤ (i 2 : Nat) ∧ (i 2 : Nat) < win0_6.index t 2 * 704 + 704
    rw [(index6 t).2.2]
    rw [Nat.zero_mul, Nat.zero_add]
    exact ⟨Nat.zero_le _, (i 2).isLt⟩

/-- Point `t`'s block of an array of result `7`'s shape, entry by entry. -/
theorem block7 (G : Vec Ideal S4x16384x704 .bf16) (t : Fin cfg0.N) (s : Fin 4) (r : Fin 512) (f : Fin 704) :
    ((cfg0.win 7).blk t).view.read (Elt Ideal) (show Buf (Elt Ideal) ((cfg0.win 7).arr.view.loc (c.tc : Thread nD τ)) from G) (ix3 s r f) = G (ix3 s (row t r) f) := by
  rw [View.read_apply]
  show G _ = G _
  refine congrArg G ?_
  funext a
  apply Fin.ext
  match a with
  | ⟨0, _⟩ => show win0_7.index t 0 * 4 + 1 * s.val = s.val; rw [(index7 t).1]; omega
  | ⟨1, _⟩ => show win0_7.index t 1 * 512 + 1 * r.val = t.val * 512 + r.val; rw [(index7 t).2.1]; omega
  | ⟨2, _⟩ => show win0_7.index t 2 * 704 + 1 * f.val = f.val; rw [(index7 t).2.2]; omega

theorem mem7 (t : Fin cfg0.N) (i : S4x16384x704.Idx) (h1 : t.val * 512 ≤ (i 1).val ∧ (i 1).val < t.val * 512 + 512) : i ∈ ((cfg0.win 7).blk t).view.set := by
  show i ∈ ((View.whole main_v2_1).slice (win0_7.rect t)).set
  rw [View.set_slice_whole, Rect.mem_set_unit]
  intro a
  match a with
  | ⟨0, _⟩ =>
    show win0_7.index t 0 * 4 ≤ (i 0 : Nat) ∧ (i 0 : Nat) < win0_7.index t 0 * 4 + 4
    rw [(index7 t).1]
    rw [Nat.zero_mul, Nat.zero_add]
    exact ⟨Nat.zero_le _, (i 0).isLt⟩
  | ⟨1, _⟩ =>
    show win0_7.index t 1 * 512 ≤ (i 1 : Nat) ∧ (i 1 : Nat) < win0_7.index t 1 * 512 + 512
    rw [(index7 t).2.1]
    exact h1
  | ⟨2, _⟩ =>
    show win0_7.index t 2 * 704 ≤ (i 2 : Nat) ∧ (i 2 : Nat) < win0_7.index t 2 * 704 + 704
    rw [(index7 t).2.2]
    rw [Nat.zero_mul, Nat.zero_add]
    exact ⟨Nat.zero_le _, (i 2).isLt⟩

/-- Point `t`'s block of an array of result `8`'s shape, entry by entry. -/
theorem block8 (G : Vec Ideal S16384x1024 .bf16) (t : Fin cfg0.N) (r : Fin 512) (k : Fin 1024) :
    ((cfg0.win 8).blk t).view.read (Elt Ideal) (show Buf (Elt Ideal) ((cfg0.win 8).arr.view.loc (c.tc : Thread nD τ)) from G) (ix2 r k) = G (ix2 (row t r) k) := by
  rw [View.read_apply]
  show G _ = G _
  refine congrArg G ?_
  funext a
  apply Fin.ext
  match a with
  | ⟨0, _⟩ => show win0_8.index t 0 * 512 + 1 * r.val = t.val * 512 + r.val; rw [(index8 t).1]; omega
  | ⟨1, _⟩ => show win0_8.index t 1 * 1024 + 1 * k.val = k.val; rw [(index8 t).2]; omega

theorem mem8 (t : Fin cfg0.N) (i : S16384x1024.Idx) (h0 : t.val * 512 ≤ (i 0).val ∧ (i 0).val < t.val * 512 + 512) : i ∈ ((cfg0.win 8).blk t).view.set := by
  show i ∈ ((View.whole main_v2_2).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(index8 t).1]
    exact h0
  | ⟨1, _⟩ =>
    show win0_8.index t 1 * 1024 ≤ (i 1 : Nat) ∧ (i 1 : Nat) < win0_8.index t 1 * 1024 + 1024
    rw [(index8 t).2]
    rw [Nat.zero_mul, Nat.zero_add]
    exact ⟨Nat.zero_le _, (i 1).isLt⟩

theorem mem9 (t : Fin cfg0.N) (i : S1x1024.Idx)  : i ∈ ((cfg0.win 9).blk t).view.set := by
  show i ∈ ((View.whole main_v2_3).slice (win0_9.rect t)).set
  rw [View.set_slice_whole, Rect.mem_set_unit]
  intro a
  match a with
  | ⟨0, _⟩ =>
    show win0_9.index t 0 * 1 ≤ (i 0 : Nat) ∧ (i 0 : Nat) < win0_9.index t 0 * 1 + 1
    rw [(index9 t).1]
    rw [Nat.zero_mul, Nat.zero_add]
    exact ⟨Nat.zero_le _, (i 0).isLt⟩
  | ⟨1, _⟩ =>
    show win0_9.index t 1 * 1024 ≤ (i 1 : Nat) ∧ (i 1 : Nat) < win0_9.index t 1 * 1024 + 1024
    rw [(index9 t).2]
    rw [Nat.zero_mul, Nat.zero_add]
    exact ⟨Nat.zero_le _, (i 1).isLt⟩

theorem final6 : (Gen.dats m 0 c).arrAt 6 cfg0.N = hidArr m c (aD1 m c) :=
  (dats m 0 c).arrAt_eq_of_cover 6 (hidArr m c (aD1 m c)) (fun t _ => by
    show (cfg0.win 6).cut (grid0.coords t) ((dats m 0 c).after 6 t) = _
    rw [after0_6, left6]
    funext j
    obtain ⟨s, r, f, rfl⟩ : ∃ (s : Fin 4) (r : Fin 512) (f : Fin 704), j = ix3 s r f := ⟨j 0, j 1, j 2, eq_ix3 j⟩
    refine Eq.trans ?_ (block6 c (hidArr m c (aD1 m c)) t s r f).symm
    show hidBlk _ _ _ _ _ (ix3 s r f) = _
    simp only [hidBlk, hidArr, df_at, iblk1, iblk5, ix3_0, ix3_1, ix3_2]) fun (i : S4x16384x704.Idx) => by
    have hN := points
    have h : (i 1).val < 16384 := (i 1).isLt
    exact ⟨⟨(i 1).val / 512, by show (i 1).val / 512 < cfg0.N; omega⟩, flush0_6 _, mem6 _ i (by dsimp only; omega)⟩

theorem final7 : (Gen.dats m 0 c).arrAt 7 cfg0.N = hidArr m c (aD2 m c) :=
  (dats m 0 c).arrAt_eq_of_cover 7 (hidArr m c (aD2 m c)) (fun t _ => by
    show (cfg0.win 7).cut (grid0.coords t) ((dats m 0 c).after 7 t) = _
    rw [after0_7, left7]
    funext j
    obtain ⟨s, r, f, rfl⟩ : ∃ (s : Fin 4) (r : Fin 512) (f : Fin 704), j = ix3 s r f := ⟨j 0, j 1, j 2, eq_ix3 j⟩
    refine Eq.trans ?_ (block7 c (hidArr m c (aD2 m c)) t s r f).symm
    show hidBlk _ _ _ _ _ (ix3 s r f) = _
    simp only [hidBlk, hidArr, df_at, iblk2, iblk5, ix3_0, ix3_1, ix3_2]) fun (i : S4x16384x704.Idx) => by
    have hN := points
    have h : (i 1).val < 16384 := (i 1).isLt
    exact ⟨⟨(i 1).val / 512, by show (i 1).val / 512 < cfg0.N; omega⟩, flush0_7 _, mem7 _ i (by dsimp only; omega)⟩

theorem final8 : (Gen.dats m 0 c).arrAt 8 cfg0.N = dfArr m c :=
  (dats m 0 c).arrAt_eq_of_cover 8 (dfArr m c) (fun t _ => by
    show (cfg0.win 8).cut (grid0.coords t) ((dats m 0 c).after 8 t) = _
    rw [after0_8, left8]
    funext j
    obtain ⟨r, k, rfl⟩ : ∃ (r : Fin 512) (k : Fin 1024), j = ix2 r k := ⟨j 0, j 1, eq_ix2 j⟩
    refine Eq.trans ?_ (block8 c (dfArr m c) t r k).symm
    show dfBlk _ _ _ (ix2 r k) = _
    simp only [dfBlk, dfArr, df_at, ix2_0, ix2_1]) fun (i : S16384x1024.Idx) => by
    have hN := points
    have h : (i 0).val < 16384 := (i 0).isLt
    exact ⟨⟨(i 0).val / 512, by show (i 0).val / 512 < cfg0.N; omega⟩, flush0_8 _, mem8 _ i (by dsimp only; omega)⟩

theorem final9 : (Gen.dats m 0 c).arrAt 9 cfg0.N = dgArr m c :=
  (dats m 0 c).arrAt_eq_of_cover 9 (dgArr m c) (fun t ht => by
    have hN := points
    have htl : t.val = 31 := by have := (flush0_9 t).1 ht; have := t.isLt; omega
    have hz : (fun a => win0_9.index t a * main_v2_3.ty.shape.size a) = fun _ => 0 := funext fun a =>
      match a with
      | ⟨0, _⟩ => by show win0_9.index t 0 * _ = 0; rw [(index9 t).1, Nat.zero_mul]
      | ⟨1, _⟩ => by show win0_9.index t 1 * _ = 0; rw [(index9 t).2, Nat.zero_mul]
    refine Eq.trans ?_ (Memref.read_access_unit_zero (Elt Ideal) main_v2_3 hz (fun a => by rw [congrFun hz a]; simp) (dgArr m c)).symm
    show (cfg0.win 9).cut (grid0.coords _) ((dats m 0 c).after 9 _) = _
    rw [after0_9]
    funext j
    obtain ⟨u, k, rfl⟩ : ∃ (u : Fin 1) (k : Fin 1024), j = ix2 u k := ⟨j 0, j 1, eq_ix2 j⟩
    show (outsAt0 m c t.val _).2.2.2 (ix2 u k) = _
    rw [left9]
    unfold dgArr
    rw [Fin.sum_univ_tiles 32 512 rfl]
    exact Fintype.sum_equiv (finCongr (by omega)) _ _ fun p => rfl) fun (i : S1x1024.Idx) => by
    have hN := points
    exact ⟨⟨31, by omega⟩, (flush0_9 _).2 rfl, mem9 _ i⟩

end Cert.FfnBwdA
-- ==== Proof.FfnBwdA.Ref.lean ====
/-
  WHAT THE REFERENCE OF THE FEED-FORWARD BACKWARD'S FIRST CALL COMPUTES, ENTRY BY ENTRY.
-/
module

public import proofs.«01_k».proof.Proof.FfnBwdA.Array
public import proofs.«01_k».proof.Proof.Gen.Reference3Ideal.Run

@[expose] public section

set_option maxRecDepth 16384

noncomputable section

namespace Cert.FfnBwdA.Ref

open Cert.Reference3Ideal Cert.Reference3Ideal.Gen Idealize.ShloMosaic Idealize.ShloMosaic.TcCoe Idealize.SL.Sem
open Cert.Rms Cert.FfnBwdA

variable (dy x : FVec Ideal S16384x1024 .f32) (d : FVec Ideal S4x16384x704 .bf16) (g : FVec Ideal S1x1024 .f32) (w : FVec Ideal S2816x1024 .f32)

/-- The square root's reciprocal of each row, as the reference writes it. -/
def rsV : FVec Ideal S16384x1 .f32 :=
  Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

theorem rsV_apply (R : Fin 16384) (u : Fin 1) : rsV x (ix2 R u) = rs (fun k => x (ix2 R k)) := by
  pointwise [rsV, rs, den, len, eps]

/-- The coefficient of the row that comes from the row's own length. -/
def coefV (a : FVec Ideal S16384x1024 .f32) : FVec Ideal S16384x1024 .f32 :=
  broadcastInDim S16384x1024 ![0] bcast_S16384_S16384x1024_0 (Host.reduceAdd (Host.divf (mulf
      (shapeCast S16384x1 (Host.reduceAdd (mulf x a) (constant S_ .f32 0x00000000#32) reducesTo_S16384x1024_S16384_d1 h_S_) shapeCasts_S16384_S16384x1)
      (mulf (broadcastInDim S16384x1 ![] bcast_S_S16384x1 (constant S_ .f32 0xBF000000#32)) (Host.divf (rsV x)
        (addf (Host.divf (broadcastInDim S16384x1 ![0] bcast_S16384_S16384x1_0
          (Host.reduceAdd (mulf x x) (constant S_ .f32 0x00000000#32) reducesTo_S16384x1024_S16384_d1 h_S_))
          (broadcastInDim S16384x1 ![] bcast_S_S16384x1 (constant S_ .f32 0x44800000#32)))
          (broadcastInDim S16384x1 ![] bcast_S_S16384x1 (constant S_ .f32 0x358637BD#32))))))
      (broadcastInDim S16384x1 ![] bcast_S_S16384x1 (constant S_ .f32 0x44800000#32)))
    (constant S_ .f32 0x00000000#32) reducesTo_S16384x1_S16384_d1 h_S_)

theorem coefV_apply (a : FVec Ideal S16384x1024 .f32) (R : Fin 16384) (k : Fin 1024) :
    coefV x a (ix2 R k) = coef (fun l => x (ix2 R l)) (fun l => a (ix2 R l)) := by
  pointwise [coefV]
  simp only [rsV_apply, Fin.sum_univ_one]
  rfl

/-- Half the incoming gradient. -/
def dyV : FVec Ideal S16384x1024 .f32 :=
  mulf (broadcastInDim S16384x1024 ![] bcast_S_S16384x1024 (constant S_ .f32 0x3F000000#32)) dy

/-- The gradient of the normalised rows. -/
def aV : FVec Ideal S16384x1024 .f32 :=
  mulf (dyV dy) (broadcastInDim S16384x1024 ![0, 1] bcast_S1x1024_S16384x1024_0_1 g)

/-- The gradient of the block's output. -/
def dfV : FVec Ideal S16384x1024 .f32 :=
  addf (addf (mulf (aV dy g) (broadcastInDim S16384x1024 ![0, 1] bcast_S16384x1_S16384x1024_0_1 (rsV x)))
    (mulf x (coefV x (aV dy g)))) (mulf (coefV x (aV dy g)) x)

/-- A hidden gradient. -/
def hidV (df : FVec Ideal S16384x1024 .f32) : FVec Ideal S4x16384x704 .bf16 :=
  truncf .bf16 (transpose S4x16384x704 [1, 0, 2] (shapeCast S16384x4x704 (mulf
    (Host.dotGeneral dot_S16384x1024_S2816x1024_S16384x2816_1_1_0_0_n_n none df w)
    (extf .f32 (shapeCast S16384x2816 (transpose S16384x4x704 [1, 0, 2] d transposes_S4x16384x704_S16384x4x704_1_0_2) shapeCasts_S16384x4x704_S16384x2816) bitsLt_bf16_f32))
    shapeCasts_S16384x2816_S16384x4x704) transposes_S16384x4x704_S4x16384x704_1_0_2) bitsLt_bf16_f32

/-- The gradient of the scale. -/
def dgV : FVec Ideal S1x1024 .f32 :=
  shapeCast S1x1024 (Host.reduceAdd (mulf (mulf x (broadcastInDim S16384x1024 ![0, 1] bcast_S16384x1_S16384x1024_0_1 (rsV x))) (dyV dy))
    (constant S_ .f32 0x00000000#32) reducesTo_S16384x1024_S1024_d0 h_S_) shapeCasts_S1024_S1x1024

theorem aV_apply (R : Fin 16384) (k : Fin 1024) : aV dy g (ix2 R k) = half * dy (ix2 R k) * g (ix2 0 k) := by
  pointwise [aV, dyV, half]

theorem dfV_apply (R : Fin 16384) (k : Fin 1024) :
    dfV dy x g (ix2 R k) = bwd (fun l => x (ix2 R l)) (fun l => half * dy (ix2 R l) * g (ix2 0 l)) k := by
  have h := rms_bwd 0 (fun l => x (ix2 R l)) (fun l => half * dy (ix2 R l) * g (ix2 0 l)) k
  rw [zero_add, zero_add] at h
  rw [h]
  pointwise [dfV]
  simp only [rsV_apply, coefV_apply, aV_apply]

theorem hidV_apply (df : FVec Ideal S16384x1024 .f32) (s : Fin 4) (R : Fin 16384) (f : Fin 704) :
    hidV d w df (ix3 s R f) = (∑ k : Fin 1024, df (ix2 R k) * w (ix2 (col s f) k)) * d (ix3 s R f) := by
  pointwise [hidV]
  rfl

theorem dgV_apply (u : Fin 1) (k : Fin 1024) :
    dgV dy x (ix2 u k) = ∑ R : Fin 16384, half * dy (ix2 R k) * (x (ix2 R k) * rs (fun l => x (ix2 R l))) := by
  pointwise [dgV, dyV]
  simp only [rsV_apply]
  exact Finset.sum_congr rfl fun R _ => mul_comm _ _

end Cert.FfnBwdA.Ref
-- ==== Proof.FfnBwdA.Equal.lean ====
/-
  THE EQUATION: the feed-forward backward's first call and its reference leave the same four arrays.
-/
module

public import proofs.«01_k».proof.Proof.FfnBwdA.Ref
public import proofs.«01_k».proof.Proof.Gen.Kernel3Ideal.Value
public import proofs.«01_k».proof.Defs

@[expose] public section

set_option maxRecDepth 16384

noncomputable section

namespace Cert.FfnBwdA

open Cert.Kernel3Ideal Cert.Kernel3Ideal.Gen Idealize.ShloMosaic Idealize.ShloMosaic.TcCoe Idealize.SL.Sem

section
variable (m : (ℓ : Loc nD τ sig) → Buf (Elt Ideal) ℓ) (c : Dev nD)

theorem hid1_eq : Ref.hidV (aD1 m c) (aWd m c) (Ref.dfV (aDy m c) (aF m c) (aG m c)) = hidArr m c (aD1 m c) := by
  funext j
  obtain ⟨s, R, f, rfl⟩ : ∃ (s : Fin 4) (R : Fin 16384) (f : Fin 704), j = ix3 s R f := ⟨j 0, j 1, j 2, eq_ix3 j⟩
  rw [Ref.hidV_apply]
  simp only [Ref.dfV_apply]
  rfl

theorem hid2_eq : Ref.hidV (aD2 m c) (aWd m c) (Ref.dfV (aDy m c) (aF m c) (aG m c)) = hidArr m c (aD2 m c) := by
  funext j
  obtain ⟨s, R, f, rfl⟩ : ∃ (s : Fin 4) (R : Fin 16384) (f : Fin 704), j = ix3 s R f := ⟨j 0, j 1, j 2, eq_ix3 j⟩
  rw [Ref.hidV_apply]
  simp only [Ref.dfV_apply]
  rfl

theorem df_ref : Ref.dfV (aDy m c) (aF m c) (aG m c) = dfArr m c := by
  funext j
  obtain ⟨R, k, rfl⟩ : ∃ (R : Fin 16384) (k : Fin 1024), j = ix2 R k := ⟨j 0, j 1, eq_ix2 j⟩
  rw [Ref.dfV_apply]
  rfl

theorem dg_ref : Ref.dgV (aDy m c) (aF m c) = dgArr m c := by
  funext j
  obtain ⟨u, k, rfl⟩ : ∃ (u : Fin 1) (k : Fin 1024), j = ix2 u k := ⟨j 0, j 1, eq_ix2 j⟩
  rw [Ref.dgV_apply]
  rfl

end

theorem algebraic : Cert.algebraic_Kernel3Ideal_Reference3Ideal (hKernel3Ideal := Cert.Kernel3Ideal.Gen.facts) (hReference3Ideal := Cert.Reference3Ideal.Gen.facts) := by
  intro m g m' g' _ h
  refine ⟨fun c => hidArr m c (aD1 m c), fun c => hidArr m c (aD2 m c), fun c => dfArr m c, fun c => dgArr m c, ?_, ?_⟩
  · refine (θ_run _ _ _).mono (fun r hr c => ?_) (Value.run_blocks m g)
    have e := hr c
    exact ⟨(e.1).trans (final6 m c), (e.2.1).trans (final7 m c), (e.2.2.1).trans (final8 m c), (e.2.2.2.1).trans (final9 m c), e.2.2.2.2.1, e.2.2.2.2.2.1, e.2.2.2.2.2.2.1, e.2.2.2.2.2.2.2.1, e.2.2.2.2.2.2.2.2.1, e.2.2.2.2.2.2.2.2.2⟩
  · refine (θ_run _ _ _).mono (fun r hr c => ?_) (Cert.Reference3Ideal.Value.run m' g')
    have e := hr c
    obtain ⟨a0, a1, a2, a3, a4, a5⟩ := h c
    have h0 : Ref.hidV (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg5)) (Ref.dfV (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))) = hidArr m c (aD1 m c) := by
      rw [a0, a1, a3, a4, a5]
      exact hid1_eq m c
    have h1 : Ref.hidV (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5)) (Ref.dfV (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))) = hidArr m c (aD2 m c) := by
      rw [a0, a2, a3, a4, a5]
      exact hid2_eq m c
    have h2 : Ref.dfV (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = dfArr m c := by
      rw [a0, a3, a4]
      exact df_ref m c
    have h3 : Ref.dgV (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg3)) = dgArr m c := by
      rw [a0, a3]
      exact dg_ref m c
    exact ⟨(e.1).trans h0, (e.2.1).trans h1, (e.2.2.1).trans h2, (e.2.2.2.1).trans h3, e.2.2.2.2.1, e.2.2.2.2.2.1, e.2.2.2.2.2.2.1, e.2.2.2.2.2.2.2.1, e.2.2.2.2.2.2.2.2.1, e.2.2.2.2.2.2.2.2.2⟩

end Cert.FfnBwdA
-- ==== Proof.FfnDwg.Block.lean ====
/-
  WHAT ONE GRID POINT OF THE GATE’S WEIGHT GRADIENT COMPUTES, from its blocks.

  The point holds 4096 rows of the gradient and of the activations. It adds the transposed gradient times the activations
  to what an accumulator holds (the first point of a group stores it instead), and the last point of a group hands the
  accumulator out.
-/
module

public import proofs.«01_k».proof.Proof.Gen.Kernel4Ideal.Value
public import Idealize.ShloMosaic.Lib.Pointwise
public import Idealize.ShloMosaic.Lib.Tactic

@[expose] public section

set_option maxRecDepth 16384

noncomputable section

namespace Cert.FfnDwg

open Cert.Kernel4Ideal Cert.Kernel4Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The block's part of the weight gradient. -/
def part (x0 : Vec Ideal S1x4096x704 .bf16) (x1 : Vec Ideal S4096x1024 .bf16) : Vec Ideal S704x1024 .f32 := fun j =>
  ∑ k : Fin 4096, x0 (ix3 0 k (j 0)) * x1 (ix2 k (j 1))

section
variable (c : Dev nD) (i : grid0.Coords)
  (a1 : Memref sig .tc .vmem S1x4096x704 .bf16) (h1 : a1.IsWhole)
  (a2 : Memref sig .tc .vmem S4096x1024 .bf16) (h2 : a2.IsWhole)
  (a3 : Memref sig .tc .vmem S1x704x1024 .bf16) (h3 : a3.IsWhole)
  (a4 : Memref sig .tc .vmem S704x1024 .f32) (h4 : a4.IsWhole)
  (x0 : Vec Ideal S1x4096x704 .bf16) (x1 : Vec Ideal S4096x1024 .bf16) (xs : Vec Ideal S704x1024 .f32)

/-- A group’s first point stores its part. -/
theorem sout_A_0 (hc0 : cond0_0 i) (hc1 : ¬cond0_1 i) (hc2 : ¬cond0_2 i) :
    sout0_A_0 c i a1 h1 a2 h2 a3 h3 a4 h4 hc0 hc1 hc2 x0 x1 = part x0 x1 := by
  unfold sout0_A_0
  rw [View.read_writes_junk_eq_canon]
  unfold kernelRun0_A
  dsimp only
  sl_unfold_words
  rw [View.canon_unit_zero hz2]
  simp only [View.readAt_eq_ld, h1.read_unread, h2.read_unread, h4.read_unread, View.ld_unit_zero (S := S1x4096x704) hz3,
    View.ld_unit_zero (S := S4096x1024) hz2, View.ld_unit_zero (S := S704x1024) hz2]
  funext j
  idx_vars j
  pointwise [k0_pay1, k0_pay2, k0_pay3, part]

/-- A later point adds its part. -/
theorem sout_B_0 (hc0 : ¬cond0_0 i) (hc1 : cond0_1 i) (hc2 : ¬cond0_2 i) :
    sout0_B_0 c i a1 h1 a2 h2 a3 h3 a4 h4 hc0 hc1 hc2 x0 x1 xs = fun j => xs j + part x0 x1 j := by
  unfold sout0_B_0
  rw [View.read_writes_junk_eq_canon]
  unfold kernelRun0_B
  dsimp only
  sl_unfold_words
  rw [View.canon_unit_zero hz2]
  simp only [View.readAt_eq_ld, h1.read_unread, h2.read_unread, h4.read_unread, View.ld_unit_zero (S := S1x4096x704) hz3,
    View.ld_unit_zero (S := S4096x1024) hz2, View.ld_unit_zero (S := S704x1024) hz2]
  funext j
  idx_vars j
  pointwise [k0_pay1, k0_pay2, k0_pay3, part]

/-- A group’s last point adds its part and hands the sum out. -/
theorem out_C_2 (hc0 : ¬cond0_0 i) (hc1 : cond0_1 i) (hc2 : cond0_2 i) :
    out0_C_2 c i a1 h1 a2 h2 a3 h3 a4 h4 hc0 hc1 hc2 x0 x1 xs = fun j => xs (ix2 (j 1) (j 2)) + part x0 x1 (ix2 (j 1) (j 2)) := by
  unfold out0_C_2
  rw [View.read_writes_junk_eq_canon]
  unfold kernelRun0_C
  dsimp only
  sl_unfold_words
  rw [View.canon_unit_zero hz3]
  simp only [View.readAt_eq_ld, h1.read_unread, h2.read_unread, h4.read_unread, View.ld_unit_zero (S := S1x4096x704) hz3,
    View.ld_unit_zero (S := S4096x1024) hz2, View.ld_unit_zero (S := S704x1024) hz2]
  funext j
  rw [View.readCov_unit_zero _ hz2]
  idx_vars j
  pointwise [k0_pay4, k0_pay3, k0_pay1, part]

end

end Cert.FfnDwg
-- ==== Proof.FfnDwg.Array.lean ====
/-
  WHAT THE GATE’S WEIGHT GRADIENT LEAVES IN ITS RESULT ARRAY.

  The grid runs over the four shards and, within a shard, over 4 blocks of 4096 rows. A shard's rows 2112 … 2815 of the
  packed array end as the transposed gradient times the activations, summed over all 16384 rows; the array's other rows
  keep what the call was given.
-/
module

public import proofs.«01_k».proof.Proof.FfnDwg.Block

@[expose] public section

set_option maxRecDepth 16384

noncomputable section

namespace Cert.FfnDwg

open Cert.Kernel4Ideal Cert.Kernel4Ideal.Gen Idealize.ShloMosaic Idealize.ShloMosaic.TcCoe Idealize.SL.Sem

variable (m : (ℓ : Loc nD τ sig) → Buf (Elt Ideal) ℓ) (c : Dev nD)

abbrev aX : Vec Ideal S4x16384x704 .bf16 := m ((c : Thread nD τ).loc main_arg0)
abbrev aH : Vec Ideal S16384x1024 .bf16 := m ((c : Thread nD τ).loc main_arg1)
abbrev aBuf : Vec Ideal S4x7680x1024 .bf16 := m ((c : Thread nD τ).loc main_arg2)

theorem points : cfg0.N = 16 := N_0

theorem last_lt (b : Fin 4) : 4 * b.val + 3 < cfg0.N := by have := b.isLt; have := points; omega

/-- The shard of point `t`. -/
def shard (t : Fin cfg0.N) : Fin 4 := ⟨t.val / 4, by have := t.isLt; have := points; omega⟩

/-- The row block of point `t`. -/
def rows (t : Fin cfg0.N) : Fin 4 := ⟨t.val % 4, by omega⟩

/-- Row `k` of row block `p`, as a row of the array. -/
def row (p : Fin 4) (k : Fin 4096) : Fin 16384 := ⟨p.val * 4096 + k.val, by have := p.isLt; have := k.isLt; omega⟩

/-- Entry `f`, `d` of shard `b`'s weight gradient. -/
def grad (b : Fin 4) (f : Fin 704) (d : Fin 1024) : EReal := ∑ R : Fin 16384, aX m c (ix3 b R f) * aH m c (ix2 R d)

/-- The part of it that row block `p` gives. -/
def gpart (b : Fin 4) (f : Fin 704) (d : Fin 1024) (p : Fin 4) : EReal :=
  ∑ k : Fin 4096, aX m c (ix3 b (row p k) f) * aH m c (ix2 (row p k) d)

theorem grad_eq (b : Fin 4) (f : Fin 704) (d : Fin 1024) : grad m c b f d = ∑ p : Fin 4, gpart m c b f d p := by
  unfold grad gpart
  rw [Fin.sum_univ_tiles 4 4096 rfl]
  exact Finset.sum_congr rfl fun p _ => rfl

/-- The packed array: the weight gradient in its rows, what was given in the others. -/
def outArr : Vec Ideal S4x7680x1024 .bf16 := fun i =>
  if h : 2112 ≤ (i 1).val ∧ (i 1).val < 2816 then grad m c (i 0) ⟨(i 1).val - 2112, by omega⟩ (i 2) else aBuf m c i

/-! ## The blocks, read from the arrays -/

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val % 4 ∧ win0_1.index t 1 = 0 := by decide +kernel
theorem index2 : ∀ t : Fin grid0.N, win0_2.index t 0 = t.val / 4 ∧ win0_2.index t 1 = 3 ∧ win0_2.index t 2 = 0 := by decide +kernel

theorem iblk0 (t : Fin cfg0.N) (u : Fin 1) (k : Fin 4096) (f : Fin 704) :
    (iblk m c 0 t : Vec Ideal S1x4096x704 .bf16) (ix3 u k f) = aX m c (ix3 (shard t) (row (rows t) k) f) := by
  unfold iblk
  rw [View.read_apply]
  show V m c main_arg0 _ = _
  rw [V_main_arg0]
  congr 1
  funext a
  apply Fin.ext
  match a with
  | ⟨0, _⟩ => show win0_0.index t 0 * 1 + 1 * u.val = t.val / 4; rw [(index0 t).1]; have := u.isLt; omega
  | ⟨1, _⟩ => show win0_0.index t 1 * 4096 + 1 * k.val = t.val % 4 * 4096 + k.val; rw [(index0 t).2.1]; have := u.isLt; omega
  | ⟨2, _⟩ => show win0_0.index t 2 * 704 + 1 * f.val = f.val; rw [(index0 t).2.2]; have := u.isLt; omega

theorem iblk1 (t : Fin cfg0.N) (k : Fin 4096) (d : Fin 1024) :
    (iblk m c 1 t : Vec Ideal S4096x1024 .bf16) (ix2 k d) = aH m c (ix2 (row (rows t) k) d) := by
  unfold iblk
  rw [View.read_apply]
  show V m c main_arg1 _ = _
  rw [V_main_arg1]
  congr 1
  funext a
  apply Fin.ext
  match a with
  | ⟨0, _⟩ => show win0_1.index t 0 * 4096 + 1 * k.val = t.val % 4 * 4096 + k.val; rw [(index1 t).1]; omega
  | ⟨1, _⟩ => show win0_1.index t 1 * 1024 + 1 * d.val = d.val; rw [(index1 t).2]; omega

theorem part_at (t : Fin cfg0.N) (f : Fin 704) (d : Fin 1024) :
    part (iblk m c 0 t) (iblk m c 1 t) (ix2 f d) = gpart m c (shard t) f d (rows t) := by
  unfold part gpart
  simp only [ix2_0, ix2_1, iblk0, iblk1]

/-! ## The accumulator and what a shard's last point hands out -/

/-- After row block `q` of shard `b` the accumulator holds the sum of the parts so far. -/
theorem acc (b : Fin 4) (f : Fin 704) (d : Fin 1024) : ∀ (q : ℕ) (hq : q < 3) (h : 4 * b.val + q < cfg0.N),
    (outsAt0 m c (4 * b.val + q) h).2 (ix2 f d) = ∑ p : Fin (q + 1), gpart m c b f d ⟨p.val, by omega⟩
  | 0, hq, h => by
    rw [outsAt0_A m c ⟨4 * b.val + 0, h⟩ (by dsimp only; omega) (by dsimp only; omega) (by dsimp only; omega), Fin.sum_univ_one]
    dsimp only
    rw [sout_A_0, part_at]
    refine congrArg₂ (fun x y => gpart m c x f d y) (Fin.ext ?_) (Fin.ext ?_)
    · show (4 * b.val + 0) / 4 = b.val; omega
    · show (4 * b.val + 0) % 4 = 0; omega
  | q + 1, hq, h => by
    rw [outsAt0_B m c ⟨4 * b.val + (q + 1), h⟩ (by dsimp only; omega) (by dsimp only; omega) (by dsimp only; omega), Fin.sum_univ_castSucc]
    dsimp only
    rw [sout_B_0]
    dsimp only
    rw [part_at]
    refine congrArg₂ (· + ·) (acc b f d q (by omega) (Nat.lt_of_succ_lt h)) (congrArg₂ (fun x y => gpart m c x f d y) (Fin.ext ?_) (Fin.ext ?_))
    · show (4 * b.val + (q + 1)) / 4 = b.val; omega
    · show (4 * b.val + (q + 1)) % 4 = q + 1; omega

/-- The last point of shard `b` hands out the shard's weight gradient. -/
theorem left2_at (b : Fin 4) (u : Fin 1) (f : Fin 704) (d : Fin 1024) (h : 4 * b.val + 3 < cfg0.N) :
    (outsAt0 m c (4 * b.val + 3) h).1 (ix3 u f d) = grad m c b f d := by
  rw [outsAt0_C m c ⟨4 * b.val + 3, h⟩ (by dsimp only; omega) (by dsimp only; omega) (by dsimp only; omega), grad_eq, Fin.sum_univ_castSucc]
  dsimp only
  rw [out_C_2]
  dsimp only [ix3_1, ix3_2]
  rw [part_at]
  refine congrArg₂ (· + ·) ?_ (congrArg₂ (fun x y => gpart m c x f d y) (Fin.ext ?_) (Fin.ext ?_))
  · exact acc m c b f d 2 (by omega) (Nat.lt_of_succ_lt h)
  · show (4 * b.val + 3) / 4 = b.val; omega
  · show (4 * b.val + 3) % 4 = 3; omega

theorem left2 (t : Fin cfg0.N) (b : Fin 4) (hb : t.val = 4 * b.val + 3) (u : Fin 1) (f : Fin 704) (d : Fin 1024) :
    (outsAt0 m c t.val t.isLt).1 (ix3 u f d) = grad m c b f d := by
  obtain rfl : t = ⟨4 * b.val + 3, last_lt b⟩ := Fin.ext hb
  exact left2_at m c b u f d _

/-! ## The array -/

/-- The window's blocks lie inside the array, whole. -/
theorem whole2 : ∀ t : Fin grid0.N, win0_2.xsize (grid0.coords t) 0 = 1 ∧ win0_2.xsize (grid0.coords t) 1 = 704
    ∧ win0_2.xsize (grid0.coords t) 2 = 1024 := by decide +kernel

/-- Point `t`'s block of the result, entry by entry. -/
theorem block2 (G : Vec Ideal S4x7680x1024 .bf16) (t : Fin cfg0.N) (j : (win0_2.xblock (grid0.coords t)).Idx) (f : Fin 704) (d : Fin 1024)
    (h0 : (j 0 : ℕ) = 0) (h1 : (j 1 : ℕ) = f.val) (h2 : (j 2 : ℕ) = d.val) :
    ((cfg0.win 2).blk t).view.read (Elt Ideal) (show Buf (Elt Ideal) ((cfg0.win 2).arr.view.loc (c.tc : Thread nD τ)) from G) j
      = G (ix3 (shard t) (⟨2112 + f.val, by have := f.isLt; omega⟩ : Fin 7680) d) := by
  rw [View.read_apply]
  show G ((win0_2.rect t).emb j) = G _
  refine congrArg G (funext fun a => Fin.ext ?_)
  refine (win0_2.rect_emb_val t j a).trans ?_
  match a with
  | ⟨0, _⟩ =>
    refine (congrArg₂ (fun x y : ℕ => x * 1 + y) (index2 t).1 h0).trans ?_
    show t.val / 4 * 1 + 0 = t.val / 4
    rw [Nat.mul_one, Nat.add_zero]
  | ⟨1, _⟩ => exact congrArg₂ (fun x y : ℕ => x * 704 + y) (index2 t).2.1 h1
  | ⟨2, _⟩ => exact (congrArg₂ (fun x y : ℕ => x * 1024 + y) (index2 t).2.2 h2).trans (Nat.zero_add _)

theorem mem2 (t : Fin cfg0.N) (i : S4x7680x1024.Idx) (h0 : (i 0).val = t.val / 4) (h1 : 2112 ≤ (i 1).val ∧ (i 1).val < 2816) :
    i ∈ ((cfg0.win 2).blk t).view.set := by
  show i ∈ ((View.whole main_v0).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + win0_2.xsize (grid0.coords t) 0
    rw [(whole2 t).1, (index2 t).1]
    omega
  | ⟨1, _⟩ =>
    show win0_2.index t 1 * 704 ≤ (i 1 : Nat) ∧ (i 1 : Nat) < win0_2.index t 1 * 704 + win0_2.xsize (grid0.coords t) 1
    rw [(whole2 t).2.1, (index2 t).2.1]
    exact h1
  | ⟨2, _⟩ =>
    show win0_2.index t 2 * 1024 ≤ (i 2 : Nat) ∧ (i 2 : Nat) < win0_2.index t 2 * 1024 + win0_2.xsize (grid0.coords t) 2
    rw [(whole2 t).2.2, (index2 t).2.2]
    rw [Nat.zero_mul, Nat.zero_add]
    exact ⟨Nat.zero_le _, (i 2).isLt⟩

theorem entry : V m c main_v0 = aBuf m c := by
  show StableHlo.after hostOps0 _ (Proc.devRef .tc main_v0) = _
  after_results_simp <;> rfl

/-- The whole block is handed over. -/
theorem cut2 (X : Vec Ideal S1x704x1024 .bf16) (t : Fin cfg0.N) (j : (win0_2.xblock (grid0.coords t)).Idx) (f : Fin 704) (d : Fin 1024)
    (h0 : (j 0 : ℕ) = 0) (h1 : (j 1 : ℕ) = f.val) (h2 : (j 2 : ℕ) = d.val) : win0_2.cut (grid0.coords t) X j = X (ix3 0 f d) := by
  show X (win0_2.xinj (grid0.coords t) j) = _
  refine congrArg X (funext fun a => Fin.ext ?_)
  match a with
  | ⟨0, _⟩ => exact h0
  | ⟨1, _⟩ => exact h1
  | ⟨2, _⟩ => exact h2

/-- An index of the block, by its three coordinates. -/
theorem coords2 (t : Fin cfg0.N) (j : (win0_2.xblock (grid0.coords t)).Idx) :
    ∃ (f : Fin 704) (d : Fin 1024), (j 0 : ℕ) = 0 ∧ (j 1 : ℕ) = f.val ∧ (j 2 : ℕ) = d.val :=
  ⟨⟨(j 1).val, lt_of_lt_of_eq (j 1).isLt (whole2 t).2.1⟩, ⟨(j 2).val, lt_of_lt_of_eq (j 2).isLt (whole2 t).2.2⟩,
    Nat.lt_one_iff.1 (lt_of_lt_of_eq (j 0).isLt (whole2 t).1), rfl, rfl⟩

theorem final2 : (Gen.dats m 0 c).arrAt 2 cfg0.N = outArr m c := by
  funext (i : S4x7680x1024.Idx)
  refine ((dats m 0 c).arrAt_eq_piecewise 2 (outArr m c) (fun t ht => ?_) i).trans ?_
  · have hN := points
    have h3 := (flush0_2 t).1 ht
    have hlt : t.val < 16 := lt_of_lt_of_eq t.isLt points
    obtain ⟨b, hb⟩ : ∃ b : Fin 4, t.val = 4 * b.val + 3 := ⟨⟨t.val / 4, by omega⟩, by dsimp only; omega⟩
    obtain rfl : b = shard t := Fin.ext (by show b.val = t.val / 4; omega)
    funext j
    obtain ⟨f, d, h0, h1, h2⟩ := coords2 t j
    refine Eq.trans ?_ (block2 c (outArr m c) t j f d h0 h1 h2).symm
    have hr : 2112 ≤ 2112 + f.val ∧ 2112 + f.val < 2816 := by have := f.isLt; omega
    refine Eq.trans ?_ (Eq.symm ((dif_pos hr).trans (congrArg (fun y => grad m c (shard t) y d) (Fin.ext (Nat.add_sub_cancel_left 2112 f.val)))))
    show win0_2.cut (grid0.coords t) ((dats m 0 c).after 2 t) j = _
    rw [after0_2, cut2 _ t j f d h0 h1 h2]
    exact left2 m c t (shard t) hb 0 f d
  · split
    · rfl
    · rename_i hno
      rw [A_eq]
      refine (congrFun (entry m c) i).trans (Eq.symm (dif_neg fun h1 => hno ?_))
      have hN := points
      have hi : (i 0).val < 4 := (i 0).isLt
      exact ⟨⟨4 * (i 0).val + 3, lt_of_lt_of_eq (b := 16) (by omega) points.symm⟩, (flush0_2 _).2 (by dsimp only; omega), mem2 _ i (by dsimp only; omega) h1⟩

end Cert.FfnDwg
-- ==== Proof.FfnDwg.Ref.lean ====
/-
  WHAT THE REFERENCE OF THE GATE’S WEIGHT GRADIENT COMPUTES, ENTRY BY ENTRY.
-/
module

public import proofs.«01_k».proof.Proof.FfnDwg.Array
public import proofs.«01_k».proof.Proof.Gen.Reference4Ideal.Run

@[expose] public section

set_option maxRecDepth 16384

noncomputable section

namespace Cert.FfnDwg.Ref

open Cert.Reference4Ideal Cert.Reference4Ideal.Gen Idealize.ShloMosaic Idealize.ShloMosaic.TcCoe Idealize.SL.Sem
open Cert.FfnDwg

variable (x : FVec Ideal S4x16384x704 .bf16) (h : FVec Ideal S16384x1024 .bf16) (buf : FVec Ideal S4x7680x1024 .bf16)

/-- The weight gradient, cut in the four shards' rows. -/
def rowsV : FVec Ideal S4x704x1024 .bf16 :=
  truncf .bf16 (shapeCast S4x704x1024 (transpose S2816x1024 [1, 0] (transpose S1024x2816 [1, 0]
    (Host.dotGeneral dot_S16384x2816_S16384x1024_S2816x1024_0_0_1_1_n_n none (extf .f32 (shapeCast S16384x2816 (transpose S16384x4x704 [1, 0, 2] x transposes_S4x16384x704_S16384x4x704_1_0_2) shapeCasts_S16384x4x704_S16384x2816) bitsLt_bf16_f32) (extf .f32 h bitsLt_bf16_f32))
    transposes_S2816x1024_S1024x2816_1_0) transposes_S1024x2816_S2816x1024_1_0) shapeCasts_S2816x1024_S4x704x1024) bitsLt_bf16_f32

/-- The packed array with those rows in it. -/
def outV : FVec Ideal S4x7680x1024 .bf16 :=
  concatenate S4x7680x1024 1 [⟨S4x2112x1024, extractStridedSlice S4x2112x1024 ![0, 0, 0] buf slices_S4x7680x1024_S4x2112x1024_0_0_0⟩,
    ⟨S4x704x1024, rowsV x h⟩,
    ⟨S4x4864x1024, extractStridedSlice S4x4864x1024 ![0, 2816, 0] buf slices_S4x7680x1024_S4x4864x1024_0_2816_0⟩]
    concatenates_S4x2112x1024_S4x704x1024_S4x4864x1024_S4x7680x1024_d1

theorem rowsV_apply (b : Fin 4) (f : Fin 704) (d : Fin 1024) :
    rowsV x h (ix3 b f d) = ∑ R : Fin 16384, x (ix3 b R f) * h (ix2 R d) := by
  pointwise [rowsV]

theorem outV_apply (b : Fin 4) (q : Fin 7680) (d : Fin 1024) :
    outV x h buf (ix3 b q d) = if hq : 2112 ≤ q.val ∧ q.val < 2816 then rowsV x h (ix3 b ⟨q.val - 2112, by omega⟩ d) else buf (ix3 b q d) := by
  unfold outV
  pointwise
  by_cases h1 : q.val < 2112
  · have h3 : ¬(2112 ≤ q.val ∧ q.val < 2816) := by omega
    rw [dif_pos h1, dif_neg h3]
  · by_cases h2 : q.val - 2112 < 704
    · have h3 : 2112 ≤ q.val ∧ q.val < 2816 := by omega
      rw [dif_neg h1, dif_pos h2, dif_pos h3]
    · have h3 : ¬(2112 ≤ q.val ∧ q.val < 2816) := by omega
      rw [dif_neg h1, dif_neg h2, dif_neg h3]
      exact congrArg (fun q => buf (ix3 b q d)) (Fin.ext (by dsimp only; omega))

end Cert.FfnDwg.Ref
-- ==== Proof.FfnDwg.Equal.lean ====
/-
  THE EQUATION: the gate’s weight gradient and its reference leave the same packed array.
-/
module

public import proofs.«01_k».proof.Proof.FfnDwg.Ref
public import proofs.«01_k».proof.Proof.Gen.Kernel4Ideal.Value
public import proofs.«01_k».proof.Defs

@[expose] public section

set_option maxRecDepth 16384

noncomputable section

namespace Cert.FfnDwg

open Cert.Kernel4Ideal Cert.Kernel4Ideal.Gen Idealize.ShloMosaic Idealize.ShloMosaic.TcCoe Idealize.SL.Sem

section
variable (m : (ℓ : Loc nD τ sig) → Buf (Elt Ideal) ℓ) (c : Dev nD)

theorem out_eq : Ref.outV (aX m c) (aH m c) (aBuf m c) = outArr m c := by
  funext j
  obtain ⟨b, q, d, rfl⟩ : ∃ (b : Fin 4) (q : Fin 7680) (d : Fin 1024), j = ix3 b q d := ⟨j 0, j 1, j 2, eq_ix3 j⟩
  rw [Ref.outV_apply]
  simp only [Ref.rowsV_apply]
  rfl

end

theorem algebraic : Cert.algebraic_Kernel4Ideal_Reference4Ideal (hKernel4Ideal := Cert.Kernel4Ideal.Gen.facts) (hReference4Ideal := Cert.Reference4Ideal.Gen.facts) := by
  intro m g m' g' _ h
  refine ⟨fun c => outArr m c, ?_, ?_⟩
  · refine (θ_run _ _ _).mono (fun r hr c => ?_) (Value.run_blocks m g)
    have e := hr c
    exact ⟨(e.1).trans (final2 m c), e.2.1, e.2.2.1, e.2.2.2⟩
  · refine (θ_run _ _ _).mono (fun r hr c => ?_) (Cert.Reference4Ideal.Value.run m' g')
    have e := hr c
    obtain ⟨a0, a1, a2⟩ := h c
    have h0 : Ref.outV (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) = outArr m c := by
      rw [a0, a1, a2]
      exact out_eq m c
    exact ⟨(e.1).trans h0, e.2.1, e.2.2.1, e.2.2.2⟩

end Cert.FfnDwg
-- ==== Proof.DwIn.Block.lean ====
/-
  WHAT ONE GRID POINT OF THE INPUT PROJECTION’S WEIGHT GRADIENT COMPUTES, from its blocks.

  The point holds 2048 rows of the gradient and of the activations. It adds the transposed gradient times the activations
  to what an accumulator holds (the first point of a group stores it instead), and the last point of a group hands the
  accumulator out.
-/
module

public import proofs.«01_k».proof.Proof.Gen.Kernel5Ideal.Value
public import Idealize.ShloMosaic.Lib.Pointwise
public import Idealize.ShloMosaic.Lib.Tactic

@[expose] public section

set_option maxRecDepth 16384

noncomputable section

namespace Cert.DwIn

open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The block's part of the weight gradient. -/
def part (x0 : Vec Ideal S2048x1920 .bf16) (x1 : Vec Ideal S2048x1024 .bf16) : Vec Ideal S1920x1024 .f32 := fun j =>
  ∑ k : Fin 2048, x0 (ix2 k (j 0)) * x1 (ix2 k (j 1))

section
variable (c : Dev nD) (i : grid0.Coords)
  (a1 : Memref sig .tc .vmem S2048x1920 .bf16) (h1 : a1.IsWhole)
  (a2 : Memref sig .tc .vmem S2048x1024 .bf16) (h2 : a2.IsWhole)
  (a3 : Memref sig .tc .vmem S1x1920x1024 .bf16) (h3 : a3.IsWhole)
  (a4 : Memref sig .tc .vmem S1920x1024 .f32) (h4 : a4.IsWhole)
  (x0 : Vec Ideal S2048x1920 .bf16) (x1 : Vec Ideal S2048x1024 .bf16) (xs : Vec Ideal S1920x1024 .f32)

/-- A group’s first point stores its part. -/
theorem sout_A_0 (hc0 : cond0_0 i) (hc1 : ¬cond0_1 i) (hc2 : ¬cond0_2 i) :
    sout0_A_0 c i a1 h1 a2 h2 a3 h3 a4 h4 hc0 hc1 hc2 x0 x1 = part x0 x1 := by
  unfold sout0_A_0
  rw [View.read_writes_junk_eq_canon]
  unfold kernelRun0_A
  dsimp only
  sl_unfold_words
  rw [View.canon_unit_zero hz2]
  simp only [View.readAt_eq_ld, h1.read_unread, h2.read_unread, h4.read_unread, View.ld_unit_zero (S := S2048x1920) hz2,
    View.ld_unit_zero (S := S2048x1024) hz2, View.ld_unit_zero (S := S1920x1024) hz2]
  funext j
  idx_vars j
  pointwise [k0_pay1, k0_pay2, k0_pay3, part]

/-- A later point adds its part. -/
theorem sout_B_0 (hc0 : ¬cond0_0 i) (hc1 : cond0_1 i) (hc2 : ¬cond0_2 i) :
    sout0_B_0 c i a1 h1 a2 h2 a3 h3 a4 h4 hc0 hc1 hc2 x0 x1 xs = fun j => xs j + part x0 x1 j := by
  unfold sout0_B_0
  rw [View.read_writes_junk_eq_canon]
  unfold kernelRun0_B
  dsimp only
  sl_unfold_words
  rw [View.canon_unit_zero hz2]
  simp only [View.readAt_eq_ld, h1.read_unread, h2.read_unread, h4.read_unread, View.ld_unit_zero (S := S2048x1920) hz2,
    View.ld_unit_zero (S := S2048x1024) hz2, View.ld_unit_zero (S := S1920x1024) hz2]
  funext j
  idx_vars j
  pointwise [k0_pay1, k0_pay2, k0_pay3, part]

/-- A group’s last point adds its part and hands the sum out. -/
theorem out_C_2 (hc0 : ¬cond0_0 i) (hc1 : cond0_1 i) (hc2 : cond0_2 i) :
    out0_C_2 c i a1 h1 a2 h2 a3 h3 a4 h4 hc0 hc1 hc2 x0 x1 xs = fun j => xs (ix2 (j 1) (j 2)) + part x0 x1 (ix2 (j 1) (j 2)) := by
  unfold out0_C_2
  rw [View.read_writes_junk_eq_canon]
  unfold kernelRun0_C
  dsimp only
  sl_unfold_words
  rw [View.canon_unit_zero hz3]
  simp only [View.readAt_eq_ld, h1.read_unread, h2.read_unread, h4.read_unread, View.ld_unit_zero (S := S2048x1920) hz2,
    View.ld_unit_zero (S := S2048x1024) hz2, View.ld_unit_zero (S := S1920x1024) hz2]
  funext j
  rw [View.readCov_unit_zero _ hz2]
  idx_vars j
  pointwise [k0_pay4, k0_pay3, k0_pay1, part]

end

end Cert.DwIn
-- ==== Proof.DwIn.Array.lean ====
/-
  WHAT THE INPUT PROJECTION’S WEIGHT GRADIENT LEAVES IN ITS RESULT ARRAY.

  The grid runs over the four shards and, within a shard, over 8 blocks of 2048 rows. A shard's rows 0 … 1919 of the
  packed array end as the transposed gradient times the activations, summed over all 16384 rows; the array's other rows
  keep what the call was given.
-/
module

public import proofs.«01_k».proof.Proof.DwIn.Block

@[expose] public section

set_option maxRecDepth 16384

noncomputable section

namespace Cert.DwIn

open Cert.Kernel5Ideal Cert.Kernel5Ideal.Gen Idealize.ShloMosaic Idealize.ShloMosaic.TcCoe Idealize.SL.Sem

variable (m : (ℓ : Loc nD τ sig) → Buf (Elt Ideal) ℓ) (c : Dev nD)

abbrev aX : Vec Ideal S16384x7680 .bf16 := m ((c : Thread nD τ).loc main_arg0)
abbrev aH : Vec Ideal S16384x1024 .bf16 := m ((c : Thread nD τ).loc main_arg1)
abbrev aBuf : Vec Ideal S4x7680x1024 .bf16 := m ((c : Thread nD τ).loc main_arg2)

theorem points : cfg0.N = 32 := N_0

theorem last_lt (b : Fin 4) : 8 * b.val + 7 < cfg0.N := by have := b.isLt; have := points; omega

/-- The shard of point `t`. -/
def shard (t : Fin cfg0.N) : Fin 4 := ⟨t.val / 8, by have := t.isLt; have := points; omega⟩

/-- The row block of point `t`. -/
def rows (t : Fin cfg0.N) : Fin 8 := ⟨t.val % 8, by omega⟩

/-- Row `k` of row block `p`, as a row of the array. -/
def row (p : Fin 8) (k : Fin 2048) : Fin 16384 := ⟨p.val * 2048 + k.val, by have := p.isLt; have := k.isLt; omega⟩

/-- Column `f` of shard `b`. -/
def col (b : Fin 4) (f : Fin 1920) : Fin 7680 := ⟨b.val * 1920 + f.val, by have := b.isLt; have := f.isLt; omega⟩

/-- Entry `f`, `d` of shard `b`'s weight gradient. -/
def grad (b : Fin 4) (f : Fin 1920) (d : Fin 1024) : EReal := ∑ R : Fin 16384, aX m c (ix2 R (col b f)) * aH m c (ix2 R d)

/-- The part of it that row block `p` gives. -/
def gpart (b : Fin 4) (f : Fin 1920) (d : Fin 1024) (p : Fin 8) : EReal :=
  ∑ k : Fin 2048, aX m c (ix2 (row p k) (col b f)) * aH m c (ix2 (row p k) d)

theorem grad_eq (b : Fin 4) (f : Fin 1920) (d : Fin 1024) : grad m c b f d = ∑ p : Fin 8, gpart m c b f d p := by
  unfold grad gpart
  rw [Fin.sum_univ_tiles 8 2048 rfl]
  exact Finset.sum_congr rfl fun p _ => rfl

/-- The packed array: the weight gradient in its rows, what was given in the others. -/
def outArr : Vec Ideal S4x7680x1024 .bf16 := fun i =>
  if h : 0 ≤ (i 1).val ∧ (i 1).val < 1920 then grad m c (i 0) ⟨(i 1).val - 0, by omega⟩ (i 2) else aBuf m c i

/-! ## The blocks, read from the arrays -/

theorem index0 : ∀ t : Fin grid0.N, win0_0.index t 0 = t.val % 8 ∧ win0_0.index t 1 = t.val / 8 := by decide +kernel
theorem index1 : ∀ t : Fin grid0.N, win0_1.index t 0 = t.val % 8 ∧ win0_1.index t 1 = 0 := by decide +kernel
theorem index2 : ∀ t : Fin grid0.N, win0_2.index t 0 = t.val / 8 ∧ win0_2.index t 1 = 0 ∧ win0_2.index t 2 = 0 := by decide +kernel

theorem iblk0 (t : Fin cfg0.N) (k : Fin 2048) (f : Fin 1920) :
    (iblk m c 0 t : Vec Ideal S2048x1920 .bf16) (ix2 k f) = aX m c (ix2 (row (rows t) k) (col (shard t) f)) := by
  unfold iblk
  rw [View.read_apply]
  show V m c main_arg0 _ = _
  rw [V_main_arg0]
  congr 1
  funext a
  apply Fin.ext
  match a with
  | ⟨0, _⟩ => show win0_0.index t 0 * 2048 + 1 * k.val = t.val % 8 * 2048 + k.val; rw [(index0 t).1]; omega
  | ⟨1, _⟩ => show win0_0.index t 1 * 1920 + 1 * f.val = t.val / 8 * 1920 + f.val; rw [(index0 t).2]; omega

theorem iblk1 (t : Fin cfg0.N) (k : Fin 2048) (d : Fin 1024) :
    (iblk m c 1 t : Vec Ideal S2048x1024 .bf16) (ix2 k d) = aH m c (ix2 (row (rows t) k) d) := by
  unfold iblk
  rw [View.read_apply]
  show V m c main_arg1 _ = _
  rw [V_main_arg1]
  congr 1
  funext a
  apply Fin.ext
  match a with
  | ⟨0, _⟩ => show win0_1.index t 0 * 2048 + 1 * k.val = t.val % 8 * 2048 + k.val; rw [(index1 t).1]; omega
  | ⟨1, _⟩ => show win0_1.index t 1 * 1024 + 1 * d.val = d.val; rw [(index1 t).2]; omega

theorem part_at (t : Fin cfg0.N) (f : Fin 1920) (d : Fin 1024) :
    part (iblk m c 0 t) (iblk m c 1 t) (ix2 f d) = gpart m c (shard t) f d (rows t) := by
  unfold part gpart
  simp only [ix2_0, ix2_1, iblk0, iblk1]

/-! ## The accumulator and what a shard's last point hands out -/

/-- After row block `q` of shard `b` the accumulator holds the sum of the parts so far. -/
theorem acc (b : Fin 4) (f : Fin 1920) (d : Fin 1024) : ∀ (q : ℕ) (hq : q < 7) (h : 8 * b.val + q < cfg0.N),
    (outsAt0 m c (8 * b.val + q) h).2 (ix2 f d) = ∑ p : Fin (q + 1), gpart m c b f d ⟨p.val, by omega⟩
  | 0, hq, h => by
    rw [outsAt0_A m c ⟨8 * b.val + 0, h⟩ (by dsimp only; omega) (by dsimp only; omega) (by dsimp only; omega), Fin.sum_univ_one]
    dsimp only
    rw [sout_A_0, part_at]
    refine congrArg₂ (fun x y => gpart m c x f d y) (Fin.ext ?_) (Fin.ext ?_)
    · show (8 * b.val + 0) / 8 = b.val; omega
    · show (8 * b.val + 0) % 8 = 0; omega
  | q + 1, hq, h => by
    rw [outsAt0_B m c ⟨8 * b.val + (q + 1), h⟩ (by dsimp only; omega) (by dsimp only; omega) (by dsimp only; omega), Fin.sum_univ_castSucc]
    dsimp only
    rw [sout_B_0]
    dsimp only
    rw [part_at]
    refine congrArg₂ (· + ·) (acc b f d q (by omega) (Nat.lt_of_succ_lt h)) (congrArg₂ (fun x y => gpart m c x f d y) (Fin.ext ?_) (Fin.ext ?_))
    · show (8 * b.val + (q + 1)) / 8 = b.val; omega
    · show (8 * b.val + (q + 1)) % 8 = q + 1; omega

/-- The last point of shard `b` hands out the shard's weight gradient. -/
theorem left2 (b : Fin 4) (u : Fin 1) (f : Fin 1920) (d : Fin 1024) (h : 8 * b.val + 7 < cfg0.N) :
    (outsAt0 m c (8 * b.val + 7) h).1 (ix3 u f d) = grad m c b f d := by
  rw [outsAt0_C m c ⟨8 * b.val + 7, h⟩ (by dsimp only; omega) (by dsimp only; omega) (by dsimp only; omega), grad_eq, Fin.sum_univ_castSucc]
  dsimp only
  rw [out_C_2]
  dsimp only [ix3_1, ix3_2]
  rw [part_at]
  refine congrArg₂ (· + ·) ?_ (congrArg₂ (fun x y => gpart m c x f d y) (Fin.ext ?_) (Fin.ext ?_))
  · exact acc m c b f d 6 (by omega) (Nat.lt_of_succ_lt h)
  · show (8 * b.val + 7) / 8 = b.val; omega
  · show (8 * b.val + 7) % 8 = 7; omega

/-! ## The array -/

/-- Point `t`'s block of the result, entry by entry. -/
theorem block2 (G : Vec Ideal S4x7680x1024 .bf16) (t : Fin cfg0.N) (u : Fin 1) (f : Fin 1920) (d : Fin 1024) :
    ((cfg0.win 2).blk t).view.read (Elt Ideal) (show Buf (Elt Ideal) ((cfg0.win 2).arr.view.loc (c.tc : Thread nD τ)) from G) (ix3 u f d)
      = G (ix3 (shard t) (⟨0 + f.val, by have := f.isLt; omega⟩ : Fin 7680) d) := by
  rw [View.read_apply]
  show G _ = G _
  refine congrArg G ?_
  funext a
  apply Fin.ext
  match a with
  | ⟨0, _⟩ => show win0_2.index t 0 * 1 + 1 * u.val = t.val / 8; rw [(index2 t).1]; have := u.isLt; omega
  | ⟨1, _⟩ => show win0_2.index t 1 * 1920 + 1 * f.val = 0 + f.val; rw [(index2 t).2.1]; have := u.isLt; omega
  | ⟨2, _⟩ => show win0_2.index t 2 * 1024 + 1 * d.val = d.val; rw [(index2 t).2.2]; have := u.isLt; omega

theorem mem2 (t : Fin cfg0.N) (i : S4x7680x1024.Idx) (h0 : (i 0).val = t.val / 8) (h1 : 0 ≤ (i 1).val ∧ (i 1).val < 1920) :
    i ∈ ((cfg0.win 2).blk t).view.set := by
  show i ∈ ((View.whole main_v0).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [(index2 t).1]
    omega
  | ⟨1, _⟩ =>
    show win0_2.index t 1 * 1920 ≤ (i 1 : Nat) ∧ (i 1 : Nat) < win0_2.index t 1 * 1920 + 1920
    rw [(index2 t).2.1]
    exact h1
  | ⟨2, _⟩ =>
    show win0_2.index t 2 * 1024 ≤ (i 2 : Nat) ∧ (i 2 : Nat) < win0_2.index t 2 * 1024 + 1024
    rw [(index2 t).2.2]
    rw [Nat.zero_mul, Nat.zero_add]
    exact ⟨Nat.zero_le _, (i 2).isLt⟩

theorem entry : V m c main_v0 = aBuf m c := by
  show StableHlo.after hostOps0 _ (Proc.devRef .tc main_v0) = _
  after_results_simp <;> rfl

theorem final2 : (Gen.dats m 0 c).arrAt 2 cfg0.N = outArr m c := by
  funext (i : S4x7680x1024.Idx)
  refine ((dats m 0 c).arrAt_eq_piecewise 2 (outArr m c) (fun t ht => ?_) i).trans ?_
  · have hN := points
    have h3 := (flush0_2 t).1 ht
    have hlt : t.val < 32 := lt_of_lt_of_eq t.isLt points
    obtain ⟨b, hb⟩ : ∃ b : Fin 4, t.val = 8 * b.val + 7 := ⟨⟨t.val / 8, by omega⟩, by dsimp only; omega⟩
    obtain rfl : t = ⟨8 * b.val + 7, last_lt b⟩ := Fin.ext hb
    show (cfg0.win 2).cut (grid0.coords _) ((dats m 0 c).after 2 _) = _
    rw [after0_2]
    funext j
    obtain ⟨u, f, d, rfl⟩ : ∃ (u : Fin 1) (f : Fin 1920) (d : Fin 1024), j = ix3 u f d := ⟨j 0, j 1, j 2, eq_ix3 j⟩
    refine Eq.trans ?_ (block2 c (outArr m c) _ u f d).symm
    refine (left2 m c b u f d _).trans ?_
    have hr : 0 ≤ 0 + f.val ∧ 0 + f.val < 1920 := by have := f.isLt; omega
    refine Eq.symm ((dif_pos hr).trans (congrArg₂ (fun x y => grad m c x y d) (Fin.ext ?_) (Fin.ext ?_)))
    · show (8 * b.val + 7) / 8 = b.val; omega
    · show 0 + f.val - 0 = f.val; omega
  · split
    · rfl
    · rename_i hno
      rw [A_eq]
      refine (congrFun (entry m c) i).trans (Eq.symm (dif_neg fun h1 => hno ?_))
      have hN := points
      have hi : (i 0).val < 4 := (i 0).isLt
      exact ⟨⟨8 * (i 0).val + 7, lt_of_lt_of_eq (b := 32) (by omega) points.symm⟩, (flush0_2 _).2 (by dsimp only; omega), mem2 _ i (by dsimp only; omega) h1⟩

end Cert.DwIn
-- ==== Proof.DwIn.Ref.lean ====
/-
  WHAT THE REFERENCE OF THE INPUT PROJECTION’S WEIGHT GRADIENT COMPUTES, ENTRY BY ENTRY.
-/
module

public import proofs.«01_k».proof.Proof.DwIn.Array
public import proofs.«01_k».proof.Proof.Gen.Reference5Ideal.Run

@[expose] public section

set_option maxRecDepth 16384

noncomputable section

namespace Cert.DwIn.Ref

open Cert.Reference5Ideal Cert.Reference5Ideal.Gen Idealize.ShloMosaic Idealize.ShloMosaic.TcCoe Idealize.SL.Sem
open Cert.DwIn

variable (x : FVec Ideal S16384x7680 .bf16) (h : FVec Ideal S16384x1024 .bf16) (buf : FVec Ideal S4x7680x1024 .bf16)

/-- The weight gradient, cut in the four shards' rows. -/
def rowsV : FVec Ideal S4x1920x1024 .bf16 :=
  truncf .bf16 (shapeCast S4x1920x1024 (transpose S7680x1024 [1, 0] (transpose S1024x7680 [1, 0]
    (Host.dotGeneral dot_S16384x7680_S16384x1024_S7680x1024_0_0_1_1_n_n none (extf .f32 x bitsLt_bf16_f32) (extf .f32 h bitsLt_bf16_f32))
    transposes_S7680x1024_S1024x7680_1_0) transposes_S1024x7680_S7680x1024_1_0) shapeCasts_S7680x1024_S4x1920x1024) bitsLt_bf16_f32

/-- The packed array with those rows in it. -/
def outV : FVec Ideal S4x7680x1024 .bf16 :=
  concatenate S4x7680x1024 1 [⟨S4x1920x1024, rowsV x h⟩,
    ⟨S4x5760x1024, extractStridedSlice S4x5760x1024 ![0, 1920, 0] buf slices_S4x7680x1024_S4x5760x1024_0_1920_0⟩]
    concatenates_S4x1920x1024_S4x5760x1024_S4x7680x1024_d1

theorem rowsV_apply (b : Fin 4) (f : Fin 1920) (d : Fin 1024) :
    rowsV x h (ix3 b f d) = ∑ R : Fin 16384, x (ix2 R (col b f)) * h (ix2 R d) := by
  pointwise [rowsV]
  rfl

theorem outV_apply (b : Fin 4) (q : Fin 7680) (d : Fin 1024) :
    outV x h buf (ix3 b q d) = if hq : 0 ≤ q.val ∧ q.val < 1920 then rowsV x h (ix3 b ⟨q.val - 0, by omega⟩ d) else buf (ix3 b q d) := by
  unfold outV
  pointwise
  by_cases h1 : q.val < 1920
  · rw [dif_pos h1, dif_pos h1]
  · rw [dif_neg h1, dif_neg h1]
    exact congrArg (fun q => buf (ix3 b q d)) (Fin.ext (by dsimp only; omega))

end Cert.DwIn.Ref
-- ==== Proof.DwIn.Equal.lean ====
/-
  THE EQUATION: the input projection’s weight gradient and its reference leave the same packed array.
-/
module

public import proofs.«01_k».proof.Proof.DwIn.Ref
public import proofs.«01_k».proof.Proof.Gen.Kernel5Ideal.Value
public import proofs.«01_k».proof.Defs

@[expose] public section

set_option maxRecDepth 16384

noncomputable section

namespace Cert.DwIn

open Cert.Kernel5Ideal Cert.Kernel5Ideal.Gen Idealize.ShloMosaic Idealize.ShloMosaic.TcCoe Idealize.SL.Sem

section
variable (m : (ℓ : Loc nD τ sig) → Buf (Elt Ideal) ℓ) (c : Dev nD)

theorem out_eq : Ref.outV (aX m c) (aH m c) (aBuf m c) = outArr m c := by
  funext j
  obtain ⟨b, q, d, rfl⟩ : ∃ (b : Fin 4) (q : Fin 7680) (d : Fin 1024), j = ix3 b q d := ⟨j 0, j 1, j 2, eq_ix3 j⟩
  rw [Ref.outV_apply]
  simp only [Ref.rowsV_apply]
  rfl

end

theorem algebraic : Cert.algebraic_Kernel5Ideal_Reference5Ideal (hKernel5Ideal := Cert.Kernel5Ideal.Gen.facts) (hReference5Ideal := Cert.Reference5Ideal.Gen.facts) := by
  intro m g m' g' _ h
  refine ⟨fun c => outArr m c, ?_, ?_⟩
  · refine (θ_run _ _ _).mono (fun r hr c => ?_) (Value.run_blocks m g)
    have e := hr c
    exact ⟨(e.1).trans (final2 m c), e.2.1, e.2.2.1, e.2.2.2⟩
  · refine (θ_run _ _ _).mono (fun r hr c => ?_) (Cert.Reference5Ideal.Value.run m' g')
    have e := hr c
    obtain ⟨a0, a1, a2⟩ := h c
    have h0 : Ref.outV (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = outArr m c := by
      rw [a0, a1, a2]
      exact out_eq m c
    exact ⟨(e.1).trans h0, e.2.1, e.2.2.1, e.2.2.2⟩

end Cert.DwIn
-- ==== Proof.Silu.lean ====
/-
  THE GATE'S SIGMOID AND THE DERIVATIVE OF ITS SILU, over the extended reals.

  The kernels compute the sigmoid as `½ · tanh(½ x) + ½`, the reference as `1 / (1 + e^(−x))`: one function, infinities
  included (`sig_eq`). Its values are reals between zero and one, so that multiplying by it distributes over sums, which
  turns the derivative `σ · (1 + x · (1 − σ))` of the kernels into that of differentiation (`dsilu_eq`).
-/
module

public import Idealize.ShloMosaic.Lib.Pointwise

@[expose] public section

noncomputable section

namespace Cert.Silu

open Idealize.ShloMosaic

/-- One half, as the programs' constant. -/
abbrev half : EReal := Ideal.ofBits .f32 0x3F000000#32

theorem half_eq : half = ((1 / 2 : ℝ) : EReal) := by
  simp [Ideal.ofBits, Ideal.ieee]; rw [← EReal.coe_mul]; norm_num

/-- The sigmoid as the kernels compute it. -/
def sig (x : EReal) : EReal := half * Ideal.tanh (half * x) + half
/-- The silu. -/
def silu (x : EReal) : EReal := x * sig x
/-- The silu's derivative as the kernels compute it. -/
def dsilu (x : EReal) : EReal := sig x * (1 + x * (1 - sig x))

/-- The sigmoid of a real. -/
theorem sig_coe (r : ℝ) : sig (r : EReal) = (((1 + Real.exp (-r))⁻¹ : ℝ) : EReal) := by
  unfold sig
  rw [half_eq, ← EReal.coe_mul]
  show ((1 / 2 : ℝ) : EReal) * ((Real.tanh (1 / 2 * r) : ℝ) : EReal) + ((1 / 2 : ℝ) : EReal) = _
  rw [← EReal.coe_mul, ← EReal.coe_add, EReal.coe_eq_coe_iff, Real.tanh_eq_sinh_div_cosh, Real.sinh_eq, Real.cosh_eq]
  have hp := Real.exp_pos (1 / 2 * r)
  have hn := Real.exp_pos (-(1 / 2 * r))
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [h]
  generalize Real.exp (1 / 2 * r) = p at *
  generalize Real.exp (-(1 / 2 * r)) = q at *
  have hs : p + q ≠ 0 := by positivity
  have ht : 1 + q * q ≠ 0 := by positivity
  field_simp
  nlinarith [h1]

/-- The two forms of the sigmoid are one function. -/
theorem sig_eq (x : EReal) : sig x = Ideal.div 1 (1 + Ideal.exp (-x)) := by
  show sig x = Ideal.logistic x
  induction x with
  | bot =>
    rw [Ideal.logistic_bot]
    unfold sig
    rw [half_eq, EReal.coe_mul_bot_of_pos (by norm_num)]
    show ((1 / 2 : ℝ) : EReal) * ((-1 : ℝ) : EReal) + ((1 / 2 : ℝ) : EReal) = ((0 : ℝ) : EReal)
    rw [← EReal.coe_mul, ← EReal.coe_add]
    norm_num
  | top =>
    rw [Ideal.logistic_top]
    unfold sig
    rw [half_eq, EReal.coe_mul_top_of_pos (by norm_num)]
    show ((1 / 2 : ℝ) : EReal) * ((1 : ℝ) : EReal) + ((1 / 2 : ℝ) : EReal) = ((1 : ℝ) : EReal)
    rw [← EReal.coe_mul, ← EReal.coe_add]
    norm_num
  | coe r => rw [sig_coe, Ideal.logistic_coe]

/-- The sigmoid's values are nonnegative reals. -/
theorem sig_real (x : EReal) : ∃ r : ℝ, 0 ≤ r ∧ sig x = (r : EReal) := by
  induction x with
  | bot => exact ⟨0, le_refl _, by rw [sig_eq]; exact Ideal.logistic_bot⟩
  | top => exact ⟨1, zero_le_one, by rw [sig_eq]; exact Ideal.logistic_top⟩
  | coe r => exact ⟨_, by positivity, sig_coe r⟩

/-- The kernels' derivative is the one that differentiating `x · σ(x)` gives. -/
theorem dsilu_eq (x : EReal) : dsilu x = 1 * sig x + x * 1 * (sig x * (1 - sig x)) := by
  unfold dsilu
  rw [one_mul, mul_one]
  obtain ⟨r, hr, h⟩ := sig_real x
  rw [h, EReal.left_distrib_of_nonneg_of_ne_top (by exact_mod_cast hr) (EReal.coe_ne_top r), mul_one, mul_left_comm]

end Cert.Silu
-- ==== Proof.FfnFwd.Block.lean ====
/-
  WHAT ONE GRID POINT OF THE FEED-FORWARD'S FORWARD PASS COMPUTES, from its blocks.

  The point holds 512 rows of the stream `x`, the two norms' scales, and the three weights cut in four groups of 704 hidden
  columns. It norms the rows to `h`, and group by group makes the gate `h · w_gate` and the factor `h · w_up`, leaves

    · `a`, the gate's silu times the factor,
    · `d1`, the factor times the silu's derivative, and `d2`, the silu (what the backward pass multiplies by),

  and adds `a · w_down` up over the groups to `f`. It leaves `f`, and `x` plus half of the normed `f`.
-/
module

public import proofs.«01_k».proof.Proof.RmsRow
public import proofs.«01_k».proof.Proof.Silu
public import proofs.«01_k».proof.Proof.Gen.Kernel6Ideal.Value
public import Idealize.ShloMosaic.Lib.Tactic

@[expose] public section

set_option maxRecDepth 16384

noncomputable section

namespace Cert.FfnFwd

open Cert.Kernel6Ideal Cert.Kernel6Ideal.Gen Idealize.ShloMosaic Idealize.ShloMosaic.TcCoe Idealize.SL.Sem
open Cert.Rms Cert.Silu

theorem hz2 : (![0, 0] : Fin 2 → Nat) = fun _ => 0 := funext fun a => by fin_cases a <;> rfl

section
variable (x0 : Vec Ideal S512x1024 .f32) (x1 : Vec Ideal S1x1024 .f32) (x2 x3 x4 : Vec Ideal S4x704x1024 .bf16) (x5 : Vec Ideal S1x1024 .f32)

/-- The normed row `r` at column `k`. -/
def hRow (r : Fin 512) (k : Fin 1024) : EReal := x0 (ix2 r k) * rs (fun l => x0 (ix2 r l)) * x1 (ix2 0 k)

/-- The normed row `r` times a weight, at column `f` of group `s`. -/
def pre (w : Vec Ideal S4x704x1024 .bf16) (s : Fin 4) (r : Fin 512) (f : Fin 704) : EReal :=
  ∑ k : Fin 1024, hRow x0 x1 r k * w (ix3 s f k)

/-- The gate's silu times the factor. -/
def act (s : Fin 4) (r : Fin 512) (f : Fin 704) : EReal := silu (pre x0 x1 x2 s r f) * pre x0 x1 x3 s r f

/-- The output before its norm. -/
def fRow (r : Fin 512) (k : Fin 1024) : EReal := ∑ s : Fin 4, ∑ f : Fin 704, act x0 x1 x2 x3 s r f * x4 (ix3 s f k)

def aBlk : Vec Ideal S4x512x704 .bf16 := fun j => act x0 x1 x2 x3 (j 0) (j 1) (j 2)
def d1Blk : Vec Ideal S4x512x704 .bf16 := fun j => pre x0 x1 x3 (j 0) (j 1) (j 2) * dsilu (pre x0 x1 x2 (j 0) (j 1) (j 2))
def d2Blk : Vec Ideal S4x512x704 .bf16 := fun j => silu (pre x0 x1 x2 (j 0) (j 1) (j 2))
def fBlk : Vec Ideal S512x1024 .bf16 := fun j => fRow x0 x1 x2 x3 x4 (j 0) (j 1)
def outBlk : Vec Ideal S512x1024 .f32 := fun j =>
  x0 j + half * (fRow x0 x1 x2 x3 x4 (j 0) (j 1) * rs (fun l => fRow x0 x1 x2 x3 x4 (j 0) l) * x5 (ix2 0 (j 1)))
end

/-! ## The payloads, entry by entry -/

theorem h_eq (x0 : Vec Ideal S512x1024 .f32) (x1 : Vec Ideal S1x1024 .f32) (r : Fin 512) (k : Fin 1024) :
    k0_pay2 x0 x1 (ix2 r k) = hRow x0 x1 r k := by
  pointwise [k0_pay2, hRow, rs, den]

/-- Where the block of column group `n` lies among the four. -/
theorem emb_eq (n : ℕ) (hn : n < 4) (inb : ∀ a, (![n, 0, 0] : Fin 3 → Nat) a + S1x512x704.size a ≤ S4x512x704.size a)
    (u : Fin 1) (r : Fin 512) (f : Fin 704) :
    (Rect.unit (s := S4x512x704) ![n, 0, 0] S1x512x704.size inb).emb (ix3 u r f) = ix3 (⟨n, hn⟩ : Fin 4) r f := by
  funext a
  apply Fin.ext
  match a with
  | ⟨0, _⟩ => show n + 1 * u.val = n; omega
  | ⟨1, _⟩ => show 0 + 1 * r.val = r.val; omega
  | ⟨2, _⟩ => show 0 + 1 * f.val = f.val; omega

/-- The loaded group `n` of a weight. -/
theorem ld_w (w : Vec Ideal S4x704x1024 .bf16) (n : ℕ) (hn : n < 4)
    (inb : ∀ a, (![n, 0, 0] : Fin 3 → Nat) a + S1x704x1024.size a ≤ S4x704x1024.size a) (u : Fin 1) (f : Fin 704) (k : Fin 1024) :
    View.ld w (Rect.unit (s := S4x704x1024) ![n, 0, 0] S1x704x1024.size inb) (ix3 u f k) = w (ix3 (⟨n, hn⟩ : Fin 4) f k) := by
  show w ((Rect.unit (s := S4x704x1024) ![n, 0, 0] S1x704x1024.size inb).emb (ix3 u f k)) = _
  congr 1
  funext a
  apply Fin.ext
  match a with
  | ⟨0, _⟩ => show n + 1 * u.val = n; omega
  | ⟨1, _⟩ => show 0 + 1 * f.val = f.val; omega
  | ⟨2, _⟩ => show 0 + 1 * k.val = k.val; omega

section
variable (x0 : Vec Ideal S512x1024 .f32) (x1 : Vec Ideal S1x1024 .f32) (h : Vec Ideal S512x1024 .bf16) (w : Vec Ideal S1x704x1024 .bf16)
  (r : Fin 512) (f : Fin 704)

theorem pay4_eq : k0_pay4 x0 x1 w (ix2 r f) = ∑ k : Fin 1024, hRow x0 x1 r k * w (ix3 0 f k) := by
  pointwise [k0_pay4]
  simp only [h_eq]

theorem pay5_eq : k0_pay5 x0 x1 w (ix2 r f) = ∑ k : Fin 1024, hRow x0 x1 r k * w (ix3 0 f k) := by
  pointwise [k0_pay5]
  simp only [h_eq]

theorem pay13_eq : k0_pay13 h w (ix2 r f) = ∑ k : Fin 1024, h (ix2 r k) * w (ix3 0 f k) := by
  pointwise [k0_pay13]

theorem pay14_eq : k0_pay14 h w (ix2 r f) = ∑ k : Fin 1024, h (ix2 r k) * w (ix3 0 f k) := by
  pointwise [k0_pay14]

theorem pay22_eq : k0_pay22 h w (ix2 r f) = ∑ k : Fin 1024, h (ix2 r k) * w (ix3 0 f k) := by
  pointwise [k0_pay22]

theorem pay23_eq : k0_pay23 h w (ix2 r f) = ∑ k : Fin 1024, h (ix2 r k) * w (ix3 0 f k) := by
  pointwise [k0_pay23]

theorem pay32_eq : k0_pay32 h w (ix2 r f) = ∑ k : Fin 1024, h (ix2 r k) * w (ix3 0 f k) := by
  pointwise [k0_pay32]

theorem pay33_eq : k0_pay33 h w (ix2 r f) = ∑ k : Fin 1024, h (ix2 r k) * w (ix3 0 f k) := by
  pointwise [k0_pay33]

end

variable (x0 : Vec Ideal S512x1024 .f32) (x1 : Vec Ideal S1x1024 .f32) (x2 x3 x4 : Vec Ideal S4x704x1024 .bf16) (x5 : Vec Ideal S1x1024 .f32)

/-- The product at group `n`, from the loaded group. -/
theorem pre_eq (w : Vec Ideal S4x704x1024 .bf16) (n : ℕ) (hn : n < 4)
    (inb : ∀ a, (![n, 0, 0] : Fin 3 → Nat) a + S1x704x1024.size a ≤ S4x704x1024.size a) (r : Fin 512) (f : Fin 704) :
    ∑ k : Fin 1024, hRow x0 x1 r k * View.ld w (Rect.unit (s := S4x704x1024) ![n, 0, 0] S1x704x1024.size inb) (ix3 0 f k)
      = pre x0 x1 w ⟨n, hn⟩ r f := by
  simp only [ld_w w n hn inb, pre]

/-- The activations. -/
theorem out_7 : out0_7 x0 x1 x2 x3 x4 x5 = aBlk x0 x1 x2 x3 := by
  unfold out0_7
  funext y
  refine View.canon_apply_of_pieces (aBlk x0 x1 x2 x3) _ ?_ y (cover0_7 _ _ _ _ y)
  simp only [List.forall_mem_cons]
  refine ⟨?_, ?_, ?_, ?_, fun _ h => absurd h List.not_mem_nil⟩
  all_goals
    intro j
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay6, k0_pay7, k0_pay8, k0_pay9, k0_pay10, k0_pay11, k0_pay12, k0_pay15, k0_pay16, k0_pay17, k0_pay18, k0_pay19, k0_pay20, k0_pay21, k0_pay24, k0_pay25, k0_pay26, k0_pay27, k0_pay28, k0_pay29, k0_pay30, k0_pay31, k0_pay34, k0_pay35, k0_pay36, k0_pay37, k0_pay38, k0_pay39, k0_pay40, k0_pay41, k0_pay42, k0_pay43, k0_pay44, k0_pay45, k0_pay46, k0_pay47, k0_pay48, k0_pay49]
    simp only [pay4_eq, pay5_eq, pay13_eq, pay14_eq, pay22_eq, pay23_eq, pay32_eq, pay33_eq, View.ld_unit_zero (S := S512x1024) hz2, View.ld_unit_zero (S := S1x1024) hz2, h_eq, pre_eq x0 x1 x2 0 (by omega), pre_eq x0 x1 x2 1 (by omega), pre_eq x0 x1 x2 2 (by omega), pre_eq x0 x1 x2 3 (by omega), pre_eq x0 x1 x3 0 (by omega), pre_eq x0 x1 x3 1 (by omega), pre_eq x0 x1 x3 2 (by omega), pre_eq x0 x1 x3 3 (by omega)]
    rfl

/-- The first factor of the backward pass. -/
theorem out_8 : out0_8 x0 x1 x2 x3 x4 x5 = d1Blk x0 x1 x2 x3 := by
  unfold out0_8
  funext y
  refine View.canon_apply_of_pieces (d1Blk x0 x1 x2 x3) _ ?_ y (cover0_8 _ _ _ _ y)
  simp only [List.forall_mem_cons]
  refine ⟨?_, ?_, ?_, ?_, fun _ h => absurd h List.not_mem_nil⟩
  all_goals
    intro j
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay6, k0_pay7, k0_pay8, k0_pay9, k0_pay10, k0_pay11, k0_pay12, k0_pay15, k0_pay16, k0_pay17, k0_pay18, k0_pay19, k0_pay20, k0_pay21, k0_pay24, k0_pay25, k0_pay26, k0_pay27, k0_pay28, k0_pay29, k0_pay30, k0_pay31, k0_pay34, k0_pay35, k0_pay36, k0_pay37, k0_pay38, k0_pay39, k0_pay40, k0_pay41, k0_pay42, k0_pay43, k0_pay44, k0_pay45, k0_pay46, k0_pay47, k0_pay48, k0_pay49]
    simp only [pay4_eq, pay5_eq, pay13_eq, pay14_eq, pay22_eq, pay23_eq, pay32_eq, pay33_eq, View.ld_unit_zero (S := S512x1024) hz2, View.ld_unit_zero (S := S1x1024) hz2, h_eq, pre_eq x0 x1 x2 0 (by omega), pre_eq x0 x1 x2 1 (by omega), pre_eq x0 x1 x2 2 (by omega), pre_eq x0 x1 x2 3 (by omega), pre_eq x0 x1 x3 0 (by omega), pre_eq x0 x1 x3 1 (by omega), pre_eq x0 x1 x3 2 (by omega), pre_eq x0 x1 x3 3 (by omega)]
    rfl

/-- The second factor of the backward pass. -/
theorem out_9 : out0_9 x0 x1 x2 x3 x4 x5 = d2Blk x0 x1 x2 := by
  unfold out0_9
  funext y
  refine View.canon_apply_of_pieces (d2Blk x0 x1 x2) _ ?_ y (cover0_9 _ _ _ _ y)
  simp only [List.forall_mem_cons]
  refine ⟨?_, ?_, ?_, ?_, fun _ h => absurd h List.not_mem_nil⟩
  all_goals
    intro j
    obtain ⟨u, r, f, rfl⟩ : ∃ (u : Fin 1) (r : Fin 512) (f : Fin 704), j = ix3 u r f := ⟨j 0, j 1, j 2, eq_ix3 j⟩
    first
    | rw [emb_eq 3 (by omega)]
    | rw [emb_eq 2 (by omega)]
    | rw [emb_eq 1 (by omega)]
    | rw [emb_eq 0 (by omega)]
    pointwise [k0_pay6, k0_pay7, k0_pay8, k0_pay9, k0_pay10, k0_pay11, k0_pay12, k0_pay15, k0_pay16, k0_pay17, k0_pay18, k0_pay19, k0_pay20, k0_pay21, k0_pay24, k0_pay25, k0_pay26, k0_pay27, k0_pay28, k0_pay29, k0_pay30, k0_pay31, k0_pay34, k0_pay35, k0_pay36, k0_pay37, k0_pay38, k0_pay39, k0_pay40, k0_pay41, k0_pay42, k0_pay43, k0_pay44, k0_pay45, k0_pay46, k0_pay47, k0_pay48, k0_pay49]
    simp only [pay4_eq, pay5_eq, pay13_eq, pay14_eq, pay22_eq, pay23_eq, pay32_eq, pay33_eq, View.ld_unit_zero (S := S512x1024) hz2, View.ld_unit_zero (S := S1x1024) hz2, h_eq, pre_eq x0 x1 x2 0 (by omega), pre_eq x0 x1 x2 1 (by omega), pre_eq x0 x1 x2 2 (by omega), pre_eq x0 x1 x2 3 (by omega), pre_eq x0 x1 x3 0 (by omega), pre_eq x0 x1 x3 1 (by omega), pre_eq x0 x1 x3 2 (by omega), pre_eq x0 x1 x3 3 (by omega)]
    rfl

/-- The output before its norm, as the body adds it up. -/
theorem f_eq (r : Fin 512) (k : Fin 1024) :
    k0_pay40 (k0_pay47 x0 x1 x2 x3 x4 x5) (k0_pay48 x0 x1 x2 x3 x4 x5) (k0_pay49 x0 x1 x2 x3 x4 x5) (View.ld x4 r0_8) (ix2 r k)
      = fRow x0 x1 x2 x3 x4 r k := by
  pointwise [k0_pay3, k0_pay6, k0_pay7, k0_pay8, k0_pay9, k0_pay10, k0_pay11, k0_pay12, k0_pay15, k0_pay16, k0_pay17, k0_pay18, k0_pay19, k0_pay20, k0_pay21, k0_pay24, k0_pay25, k0_pay26, k0_pay27, k0_pay28, k0_pay29, k0_pay30, k0_pay31, k0_pay34, k0_pay35, k0_pay36, k0_pay37, k0_pay38, k0_pay39, k0_pay40, k0_pay41, k0_pay42, k0_pay43, k0_pay44, k0_pay45, k0_pay46, k0_pay47, k0_pay48, k0_pay49]
  simp only [pay4_eq, pay5_eq, pay13_eq, pay14_eq, pay22_eq, pay23_eq, pay32_eq, pay33_eq, View.ld_unit_zero (S := S512x1024) hz2, View.ld_unit_zero (S := S1x1024) hz2, h_eq, pre_eq x0 x1 x2 0 (by omega), pre_eq x0 x1 x2 1 (by omega), pre_eq x0 x1 x2 2 (by omega), pre_eq x0 x1 x2 3 (by omega), pre_eq x0 x1 x3 0 (by omega), pre_eq x0 x1 x3 1 (by omega), pre_eq x0 x1 x3 2 (by omega), pre_eq x0 x1 x3 3 (by omega), ld_w x4 0 (by omega), ld_w x4 1 (by omega), ld_w x4 2 (by omega), ld_w x4 3 (by omega)]
  unfold fRow
  rw [Fin.sum_univ_four]
  rfl

/-- The output before its norm. -/
theorem out_10 : out0_10 x0 x1 x2 x3 x4 x5 = fBlk x0 x1 x2 x3 x4 := by
  unfold out0_10
  rw [View.canon_unit_zero hz2]
  funext j
  idx_vars j
  pointwise [k0_pay41]
  rw [f_eq]
  rfl

theorem pay1_eq (v w : FVec Ideal S512x1024 .f32) (g : Vec Ideal S1x1024 .f32) (r : Fin 512) (k : Fin 1024) :
    k0_pay1 v w g (ix2 r k) = v (ix2 r k) + half * (w (ix2 r k) * rs (fun l => w (ix2 r l)) * g (ix2 0 k)) := by
  pointwise [k0_pay1, rs, den]

/-- The result: the stream plus half of the normed output. -/
theorem out_6 : out0_6 x0 x1 x2 x3 x4 x5 = outBlk x0 x1 x2 x3 x4 x5 := by
  unfold out0_6
  rw [View.canon_unit_zero hz2, View.ld_unit_zero (S := S512x1024) hz2, View.ld_unit_zero (S := S1x1024) hz2]
  funext j
  idx_vars j
  rw [pay1_eq]
  simp only [f_eq]
  rfl

end Cert.FfnFwd
-- ==== Proof.FfnFwd.Array.lean ====
/-
  WHAT THE FEED-FORWARD'S FORWARD PASS LEAVES IN ITS RESULT ARRAYS: grid point `t` works on rows `512 t … 512 t + 511`, and
  its five blocks lie there.
-/
module

public import proofs.«01_k».proof.Proof.FfnFwd.Block

@[expose] public section

set_option maxRecDepth 16384

noncomputable section

namespace Cert.FfnFwd

open Cert.Kernel6Ideal Cert.Kernel6Ideal.Gen Idealize.ShloMosaic Idealize.ShloMosaic.TcCoe Idealize.SL.Sem
open Cert.Rms Cert.Silu

variable (m : (ℓ : Loc nD τ sig) → Buf (Elt Ideal) ℓ) (c : Dev nD)

abbrev aX : Vec Ideal S16384x1024 .f32 := m ((c : Thread nD τ).loc main_arg0)
abbrev aG : Vec Ideal S1x1024 .f32 := m ((c : Thread nD τ).loc main_arg1)
abbrev aWg : Vec Ideal S1024x2816 .f32 := m ((c : Thread nD τ).loc main_arg2)
abbrev aWu : Vec Ideal S1024x2816 .f32 := m ((c : Thread nD τ).loc main_arg3)
abbrev aWd : Vec Ideal S2816x1024 .f32 := m ((c : Thread nD τ).loc main_arg4)
abbrev aPg : Vec Ideal S1x1024 .f32 := m ((c : Thread nD τ).loc main_arg5)

theorem points : cfg0.N = 32 := N_0

/-- Row `r` of point `t`'s block, as a row of the array. -/
def row (t : Fin cfg0.N) (r : Fin 512) : Fin 16384 :=
  ⟨t.val * 512 + r.val, by have := t.isLt; have := r.isLt; have := points; omega⟩

/-- Column `f` of column group `s`. -/
def col (s : Fin 4) (f : Fin 704) : Fin 2816 := ⟨s.val * 704 + f.val, by have := s.isLt; have := f.isLt; omega⟩

/-- The normed row `R` at column `k`. -/
def hAt (R : Fin 16384) (k : Fin 1024) : EReal := aX m c (ix2 R k) * rs (fun l => aX m c (ix2 R l)) * aG m c (ix2 0 k)

/-- The normed row `R` times a weight, at its column `f`. -/
def preAt (w : Vec Ideal S1024x2816 .f32) (R : Fin 16384) (f : Fin 2816) : EReal :=
  ∑ k : Fin 1024, hAt m c R k * w (ix2 k f)

/-- The gate's silu times the factor. -/
def actAt (R : Fin 16384) (f : Fin 2816) : EReal := silu (preAt m c (aWg m c) R f) * preAt m c (aWu m c) R f

/-- The output before its norm. -/
def fAt (R : Fin 16384) (k : Fin 1024) : EReal := ∑ f : Fin 2816, actAt m c R f * aWd m c (ix2 f k)

def aArr : Vec Ideal S4x16384x704 .bf16 := fun i => actAt m c (i 1) (col (i 0) (i 2))
def d1Arr : Vec Ideal S4x16384x704 .bf16 := fun i =>
  preAt m c (aWu m c) (i 1) (col (i 0) (i 2)) * dsilu (preAt m c (aWg m c) (i 1) (col (i 0) (i 2)))
def d2Arr : Vec Ideal S4x16384x704 .bf16 := fun i => silu (preAt m c (aWg m c) (i 1) (col (i 0) (i 2)))
def fArr : Vec Ideal S16384x1024 .bf16 := fun i => fAt m c (i 0) (i 1)
def outArr : Vec Ideal S16384x1024 .f32 := fun i =>
  aX m c i + half * (fAt m c (i 0) (i 1) * rs (fun l => fAt m c (i 0) l) * aPg m c (ix2 0 (i 1)))

/-! ## The blocks, read from the arrays -/

theorem index0 : ∀ t : Fin grid0.N, win0_0.index t 0 = t.val ∧ win0_0.index t 1 = 0 := by decide +kernel
theorem index6 : ∀ t : Fin grid0.N, win0_6.index t 0 = t.val ∧ win0_6.index t 1 = 0 := by decide +kernel
theorem index10 : ∀ t : Fin grid0.N, win0_10.index t 0 = t.val ∧ win0_10.index t 1 = 0 := by decide +kernel
theorem index7 : ∀ t : Fin grid0.N, win0_7.index t 0 = 0 ∧ win0_7.index t 1 = t.val ∧ win0_7.index t 2 = 0 := by decide +kernel
theorem index8 : ∀ t : Fin grid0.N, win0_8.index t 0 = 0 ∧ win0_8.index t 1 = t.val ∧ win0_8.index t 2 = 0 := by decide +kernel
theorem index9 : ∀ t : Fin grid0.N, win0_9.index t 0 = 0 ∧ win0_9.index t 1 = t.val ∧ win0_9.index t 2 = 0 := by decide +kernel
theorem index1 : ∀ t : Fin grid0.N, win0_1.index t 0 = 0 ∧ win0_1.index t 1 = 0 := by decide +kernel
theorem index5 : ∀ t : Fin grid0.N, win0_5.index t 0 = 0 ∧ win0_5.index t 1 = 0 := by decide +kernel
theorem index2 : ∀ t : Fin grid0.N, win0_2.index t 0 = 0 ∧ win0_2.index t 1 = 0 ∧ win0_2.index t 2 = 0 := by decide +kernel
theorem index3 : ∀ t : Fin grid0.N, win0_3.index t 0 = 0 ∧ win0_3.index t 1 = 0 ∧ win0_3.index t 2 = 0 := by decide +kernel
theorem index4 : ∀ t : Fin grid0.N, win0_4.index t 0 = 0 ∧ win0_4.index t 1 = 0 ∧ win0_4.index t 2 = 0 := by decide +kernel

theorem iblk0 (t : Fin cfg0.N) (r : Fin 512) (k : Fin 1024) :
    (iblk m c 0 t : Vec Ideal S512x1024 .f32) (ix2 r k) = aX m c (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

theorem iblk1 (t : Fin cfg0.N) (u : Fin 1) (k : Fin 1024) :
    (iblk m c 1 t : Vec Ideal S1x1024 .f32) (ix2 u k) = aG m c (ix2 u k) := by
  unfold iblk
  rw [View.read_apply]
  show V m c main_arg1 _ = _
  rw [V_main_arg1]
  congr 1
  funext a
  apply Fin.ext
  match a with
  | ⟨0, _⟩ => show win0_1.index t 0 * 1 + 1 * u.val = u.val; rw [(index1 t).1]; omega
  | ⟨1, _⟩ => show win0_1.index t 1 * 1024 + 1 * k.val = k.val; rw [(index1 t).2]; omega

theorem iblk5 (t : Fin cfg0.N) (u : Fin 1) (k : Fin 1024) :
    (iblk m c 5 t : Vec Ideal S1x1024 .f32) (ix2 u k) = aPg m c (ix2 u k) := by
  unfold iblk
  rw [View.read_apply]
  show V m c main_arg5 _ = _
  rw [V_main_arg5]
  congr 1
  funext a
  apply Fin.ext
  match a with
  | ⟨0, _⟩ => show win0_5.index t 0 * 1 + 1 * u.val = u.val; rw [(index5 t).1]; omega
  | ⟨1, _⟩ => show win0_5.index t 1 * 1024 + 1 * k.val = k.val; rw [(index5 t).2]; omega

/-- A weight transposed and cut into its four column groups, as the host prepares it. -/
def preparedT (w : FVec Ideal S1024x2816 .f32) : FVec Ideal S4x704x1024 .bf16 :=
  truncf .bf16 (shapeCast S4x704x1024 (transpose S2816x1024 [1, 0] w transposes_S1024x2816_S2816x1024_1_0) shapeCasts_S2816x1024_S4x704x1024) bitsLt_bf16_f32

theorem preparedT_apply (w : FVec Ideal S1024x2816 .f32) (s : Fin 4) (f : Fin 704) (k : Fin 1024) :
    preparedT w (ix3 s f k) = w (ix2 k (col s f)) := by
  pointwise [preparedT, col]

/-- A weight cut into its four row groups, as the host prepares it. -/
def prepared (w : FVec Ideal S2816x1024 .f32) : FVec Ideal S4x704x1024 .bf16 :=
  truncf .bf16 (shapeCast S4x704x1024 w shapeCasts_S2816x1024_S4x704x1024) bitsLt_bf16_f32

theorem prepared_apply (w : FVec Ideal S2816x1024 .f32) (s : Fin 4) (f : Fin 704) (k : Fin 1024) :
    prepared w (ix3 s f k) = w (ix2 (col s f) k) := by
  pointwise [prepared, col]

theorem prep2 : V m c main_v2 = preparedT (aWg m c) := by
  show StableHlo.after hostOps0 _ (Proc.devRef .tc main_v2) = _
  after_results_simp <;> rfl

theorem iblk2 (t : Fin cfg0.N) (s : Fin 4) (f : Fin 704) (k : Fin 1024) :
    (iblk m c 2 t : Vec Ideal S4x704x1024 .bf16) (ix3 s f k) = aWg m c (ix2 k (col s f)) := by
  rw [← preparedT_apply (aWg m c), ← prep2]
  unfold iblk
  rw [View.read_apply]
  show V m c main_v2 _ = _
  congr 1
  funext a
  apply Fin.ext
  match a with
  | ⟨0, _⟩ => show win0_2.index t 0 * 4 + 1 * s.val = s.val; rw [(index2 t).1]; omega
  | ⟨1, _⟩ => show win0_2.index t 1 * 704 + 1 * f.val = f.val; rw [(index2 t).2.1]; omega
  | ⟨2, _⟩ => show win0_2.index t 2 * 1024 + 1 * k.val = k.val; rw [(index2 t).2.2]; omega

theorem prep3 : V m c main_v5 = preparedT (aWu m c) := by
  show StableHlo.after hostOps0 _ (Proc.devRef .tc main_v5) = _
  after_results_simp <;> rfl

theorem iblk3 (t : Fin cfg0.N) (s : Fin 4) (f : Fin 704) (k : Fin 1024) :
    (iblk m c 3 t : Vec Ideal S4x704x1024 .bf16) (ix3 s f k) = aWu m c (ix2 k (col s f)) := by
  rw [← preparedT_apply (aWu m c), ← prep3]
  unfold iblk
  rw [View.read_apply]
  show V m c main_v5 _ = _
  congr 1
  funext a
  apply Fin.ext
  match a with
  | ⟨0, _⟩ => show win0_3.index t 0 * 4 + 1 * s.val = s.val; rw [(index3 t).1]; omega
  | ⟨1, _⟩ => show win0_3.index t 1 * 704 + 1 * f.val = f.val; rw [(index3 t).2.1]; omega
  | ⟨2, _⟩ => show win0_3.index t 2 * 1024 + 1 * k.val = k.val; rw [(index3 t).2.2]; omega

theorem prep4 : V m c main_v7 = prepared (aWd m c) := by
  show StableHlo.after hostOps0 _ (Proc.devRef .tc main_v7) = _
  after_results_simp <;> rfl

theorem iblk4 (t : Fin cfg0.N) (s : Fin 4) (f : Fin 704) (k : Fin 1024) :
    (iblk m c 4 t : Vec Ideal S4x704x1024 .bf16) (ix3 s f k) = aWd m c (ix2 (col s f) k) := by
  rw [← prepared_apply (aWd m c), ← prep4]
  unfold iblk
  rw [View.read_apply]
  show V m c main_v7 _ = _
  congr 1
  funext a
  apply Fin.ext
  match a with
  | ⟨0, _⟩ => show win0_4.index t 0 * 4 + 1 * s.val = s.val; rw [(index4 t).1]; omega
  | ⟨1, _⟩ => show win0_4.index t 1 * 704 + 1 * f.val = f.val; rw [(index4 t).2.1]; omega
  | ⟨2, _⟩ => show win0_4.index t 2 * 1024 + 1 * k.val = k.val; rw [(index4 t).2.2]; omega

theorem h_at (t : Fin cfg0.N) (r : Fin 512) (k : Fin 1024) : hRow (iblk m c 0 t) (iblk m c 1 t) r k = hAt m c (row t r) k := by
  simp only [hRow, hAt, iblk0, iblk1]

theorem gate_at (t : Fin cfg0.N) (s : Fin 4) (r : Fin 512) (f : Fin 704) :
    pre (iblk m c 0 t) (iblk m c 1 t) (iblk m c 2 t) s r f = preAt m c (aWg m c) (row t r) (col s f) := by
  simp only [pre, preAt, h_at, iblk2]

theorem up_at (t : Fin cfg0.N) (s : Fin 4) (r : Fin 512) (f : Fin 704) :
    pre (iblk m c 0 t) (iblk m c 1 t) (iblk m c 3 t) s r f = preAt m c (aWu m c) (row t r) (col s f) := by
  simp only [pre, preAt, h_at, iblk3]

theorem act_at (t : Fin cfg0.N) (s : Fin 4) (r : Fin 512) (f : Fin 704) :
    act (iblk m c 0 t) (iblk m c 1 t) (iblk m c 2 t) (iblk m c 3 t) s r f = actAt m c (row t r) (col s f) := by
  simp only [act, actAt, gate_at, up_at]

/-- The sums over the four groups are one sum over all 2816 columns. -/
theorem f_at (t : Fin cfg0.N) (r : Fin 512) (k : Fin 1024) :
    fRow (iblk m c 0 t) (iblk m c 1 t) (iblk m c 2 t) (iblk m c 3 t) (iblk m c 4 t) r k = fAt m c (row t r) k := by
  simp only [fRow, act_at, iblk4]
  unfold fAt
  rw [Fin.sum_univ_tiles 4 704 rfl]
  rfl

/-! ## The arrays -/

/-- Point `t`'s block of an array of result `6`'s shape, entry by entry. -/
theorem block6 (G : Vec Ideal S16384x1024 .f32) (t : Fin cfg0.N) (r : Fin 512) (k : Fin 1024) :
    ((cfg0.win 6).blk t).view.read (Elt Ideal) (show Buf (Elt Ideal) ((cfg0.win 6).arr.view.loc (c.tc : Thread nD τ)) from G) (ix2 r k) = G (ix2 (row t r) k) := by
  rw [View.read_apply]
  show G _ = G _
  refine congrArg G ?_
  funext a
  apply Fin.ext
  match a with
  | ⟨0, _⟩ => show win0_6.index t 0 * 512 + 1 * r.val = t.val * 512 + r.val; rw [(index6 t).1]; omega
  | ⟨1, _⟩ => show win0_6.index t 1 * 1024 + 1 * k.val = k.val; rw [(index6 t).2]; omega

theorem mem6 (t : Fin cfg0.N) (i : S16384x1024.Idx) (h0 : t.val * 512 ≤ (i 0).val ∧ (i 0).val < t.val * 512 + 512) : i ∈ ((cfg0.win 6).blk t).view.set := by
  show i ∈ ((View.whole main_v8_0).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(index6 t).1]
    exact h0
  | ⟨1, _⟩ =>
    show win0_6.index t 1 * 1024 ≤ (i 1 : Nat) ∧ (i 1 : Nat) < win0_6.index t 1 * 1024 + 1024
    rw [(index6 t).2]
    rw [Nat.zero_mul, Nat.zero_add]
    exact ⟨Nat.zero_le _, (i 1).isLt⟩

/-- Point `t`'s block of an array of result `10`'s shape, entry by entry. -/
theorem block10 (G : Vec Ideal S16384x1024 .bf16) (t : Fin cfg0.N) (r : Fin 512) (k : Fin 1024) :
    ((cfg0.win 10).blk t).view.read (Elt Ideal) (show Buf (Elt Ideal) ((cfg0.win 10).arr.view.loc (c.tc : Thread nD τ)) from G) (ix2 r k) = G (ix2 (row t r) k) := by
  rw [View.read_apply]
  show G _ = G _
  refine congrArg G ?_
  funext a
  apply Fin.ext
  match a with
  | ⟨0, _⟩ => show win0_10.index t 0 * 512 + 1 * r.val = t.val * 512 + r.val; rw [(index10 t).1]; omega
  | ⟨1, _⟩ => show win0_10.index t 1 * 1024 + 1 * k.val = k.val; rw [(index10 t).2]; omega

theorem mem10 (t : Fin cfg0.N) (i : S16384x1024.Idx) (h0 : t.val * 512 ≤ (i 0).val ∧ (i 0).val < t.val * 512 + 512) : i ∈ ((cfg0.win 10).blk t).view.set := by
  show i ∈ ((View.whole main_v8_4).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(index10 t).1]
    exact h0
  | ⟨1, _⟩ =>
    show win0_10.index t 1 * 1024 ≤ (i 1 : Nat) ∧ (i 1 : Nat) < win0_10.index t 1 * 1024 + 1024
    rw [(index10 t).2]
    rw [Nat.zero_mul, Nat.zero_add]
    exact ⟨Nat.zero_le _, (i 1).isLt⟩

/-- Point `t`'s block of an array of result `7`'s shape, entry by entry. -/
theorem block7 (G : Vec Ideal S4x16384x704 .bf16) (t : Fin cfg0.N) (s : Fin 4) (r : Fin 512) (f : Fin 704) :
    ((cfg0.win 7).blk t).view.read (Elt Ideal) (show Buf (Elt Ideal) ((cfg0.win 7).arr.view.loc (c.tc : Thread nD τ)) from G) (ix3 s r f) = G (ix3 s (row t r) f) := by
  rw [View.read_apply]
  show G _ = G _
  refine congrArg G ?_
  funext a
  apply Fin.ext
  match a with
  | ⟨0, _⟩ => show win0_7.index t 0 * 4 + 1 * s.val = s.val; rw [(index7 t).1]; omega
  | ⟨1, _⟩ => show win0_7.index t 1 * 512 + 1 * r.val = t.val * 512 + r.val; rw [(index7 t).2.1]; omega
  | ⟨2, _⟩ => show win0_7.index t 2 * 704 + 1 * f.val = f.val; rw [(index7 t).2.2]; omega

theorem mem7 (t : Fin cfg0.N) (i : S4x16384x704.Idx) (h1 : t.val * 512 ≤ (i 1).val ∧ (i 1).val < t.val * 512 + 512) : i ∈ ((cfg0.win 7).blk t).view.set := by
  show i ∈ ((View.whole main_v8_1).slice (win0_7.rect t)).set
  rw [View.set_slice_whole, Rect.mem_set_unit]
  intro a
  match a with
  | ⟨0, _⟩ =>
    show win0_7.index t 0 * 4 ≤ (i 0 : Nat) ∧ (i 0 : Nat) < win0_7.index t 0 * 4 + 4
    rw [(index7 t).1]
    rw [Nat.zero_mul, Nat.zero_add]
    exact ⟨Nat.zero_le _, (i 0).isLt⟩
  | ⟨1, _⟩ =>
    show win0_7.index t 1 * 512 ≤ (i 1 : Nat) ∧ (i 1 : Nat) < win0_7.index t 1 * 512 + 512
    rw [(index7 t).2.1]
    exact h1
  | ⟨2, _⟩ =>
    show win0_7.index t 2 * 704 ≤ (i 2 : Nat) ∧ (i 2 : Nat) < win0_7.index t 2 * 704 + 704
    rw [(index7 t).2.2]
    rw [Nat.zero_mul, Nat.zero_add]
    exact ⟨Nat.zero_le _, (i 2).isLt⟩

/-- Point `t`'s block of an array of result `8`'s shape, entry by entry. -/
theorem block8 (G : Vec Ideal S4x16384x704 .bf16) (t : Fin cfg0.N) (s : Fin 4) (r : Fin 512) (f : Fin 704) :
    ((cfg0.win 8).blk t).view.read (Elt Ideal) (show Buf (Elt Ideal) ((cfg0.win 8).arr.view.loc (c.tc : Thread nD τ)) from G) (ix3 s r f) = G (ix3 s (row t r) f) := by
  rw [View.read_apply]
  show G _ = G _
  refine congrArg G ?_
  funext a
  apply Fin.ext
  match a with
  | ⟨0, _⟩ => show win0_8.index t 0 * 4 + 1 * s.val = s.val; rw [(index8 t).1]; omega
  | ⟨1, _⟩ => show win0_8.index t 1 * 512 + 1 * r.val = t.val * 512 + r.val; rw [(index8 t).2.1]; omega
  | ⟨2, _⟩ => show win0_8.index t 2 * 704 + 1 * f.val = f.val; rw [(index8 t).2.2]; omega

theorem mem8 (t : Fin cfg0.N) (i : S4x16384x704.Idx) (h1 : t.val * 512 ≤ (i 1).val ∧ (i 1).val < t.val * 512 + 512) : i ∈ ((cfg0.win 8).blk t).view.set := by
  show i ∈ ((View.whole main_v8_2).slice (win0_8.rect t)).set
  rw [View.set_slice_whole, Rect.mem_set_unit]
  intro a
  match a with
  | ⟨0, _⟩ =>
    show win0_8.index t 0 * 4 ≤ (i 0 : Nat) ∧ (i 0 : Nat) < win0_8.index t 0 * 4 + 4
    rw [(index8 t).1]
    rw [Nat.zero_mul, Nat.zero_add]
    exact ⟨Nat.zero_le _, (i 0).isLt⟩
  | ⟨1, _⟩ =>
    show win0_8.index t 1 * 512 ≤ (i 1 : Nat) ∧ (i 1 : Nat) < win0_8.index t 1 * 512 + 512
    rw [(index8 t).2.1]
    exact h1
  | ⟨2, _⟩ =>
    show win0_8.index t 2 * 704 ≤ (i 2 : Nat) ∧ (i 2 : Nat) < win0_8.index t 2 * 704 + 704
    rw [(index8 t).2.2]
    rw [Nat.zero_mul, Nat.zero_add]
    exact ⟨Nat.zero_le _, (i 2).isLt⟩

/-- Point `t`'s block of an array of result `9`'s shape, entry by entry. -/
theorem block9 (G : Vec Ideal S4x16384x704 .bf16) (t : Fin cfg0.N) (s : Fin 4) (r : Fin 512) (f : Fin 704) :
    ((cfg0.win 9).blk t).view.read (Elt Ideal) (show Buf (Elt Ideal) ((cfg0.win 9).arr.view.loc (c.tc : Thread nD τ)) from G) (ix3 s r f) = G (ix3 s (row t r) f) := by
  rw [View.read_apply]
  show G _ = G _
  refine congrArg G ?_
  funext a
  apply Fin.ext
  match a with
  | ⟨0, _⟩ => show win0_9.index t 0 * 4 + 1 * s.val = s.val; rw [(index9 t).1]; omega
  | ⟨1, _⟩ => show win0_9.index t 1 * 512 + 1 * r.val = t.val * 512 + r.val; rw [(index9 t).2.1]; omega
  | ⟨2, _⟩ => show win0_9.index t 2 * 704 + 1 * f.val = f.val; rw [(index9 t).2.2]; omega

theorem mem9 (t : Fin cfg0.N) (i : S4x16384x704.Idx) (h1 : t.val * 512 ≤ (i 1).val ∧ (i 1).val < t.val * 512 + 512) : i ∈ ((cfg0.win 9).blk t).view.set := by
  show i ∈ ((View.whole main_v8_3).slice (win0_9.rect t)).set
  rw [View.set_slice_whole, Rect.mem_set_unit]
  intro a
  match a with
  | ⟨0, _⟩ =>
    show win0_9.index t 0 * 4 ≤ (i 0 : Nat) ∧ (i 0 : Nat) < win0_9.index t 0 * 4 + 4
    rw [(index9 t).1]
    rw [Nat.zero_mul, Nat.zero_add]
    exact ⟨Nat.zero_le _, (i 0).isLt⟩
  | ⟨1, _⟩ =>
    show win0_9.index t 1 * 512 ≤ (i 1 : Nat) ∧ (i 1 : Nat) < win0_9.index t 1 * 512 + 512
    rw [(index9 t).2.1]
    exact h1
  | ⟨2, _⟩ =>
    show win0_9.index t 2 * 704 ≤ (i 2 : Nat) ∧ (i 2 : Nat) < win0_9.index t 2 * 704 + 704
    rw [(index9 t).2.2]
    rw [Nat.zero_mul, Nat.zero_add]
    exact ⟨Nat.zero_le _, (i 2).isLt⟩

theorem final7 : (Gen.dats m 0 c).arrAt 7 cfg0.N = aArr m c :=
  (dats m 0 c).arrAt_eq_of_cover 7 (aArr m c) (fun t _ => by
    show (cfg0.win 7).cut (grid0.coords t) ((dats m 0 c).after 7 t) = _
    rw [after0_7, out_7]
    funext j
    obtain ⟨s, r, f, rfl⟩ : ∃ (s : Fin 4) (r : Fin 512) (f : Fin 704), j = ix3 s r f := ⟨j 0, j 1, j 2, eq_ix3 j⟩
    refine Eq.trans ?_ (block7 c (aArr m c) t s r f).symm
    show aBlk _ _ _ _ (ix3 s r f) = _
    simp only [aBlk, aArr, act_at, ix3_0, ix3_1, ix3_2]) fun (i : S4x16384x704.Idx) => by
    have hN := points
    have h : (i 1).val < 16384 := (i 1).isLt
    exact ⟨⟨(i 1).val / 512, by show (i 1).val / 512 < cfg0.N; omega⟩, flush0_7 _, mem7 _ i (by dsimp only; omega)⟩

theorem final8 : (Gen.dats m 0 c).arrAt 8 cfg0.N = d1Arr m c :=
  (dats m 0 c).arrAt_eq_of_cover 8 (d1Arr m c) (fun t _ => by
    show (cfg0.win 8).cut (grid0.coords t) ((dats m 0 c).after 8 t) = _
    rw [after0_8, out_8]
    funext j
    obtain ⟨s, r, f, rfl⟩ : ∃ (s : Fin 4) (r : Fin 512) (f : Fin 704), j = ix3 s r f := ⟨j 0, j 1, j 2, eq_ix3 j⟩
    refine Eq.trans ?_ (block8 c (d1Arr m c) t s r f).symm
    show d1Blk _ _ _ _ (ix3 s r f) = _
    simp only [d1Blk, d1Arr, gate_at, up_at, ix3_0, ix3_1, ix3_2]) fun (i : S4x16384x704.Idx) => by
    have hN := points
    have h : (i 1).val < 16384 := (i 1).isLt
    exact ⟨⟨(i 1).val / 512, by show (i 1).val / 512 < cfg0.N; omega⟩, flush0_8 _, mem8 _ i (by dsimp only; omega)⟩

theorem final9 : (Gen.dats m 0 c).arrAt 9 cfg0.N = d2Arr m c :=
  (dats m 0 c).arrAt_eq_of_cover 9 (d2Arr m c) (fun t _ => by
    show (cfg0.win 9).cut (grid0.coords t) ((dats m 0 c).after 9 t) = _
    rw [after0_9, out_9]
    funext j
    obtain ⟨s, r, f, rfl⟩ : ∃ (s : Fin 4) (r : Fin 512) (f : Fin 704), j = ix3 s r f := ⟨j 0, j 1, j 2, eq_ix3 j⟩
    refine Eq.trans ?_ (block9 c (d2Arr m c) t s r f).symm
    show d2Blk _ _ _ (ix3 s r f) = _
    simp only [d2Blk, d2Arr, gate_at, ix3_0, ix3_1, ix3_2]) fun (i : S4x16384x704.Idx) => by
    have hN := points
    have h : (i 1).val < 16384 := (i 1).isLt
    exact ⟨⟨(i 1).val / 512, by show (i 1).val / 512 < cfg0.N; omega⟩, flush0_9 _, mem9 _ i (by dsimp only; omega)⟩

theorem final6 : (Gen.dats m 0 c).arrAt 6 cfg0.N = outArr m c :=
  (dats m 0 c).arrAt_eq_of_cover 6 (outArr m c) (fun t _ => by
    show (cfg0.win 6).cut (grid0.coords t) ((dats m 0 c).after 6 t) = _
    rw [after0_6, out_6]
    funext j
    obtain ⟨r, k, rfl⟩ : ∃ (r : Fin 512) (k : Fin 1024), j = ix2 r k := ⟨j 0, j 1, eq_ix2 j⟩
    refine Eq.trans ?_ (block6 c (outArr m c) t r k).symm
    show outBlk _ _ _ _ _ _ (ix2 r k) = _
    simp only [outBlk, outArr, f_at, iblk0, iblk5, ix2_0, ix2_1]) fun (i : S16384x1024.Idx) => by
    have hN := points
    have h : (i 0).val < 16384 := (i 0).isLt
    exact ⟨⟨(i 0).val / 512, by show (i 0).val / 512 < cfg0.N; omega⟩, flush0_6 _, mem6 _ i (by dsimp only; omega)⟩

theorem final10 : (Gen.dats m 0 c).arrAt 10 cfg0.N = fArr m c :=
  (dats m 0 c).arrAt_eq_of_cover 10 (fArr m c) (fun t _ => by
    show (cfg0.win 10).cut (grid0.coords t) ((dats m 0 c).after 10 t) = _
    rw [after0_10, out_10]
    funext j
    obtain ⟨r, k, rfl⟩ : ∃ (r : Fin 512) (k : Fin 1024), j = ix2 r k := ⟨j 0, j 1, eq_ix2 j⟩
    refine Eq.trans ?_ (block10 c (fArr m c) t r k).symm
    show fBlk _ _ _ _ _ (ix2 r k) = _
    simp only [fBlk, fArr, f_at, ix2_0, ix2_1]) fun (i : S16384x1024.Idx) => by
    have hN := points
    have h : (i 0).val < 16384 := (i 0).isLt
    exact ⟨⟨(i 0).val / 512, by show (i 0).val / 512 < cfg0.N; omega⟩, flush0_10 _, mem10 _ i (by dsimp only; omega)⟩

end Cert.FfnFwd
-- ==== Proof.FfnFwd.Ref.lean ====
/-
  WHAT THE REFERENCE OF THE FEED-FORWARD'S FORWARD PASS COMPUTES, ENTRY BY ENTRY.
-/
module

public import proofs.«01_k».proof.Proof.FfnFwd.Array
public import proofs.«01_k».proof.Proof.Gen.Reference6Ideal.Run

@[expose] public section

set_option maxRecDepth 16384

noncomputable section

namespace Cert.FfnFwd.Ref

open Cert.Reference6Ideal Cert.Reference6Ideal.Gen Idealize.ShloMosaic Idealize.ShloMosaic.TcCoe Idealize.SL.Sem
open Cert.Rms Cert.Silu Cert.FfnFwd

variable (x : FVec Ideal S16384x1024 .f32) (g : FVec Ideal S1x1024 .f32) (wg wu : FVec Ideal S1024x2816 .f32)
  (wd : FVec Ideal S2816x1024 .f32) (pg : FVec Ideal S1x1024 .f32)

/-- The square root's reciprocal of each row, as the reference writes it. -/
def rsV : FVec Ideal S16384x1 .f32 :=
  Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

theorem rsV_apply (R : Fin 16384) (u : Fin 1) : rsV x (ix2 R u) = rs (fun k => x (ix2 R k)) := by
  pointwise [rsV, rs, den, len, eps]

/-- The normed rows. -/
def hV : FVec Ideal S16384x1024 .f32 :=
  mulf (mulf x (broadcastInDim S16384x1024 ![0, 1] bcast_S16384x1_S16384x1024_0_1 (rsV x)))
    (broadcastInDim S16384x1024 ![0, 1] bcast_S1x1024_S16384x1024_0_1 g)

/-- Their product with a weight. -/
def preV (w : FVec Ideal S1024x2816 .f32) : FVec Ideal S16384x2816 .f32 :=
  Host.dotGeneral dot_S16384x1024_S1024x2816_S16384x2816_1_0_0_1_n_n none (hV x g) w

/-- Ones. -/
def oneV : FVec Ideal S16384x2816 .f32 := broadcastInDim S16384x2816 ![] bcast_S_S16384x2816 (constant S_ .f32 0x3F800000#32)

/-- The sigmoid of the gate. -/
def sigV (v : FVec Ideal S16384x2816 .f32) : FVec Ideal S16384x2816 .f32 := Host.divf oneV (addf oneV (Host.exp (Host.negf v)))

/-- The gate's silu. -/
def siluV : FVec Ideal S16384x2816 .f32 := mulf (preV x g wg) (sigV (preV x g wg))

/-- The gate's silu times the factor. -/
def actV : FVec Ideal S16384x2816 .f32 := mulf (siluV x g wg) (preV x g wu)

/-- The factor times the silu's derivative. -/
def dV : FVec Ideal S16384x2816 .f32 :=
  mulf (preV x g wu) (addf (mulf oneV (sigV (preV x g wg))) (mulf (mulf (preV x g wg) oneV) (mulf (sigV (preV x g wg)) (subf oneV (sigV (preV x g wg))))))

/-- An array of hidden columns cut into its four groups. -/
def cutV (v : FVec Ideal S16384x2816 .f32) : FVec Ideal S4x16384x704 .bf16 :=
  truncf .bf16 (transpose S4x16384x704 [1, 0, 2] (shapeCast S16384x4x704 (v) shapeCasts_S16384x2816_S16384x4x704) transposes_S16384x4x704_S4x16384x704_1_0_2) bitsLt_bf16_f32

/-- The output before its norm. -/
def fV : FVec Ideal S16384x1024 .f32 :=
  Host.dotGeneral dot_S16384x2816_S2816x1024_S16384x1024_1_0_0_1_n_n none (actV x g wg wu) wd

/-- The result: the stream plus half of the normed output. -/
def outV : FVec Ideal S16384x1024 .f32 :=
  addf x (mulf (broadcastInDim S16384x1024 ![] bcast_S_S16384x1024 (constant S_ .f32 0x3F000000#32)) (hV (fV x g wg wu wd) pg))

theorem hV_apply (R : Fin 16384) (k : Fin 1024) :
    hV x g (ix2 R k) = x (ix2 R k) * rs (fun l => x (ix2 R l)) * g (ix2 0 k) := by
  pointwise [hV]
  simp only [rsV_apply]

theorem preV_apply (w : FVec Ideal S1024x2816 .f32) (R : Fin 16384) (f : Fin 2816) :
    preV x g w (ix2 R f) = ∑ k : Fin 1024, x (ix2 R k) * rs (fun l => x (ix2 R l)) * g (ix2 0 k) * w (ix2 k f) := by
  pointwise [preV]
  simp only [hV_apply]

theorem sigV_apply (v : FVec Ideal S16384x2816 .f32) (R : Fin 16384) (f : Fin 2816) : sigV v (ix2 R f) = sig (v (ix2 R f)) := by
  rw [sig_eq]
  pointwise [sigV, oneV]

theorem siluV_apply (R : Fin 16384) (f : Fin 2816) : siluV x g wg (ix2 R f) = silu (preV x g wg (ix2 R f)) := by
  pointwise [siluV]
  simp only [sigV_apply]
  rfl

theorem actV_apply (R : Fin 16384) (f : Fin 2816) :
    actV x g wg wu (ix2 R f) = silu (preV x g wg (ix2 R f)) * preV x g wu (ix2 R f) := by
  pointwise [actV]
  simp only [siluV_apply]

theorem dV_apply (R : Fin 16384) (f : Fin 2816) :
    dV x g wg wu (ix2 R f) = preV x g wu (ix2 R f) * dsilu (preV x g wg (ix2 R f)) := by
  rw [dsilu_eq]
  pointwise [dV, oneV]
  simp only [sigV_apply]

theorem cutV_apply (v : FVec Ideal S16384x2816 .f32) (s : Fin 4) (R : Fin 16384) (f : Fin 704) :
    cutV v (ix3 s R f) = v (ix2 R (col s f)) := by
  pointwise [cutV]
  rfl

theorem fV_apply (R : Fin 16384) (k : Fin 1024) :
    fV x g wg wu wd (ix2 R k) = ∑ f : Fin 2816, silu (preV x g wg (ix2 R f)) * preV x g wu (ix2 R f) * wd (ix2 f k) := by
  pointwise [fV]
  simp only [actV_apply]

theorem outV_apply (R : Fin 16384) (k : Fin 1024) :
    outV x g wg wu wd pg (ix2 R k) = x (ix2 R k) + half * (fV x g wg wu wd (ix2 R k)
      * rs (fun l => fV x g wg wu wd (ix2 R l)) * pg (ix2 0 k)) := by
  pointwise [outV]
  simp only [hV_apply]

end Cert.FfnFwd.Ref
-- ==== Proof.FfnFwd.Equal.lean ====
/-
  THE EQUATION: the feed-forward's forward pass and its reference leave the same five arrays.
-/
module

public import proofs.«01_k».proof.Proof.FfnFwd.Ref
public import proofs.«01_k».proof.Proof.Gen.Kernel6Ideal.Value
public import proofs.«01_k».proof.Defs

@[expose] public section

set_option maxRecDepth 16384

noncomputable section

namespace Cert.FfnFwd

open Cert.Kernel6Ideal Cert.Kernel6Ideal.Gen Idealize.ShloMosaic Idealize.ShloMosaic.TcCoe Idealize.SL.Sem

section
variable (m : (ℓ : Loc nD τ sig) → Buf (Elt Ideal) ℓ) (c : Dev nD)

theorem f_eq_at (R : Fin 16384) (k : Fin 1024) : Ref.fV (aX m c) (aG m c) (aWg m c) (aWu m c) (aWd m c) (ix2 R k) = fAt m c R k := by
  rw [Ref.fV_apply]
  simp only [Ref.preV_apply]
  rfl

theorem out_ref : Ref.outV (aX m c) (aG m c) (aWg m c) (aWu m c) (aWd m c) (aPg m c) = outArr m c := by
  funext j
  obtain ⟨R, k, rfl⟩ : ∃ (R : Fin 16384) (k : Fin 1024), j = ix2 R k := ⟨j 0, j 1, eq_ix2 j⟩
  rw [Ref.outV_apply]
  simp only [f_eq_at]
  rfl

theorem a_ref : Ref.cutV (Ref.actV (aX m c) (aG m c) (aWg m c) (aWu m c)) = aArr m c := by
  funext j
  obtain ⟨s, R, f, rfl⟩ : ∃ (s : Fin 4) (R : Fin 16384) (f : Fin 704), j = ix3 s R f := ⟨j 0, j 1, j 2, eq_ix3 j⟩
  rw [Ref.cutV_apply, Ref.actV_apply]
  simp only [Ref.preV_apply]
  rfl

theorem d1_ref : Ref.cutV (Ref.dV (aX m c) (aG m c) (aWg m c) (aWu m c)) = d1Arr m c := by
  funext j
  obtain ⟨s, R, f, rfl⟩ : ∃ (s : Fin 4) (R : Fin 16384) (f : Fin 704), j = ix3 s R f := ⟨j 0, j 1, j 2, eq_ix3 j⟩
  rw [Ref.cutV_apply, Ref.dV_apply]
  simp only [Ref.preV_apply]
  rfl

theorem d2_ref : Ref.cutV (Ref.siluV (aX m c) (aG m c) (aWg m c)) = d2Arr m c := by
  funext j
  obtain ⟨s, R, f, rfl⟩ : ∃ (s : Fin 4) (R : Fin 16384) (f : Fin 704), j = ix3 s R f := ⟨j 0, j 1, j 2, eq_ix3 j⟩
  rw [Ref.cutV_apply, Ref.siluV_apply]
  simp only [Ref.preV_apply]
  rfl

theorem f_ref : Ref.fV (aX m c) (aG m c) (aWg m c) (aWu m c) (aWd m c) = fArr m c := by
  funext j
  obtain ⟨R, k, rfl⟩ : ∃ (R : Fin 16384) (k : Fin 1024), j = ix2 R k := ⟨j 0, j 1, eq_ix2 j⟩
  exact f_eq_at m c R k

end

theorem algebraic : Cert.algebraic_Kernel6Ideal_Reference6Ideal (hKernel6Ideal := Cert.Kernel6Ideal.Gen.facts) (hReference6Ideal := Cert.Reference6Ideal.Gen.facts) := by
  intro m g m' g' _ h
  refine ⟨fun c => outArr m c, fun c => aArr m c, fun c => d1Arr m c, fun c => d2Arr m c, fun c => fArr m c, ?_, ?_⟩
  · refine (θ_run _ _ _).mono (fun r hr c => ?_) (Value.run_blocks m g)
    have e := hr c
    exact ⟨(e.1).trans (final6 m c), (e.2.1).trans (final7 m c), (e.2.2.1).trans (final8 m c), (e.2.2.2.1).trans (final9 m c), (e.2.2.2.2.1).trans (final10 m c), e.2.2.2.2.2.1, e.2.2.2.2.2.2.1, e.2.2.2.2.2.2.2.1, e.2.2.2.2.2.2.2.2.1, e.2.2.2.2.2.2.2.2.2.1, e.2.2.2.2.2.2.2.2.2.2⟩
  · refine (θ_run _ _ _).mono (fun r hr c => ?_) (Cert.Reference6Ideal.Value.run m' g')
    have e := hr c
    obtain ⟨a0, a1, a2, a3, a4, a5⟩ := h c
    have h0 : Ref.outV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = outArr m c := by
      rw [a0, a1, a2, a3, a4, a5]
      exact out_ref m c
    have h1 : Ref.cutV (Ref.actV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) = aArr m c := by
      rw [a0, a1, a2, a3]
      exact a_ref m c
    have h2 : Ref.cutV (Ref.dV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) = d1Arr m c := by
      rw [a0, a1, a2, a3]
      exact d1_ref m c
    have h3 : Ref.cutV (Ref.siluV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) = d2Arr m c := by
      rw [a0, a1, a2]
      exact d2_ref m c
    have h4 : truncf .bf16 (Ref.fV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))) bitsLt_bf16_f32 = fArr m c := by
      rw [a0, a1, a2, a3, a4]
      exact f_ref m c
    exact ⟨(e.1).trans h0, (e.2.1).trans h1, (e.2.2.1).trans h2, (e.2.2.2.1).trans h3, (e.2.2.2.2.1).trans h4, e.2.2.2.2.2.1, e.2.2.2.2.2.2.1, e.2.2.2.2.2.2.2.1, e.2.2.2.2.2.2.2.2.1, e.2.2.2.2.2.2.2.2.2.1, e.2.2.2.2.2.2.2.2.2.2⟩

end Cert.FfnFwd
-- ==== Proof.MixInFwd.Block.lean ====
/-
  WHAT ONE GRID POINT OF THE MIXER'S ENTRY COMPUTES, from its blocks.

  The point holds 512 rows of the stream `x`, the norm's scale `g` and the whole entry weight, transposed to 7680 rows. It
  leaves the normed rows `h` and their products with the weight: the first 4608 columns in one array, the other 3072 in
  another, each stored in pieces of 512 columns.
-/
module

public import proofs.«01_k».proof.Proof.RmsRow
public import proofs.«01_k».proof.Proof.Gen.Kernel7Ideal.Value
public import Idealize.ShloMosaic.Lib.Tactic

@[expose] public section

set_option maxRecDepth 16384

noncomputable section

namespace Cert.MixInFwd

open Cert.Kernel7Ideal Cert.Kernel7Ideal.Gen Idealize.ShloMosaic Idealize.ShloMosaic.TcCoe Idealize.SL.Sem
open Cert.Rms

theorem hz2 : (![0, 0] : Fin 2 → Nat) = fun _ => 0 := funext fun a => by fin_cases a <;> rfl

section
variable (x0 : Vec Ideal S512x1024 .f32) (x1 : Vec Ideal S1x1024 .f32) (x2 : Vec Ideal S7680x1024 .bf16)

/-- The normed row `r` at column `k`. -/
def hRow (r : Fin 512) (k : Fin 1024) : EReal := x0 (ix2 r k) * rs (fun l => x0 (ix2 r l)) * x1 (ix2 0 k)

/-- The normed rows, as a block. -/
def hBlk : Vec Ideal S512x1024 .bf16 := fun j => hRow x0 x1 (j 0) (j 1)

/-- The first columns of the product, as a block. -/
def zaBlk : Vec Ideal S512x4608 .bf16 := fun j =>
  ∑ k : Fin 1024, hRow x0 x1 (j 0) k * x2 (ix2 ⟨(j 1).val, lt_trans (b := 4608) (j 1).isLt (by decide)⟩ k)

/-- The other columns of the product, as a block. -/
def zmBlk : Vec Ideal S512x3072 .bf16 := fun j =>
  ∑ k : Fin 1024, hRow x0 x1 (j 0) k * x2 (ix2 ⟨4608 + (j 1).val, Nat.add_lt_add_left (m := 3072) (j 1).isLt 4608⟩ k)
end

/-! ## The payloads, entry by entry -/

theorem rs_h (x0 : Vec Ideal S512x1024 .f32) (x1 : Vec Ideal S1x1024 .f32) (r : Fin 512) (k : Fin 1024) :
    k0_pay2 x0 x1 (ix2 r k) = hRow x0 x1 r k := by
  pointwise [k0_pay2, hRow, rs, den]

/-- Where the first product's columns from `n` on lie. -/
theorem emb_za (n : ℕ) (hn : n + 512 ≤ 4608) (inb : ∀ a, (![0, n] : Fin 2 → Nat) a + S512x512.size a ≤ S512x4608.size a)
    (r q : Fin 512) :
    (Rect.unit (s := S512x4608) ![0, n] S512x512.size inb).emb (ix2 r q)
      = ix2 r (⟨n + q.val, by have := q.isLt; omega⟩ : Fin 4608) := by
  funext a
  apply Fin.ext
  match a with
  | ⟨0, _⟩ => show 0 + 1 * r.val = r.val; omega
  | ⟨1, _⟩ => show n + 1 * q.val = n + q.val; omega

/-- Where the second product's columns from `n` on lie. -/
theorem emb_zm (n : ℕ) (hn : n + 512 ≤ 3072) (inb : ∀ a, (![0, n] : Fin 2 → Nat) a + S512x512.size a ≤ S512x3072.size a)
    (r q : Fin 512) :
    (Rect.unit (s := S512x3072) ![0, n] S512x512.size inb).emb (ix2 r q)
      = ix2 r (⟨n + q.val, by have := q.isLt; omega⟩ : Fin 3072) := by
  funext a
  apply Fin.ext
  match a with
  | ⟨0, _⟩ => show 0 + 1 * r.val = r.val; omega
  | ⟨1, _⟩ => show n + 1 * q.val = n + q.val; omega

/-- A loaded piece of the weight. -/
theorem ld_w (x2 : Vec Ideal S7680x1024 .bf16) (n : ℕ) (hn : n + 512 ≤ 7680)
    (inb : ∀ a, (![n, 0] : Fin 2 → Nat) a + S512x1024.size a ≤ S7680x1024.size a) (q : Fin 512) (k : Fin 1024) :
    View.ld x2 (Rect.unit (s := S7680x1024) ![n, 0] S512x1024.size inb) (ix2 q k)
      = x2 (ix2 (⟨n + q.val, by have := q.isLt; omega⟩ : Fin 7680) k) := by
  show x2 ((Rect.unit (s := S7680x1024) ![n, 0] S512x1024.size inb).emb (ix2 q k)) = _
  congr 1
  funext a
  apply Fin.ext
  match a with
  | ⟨0, _⟩ => show n + 1 * q.val = n + q.val; omega
  | ⟨1, _⟩ => show 0 + 1 * k.val = k.val; omega

variable (x0 : Vec Ideal S512x1024 .f32) (x1 : Vec Ideal S1x1024 .f32) (x2 : Vec Ideal S7680x1024 .bf16)

/-- The normed rows. -/
theorem out_3 : out0_3 x0 x1 x2 = hBlk x0 x1 := by
  unfold out0_3
  rw [View.canon_unit_zero hz2]
  simp only [View.ld_unit_zero (S := S512x1024) hz2, View.ld_unit_zero (S := S1x1024) hz2]
  funext j
  idx_vars j
  rw [rs_h]
  rfl

/-- The first columns of the product. -/
theorem out_4 : out0_4 x0 x1 x2 = zaBlk x0 x1 x2 := by
  unfold out0_4
  funext y
  refine View.canon_apply_of_pieces (zaBlk x0 x1 x2) _ ?_ y (cover0_4 _ _ _ _ _ _ _ _ _ y)
  simp only [List.forall_mem_cons]
  refine ⟨?_, ?_, ?_, ?_, ?_, ?_, ?_, ?_, ?_, fun _ h => absurd h List.not_mem_nil⟩
  all_goals
    intro j
    obtain ⟨r, q, rfl⟩ : ∃ (r q : Fin 512), j = ix2 r q := ⟨j 0, j 1, eq_ix2 j⟩
    first
    | rw [emb_za 0 (by omega)]
    | rw [emb_za 512 (by omega)]
    | rw [emb_za 1024 (by omega)]
    | rw [emb_za 1536 (by omega)]
    | rw [emb_za 2048 (by omega)]
    | rw [emb_za 2560 (by omega)]
    | rw [emb_za 3072 (by omega)]
    | rw [emb_za 3584 (by omega)]
    | rw [emb_za 4096 (by omega)]
    pointwise [k0_pay3, k0_pay4, k0_pay5, k0_pay6, k0_pay7, k0_pay8, k0_pay9, k0_pay10, k0_pay11, k0_pay12]
    simp only [k0_pay18, View.ld_unit_zero (S := S512x1024) hz2, View.ld_unit_zero (S := S1x1024) hz2, rs_h, ld_w x2 0 (by omega), ld_w x2 512 (by omega), ld_w x2 1024 (by omega), ld_w x2 1536 (by omega), ld_w x2 2048 (by omega), ld_w x2 2560 (by omega), ld_w x2 3072 (by omega), ld_w x2 3584 (by omega), ld_w x2 4096 (by omega)]
    unfold zaBlk
    simp only [ix2_0, ix2_1]

/-- The other columns of the product. -/
theorem out_5 : out0_5 x0 x1 x2 = zmBlk x0 x1 x2 := by
  unfold out0_5
  funext y
  refine View.canon_apply_of_pieces (zmBlk x0 x1 x2) _ ?_ y (cover0_5 _ _ _ _ _ _ y)
  simp only [List.forall_mem_cons]
  refine ⟨?_, ?_, ?_, ?_, ?_, ?_, fun _ h => absurd h List.not_mem_nil⟩
  all_goals
    intro j
    obtain ⟨r, q, rfl⟩ : ∃ (r q : Fin 512), j = ix2 r q := ⟨j 0, j 1, eq_ix2 j⟩
    first
    | rw [emb_zm 0 (by omega)]
    | rw [emb_zm 512 (by omega)]
    | rw [emb_zm 1024 (by omega)]
    | rw [emb_zm 1536 (by omega)]
    | rw [emb_zm 2048 (by omega)]
    | rw [emb_zm 2560 (by omega)]
    pointwise [k0_pay1, k0_pay13, k0_pay14, k0_pay15, k0_pay16, k0_pay17]
    simp only [k0_pay18, View.ld_unit_zero (S := S512x1024) hz2, View.ld_unit_zero (S := S1x1024) hz2, rs_h, ld_w x2 4608 (by omega), ld_w x2 5120 (by omega), ld_w x2 5632 (by omega), ld_w x2 6144 (by omega), ld_w x2 6656 (by omega), ld_w x2 7168 (by omega)]
    unfold zmBlk
    simp only [ix2_0, ix2_1]
    all_goals simp only [← Nat.add_assoc, Nat.reduceAdd]

end Cert.MixInFwd
-- ==== Proof.MixInFwd.Array.lean ====
/-
  WHAT THE MIXER'S ENTRY LEAVES IN ITS RESULT ARRAYS: grid point `t` works on rows `512 t … 512 t + 511`, and its three
  blocks lie there.
-/
module

public import proofs.«01_k».proof.Proof.MixInFwd.Block

@[expose] public section

set_option maxRecDepth 16384

noncomputable section

namespace Cert.MixInFwd

open Cert.Kernel7Ideal Cert.Kernel7Ideal.Gen Idealize.ShloMosaic Idealize.ShloMosaic.TcCoe Idealize.SL.Sem
open Cert.Rms

variable (m : (ℓ : Loc nD τ sig) → Buf (Elt Ideal) ℓ) (c : Dev nD)

abbrev aX : Vec Ideal S16384x1024 .f32 := m ((c : Thread nD τ).loc main_arg0)
abbrev aG : Vec Ideal S1x1024 .f32 := m ((c : Thread nD τ).loc main_arg1)
abbrev aW : Vec Ideal S1024x7680 .f32 := m ((c : Thread nD τ).loc main_arg2)

theorem points : cfg0.N = 32 := N_0

/-- Row `r` of point `t`'s block, as a row of the array. -/
def row (t : Fin cfg0.N) (r : Fin 512) : Fin 16384 :=
  ⟨t.val * 512 + r.val, by have := t.isLt; have := r.isLt; have := points; omega⟩

/-- The normed row `R` at column `k`. -/
def hAt (R : Fin 16384) (k : Fin 1024) : EReal := aX m c (ix2 R k) * rs (fun l => aX m c (ix2 R l)) * aG m c (ix2 0 k)

/-- The normed rows. -/
def hArr : Vec Ideal S16384x1024 .bf16 := fun i => hAt m c (i 0) (i 1)

/-- Column `q` of the first product, as a column of the weight. -/
def colA (q : Fin 4608) : Fin 7680 := ⟨q.val, lt_trans q.isLt (by decide)⟩

/-- Column `q` of the second product, as a column of the weight. -/
def colM (q : Fin 3072) : Fin 7680 := ⟨4608 + q.val, Nat.add_lt_add_left q.isLt 4608⟩

/-- The first columns of the product with the entry weight. -/
def zaArr : Vec Ideal S16384x4608 .bf16 := fun i => ∑ k : Fin 1024, hAt m c (i 0) k * aW m c (ix2 k (colA (i 1)))

/-- The other columns of the product with the entry weight. -/
def zmArr : Vec Ideal S16384x3072 .bf16 := fun i => ∑ k : Fin 1024, hAt m c (i 0) k * aW m c (ix2 k (colM (i 1)))

/-! ## The blocks, read from the arrays -/

theorem index0 : ∀ t : Fin grid0.N, win0_0.index t 0 = t.val ∧ win0_0.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel

theorem iblk0 (t : Fin cfg0.N) (r : Fin 512) (k : Fin 1024) :
    (iblk m c 0 t : Vec Ideal S512x1024 .f32) (ix2 r k) = aX m c (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

theorem iblk1 (t : Fin cfg0.N) (u : Fin 1) (k : Fin 1024) :
    (iblk m c 1 t : Vec Ideal S1x1024 .f32) (ix2 u k) = aG m c (ix2 u k) := by
  unfold iblk
  rw [View.read_apply]
  show V m c main_arg1 _ = _
  rw [V_main_arg1]
  congr 1
  funext a
  apply Fin.ext
  match a with
  | ⟨0, _⟩ => show win0_1.index t 0 * 1 + 1 * u.val = u.val; rw [(index1 t).1]; omega
  | ⟨1, _⟩ => show win0_1.index t 1 * 1024 + 1 * k.val = k.val; rw [(index1 t).2]; omega

/-- The entry weight transposed, as the host prepares it. -/
def prepared (w : FVec Ideal S1024x7680 .f32) : FVec Ideal S7680x1024 .bf16 :=
  truncf .bf16 (transpose S7680x1024 [1, 0] w transposes_S1024x7680_S7680x1024_1_0) bitsLt_bf16_f32

theorem prepared_apply (w : FVec Ideal S1024x7680 .f32) (q : Fin 7680) (k : Fin 1024) :
    prepared w (ix2 q k) = w (ix2 k q) := by
  pointwise [prepared]

theorem prep2 : V m c main_v1 = prepared (aW m c) := by
  show StableHlo.after hostOps0 _ (Proc.devRef .tc main_v1) = _
  after_results_simp <;> rfl

theorem iblk2 (t : Fin cfg0.N) (q : Fin 7680) (k : Fin 1024) :
    (iblk m c 2 t : Vec Ideal S7680x1024 .bf16) (ix2 q k) = aW m c (ix2 k q) := by
  rw [← prepared_apply (aW m c), ← prep2]
  unfold iblk
  rw [View.read_apply]
  show V m c main_v1 _ = _
  congr 1
  funext a
  apply Fin.ext
  match a with
  | ⟨0, _⟩ => show win0_2.index t 0 * 7680 + 1 * q.val = q.val; rw [(index2 t).1]; omega
  | ⟨1, _⟩ => show win0_2.index t 1 * 1024 + 1 * k.val = k.val; rw [(index2 t).2]; omega

theorem h_at (t : Fin cfg0.N) (r : Fin 512) (k : Fin 1024) :
    hRow (iblk m c 0 t) (iblk m c 1 t) r k = hAt m c (row t r) k := by
  simp only [hRow, hAt, iblk0, iblk1]

/-! ## The arrays -/

/-- Point `t`'s block of an array of result `3`'s shape, entry by entry. -/
theorem block3 (G : Vec Ideal S16384x1024 .bf16) (t : Fin cfg0.N) (r : Fin 512) (k : Fin 1024) :
    ((cfg0.win 3).blk t).view.read (Elt Ideal) (show Buf (Elt Ideal) ((cfg0.win 3).arr.view.loc (c.tc : Thread nD τ)) from G) (ix2 r k) = G (ix2 (row t r) k) := by
  rw [View.read_apply]
  show G _ = G _
  refine congrArg G ?_
  funext a
  apply Fin.ext
  match a with
  | ⟨0, _⟩ => show win0_3.index t 0 * 512 + 1 * r.val = t.val * 512 + r.val; rw [(index3 t).1]; omega
  | ⟨1, _⟩ => show win0_3.index t 1 * 1024 + 1 * k.val = k.val; rw [(index3 t).2]; omega

theorem mem3 (t : Fin cfg0.N) (i : S16384x1024.Idx) (h0 : t.val * 512 ≤ (i 0).val ∧ (i 0).val < t.val * 512 + 512) : i ∈ ((cfg0.win 3).blk t).view.set := by
  show i ∈ ((View.whole main_v2_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(index3 t).1]
    exact h0
  | ⟨1, _⟩ =>
    show win0_3.index t 1 * 1024 ≤ (i 1 : Nat) ∧ (i 1 : Nat) < win0_3.index t 1 * 1024 + 1024
    rw [(index3 t).2]
    rw [Nat.zero_mul, Nat.zero_add]
    exact ⟨Nat.zero_le _, (i 1).isLt⟩

/-- Point `t`'s block of an array of result `4`'s shape, entry by entry. -/
theorem block4 (G : Vec Ideal S16384x4608 .bf16) (t : Fin cfg0.N) (r : Fin 512) (k : Fin 4608) :
    ((cfg0.win 4).blk t).view.read (Elt Ideal) (show Buf (Elt Ideal) ((cfg0.win 4).arr.view.loc (c.tc : Thread nD τ)) from G) (ix2 r k) = G (ix2 (row t r) k) := by
  rw [View.read_apply]
  show G _ = G _
  refine congrArg G ?_
  funext a
  apply Fin.ext
  match a with
  | ⟨0, _⟩ => show win0_4.index t 0 * 512 + 1 * r.val = t.val * 512 + r.val; rw [(index4 t).1]; omega
  | ⟨1, _⟩ => show win0_4.index t 1 * 4608 + 1 * k.val = k.val; rw [(index4 t).2]; omega

theorem mem4 (t : Fin cfg0.N) (i : S16384x4608.Idx) (h0 : t.val * 512 ≤ (i 0).val ∧ (i 0).val < t.val * 512 + 512) : i ∈ ((cfg0.win 4).blk t).view.set := by
  show i ∈ ((View.whole main_v2_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [(index4 t).1]
    exact h0
  | ⟨1, _⟩ =>
    show win0_4.index t 1 * 4608 ≤ (i 1 : Nat) ∧ (i 1 : Nat) < win0_4.index t 1 * 4608 + 4608
    rw [(index4 t).2]
    rw [Nat.zero_mul, Nat.zero_add]
    exact ⟨Nat.zero_le _, (i 1).isLt⟩

/-- Point `t`'s block of an array of result `5`'s shape, entry by entry. -/
theorem block5 (G : Vec Ideal S16384x3072 .bf16) (t : Fin cfg0.N) (r : Fin 512) (k : Fin 3072) :
    ((cfg0.win 5).blk t).view.read (Elt Ideal) (show Buf (Elt Ideal) ((cfg0.win 5).arr.view.loc (c.tc : Thread nD τ)) from G) (ix2 r k) = G (ix2 (row t r) k) := by
  rw [View.read_apply]
  show G _ = G _
  refine congrArg G ?_
  funext a
  apply Fin.ext
  match a with
  | ⟨0, _⟩ => show win0_5.index t 0 * 512 + 1 * r.val = t.val * 512 + r.val; rw [(index5 t).1]; omega
  | ⟨1, _⟩ => show win0_5.index t 1 * 3072 + 1 * k.val = k.val; rw [(index5 t).2]; omega

theorem mem5 (t : Fin cfg0.N) (i : S16384x3072.Idx) (h0 : t.val * 512 ≤ (i 0).val ∧ (i 0).val < t.val * 512 + 512) : i ∈ ((cfg0.win 5).blk t).view.set := by
  show i ∈ ((View.whole main_v2_2).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(index5 t).1]
    exact h0
  | ⟨1, _⟩ =>
    show win0_5.index t 1 * 3072 ≤ (i 1 : Nat) ∧ (i 1 : Nat) < win0_5.index t 1 * 3072 + 3072
    rw [(index5 t).2]
    rw [Nat.zero_mul, Nat.zero_add]
    exact ⟨Nat.zero_le _, (i 1).isLt⟩

theorem final3 : (Gen.dats m 0 c).arrAt 3 cfg0.N = hArr m c :=
  (dats m 0 c).arrAt_eq_of_cover 3 (hArr m c) (fun t _ => by
    show (cfg0.win 3).cut (grid0.coords t) ((dats m 0 c).after 3 t) = _
    rw [after0_3, out_3]
    funext j
    obtain ⟨r, k, rfl⟩ : ∃ (r : Fin 512) (k : Fin 1024), j = ix2 r k := ⟨j 0, j 1, eq_ix2 j⟩
    refine Eq.trans ?_ (block3 c (hArr m c) t r k).symm
    show hBlk _ _ (ix2 r k) = _
    simp only [hBlk, hArr, h_at, iblk2, ix2_0, ix2_1, colA, colM]) fun (i : S16384x1024.Idx) => by
    have hN := points
    have h : (i 0).val < 16384 := (i 0).isLt
    exact ⟨⟨(i 0).val / 512, by show (i 0).val / 512 < cfg0.N; omega⟩, flush0_3 _, mem3 _ i (by dsimp only; omega)⟩

theorem final4 : (Gen.dats m 0 c).arrAt 4 cfg0.N = zaArr m c :=
  (dats m 0 c).arrAt_eq_of_cover 4 (zaArr m c) (fun t _ => by
    show (cfg0.win 4).cut (grid0.coords t) ((dats m 0 c).after 4 t) = _
    rw [after0_4, out_4]
    funext j
    obtain ⟨r, k, rfl⟩ : ∃ (r : Fin 512) (k : Fin 4608), j = ix2 r k := ⟨j 0, j 1, eq_ix2 j⟩
    refine Eq.trans ?_ (block4 c (zaArr m c) t r k).symm
    show zaBlk _ _ _ (ix2 r k) = _
    simp only [zaBlk, zaArr, h_at, iblk2, ix2_0, ix2_1, colA, colM]) fun (i : S16384x4608.Idx) => by
    have hN := points
    have h : (i 0).val < 16384 := (i 0).isLt
    exact ⟨⟨(i 0).val / 512, by show (i 0).val / 512 < cfg0.N; omega⟩, flush0_4 _, mem4 _ i (by dsimp only; omega)⟩

theorem final5 : (Gen.dats m 0 c).arrAt 5 cfg0.N = zmArr m c :=
  (dats m 0 c).arrAt_eq_of_cover 5 (zmArr m c) (fun t _ => by
    show (cfg0.win 5).cut (grid0.coords t) ((dats m 0 c).after 5 t) = _
    rw [after0_5, out_5]
    funext j
    obtain ⟨r, k, rfl⟩ : ∃ (r : Fin 512) (k : Fin 3072), j = ix2 r k := ⟨j 0, j 1, eq_ix2 j⟩
    refine Eq.trans ?_ (block5 c (zmArr m c) t r k).symm
    show zmBlk _ _ _ (ix2 r k) = _
    simp only [zmBlk, zmArr, h_at, iblk2, ix2_0, ix2_1, colA, colM]) fun (i : S16384x3072.Idx) => by
    have hN := points
    have h : (i 0).val < 16384 := (i 0).isLt
    exact ⟨⟨(i 0).val / 512, by show (i 0).val / 512 < cfg0.N; omega⟩, flush0_5 _, mem5 _ i (by dsimp only; omega)⟩

end Cert.MixInFwd
-- ==== Proof.MixInFwd.Ref.lean ====
/-
  WHAT THE REFERENCE OF THE MIXER'S ENTRY COMPUTES, ENTRY BY ENTRY.
-/
module

public import proofs.«01_k».proof.Proof.MixInFwd.Array
public import proofs.«01_k».proof.Proof.Gen.Reference7Ideal.Run

@[expose] public section

set_option maxRecDepth 16384

noncomputable section

namespace Cert.MixInFwd.Ref

open Cert.Reference7Ideal Cert.Reference7Ideal.Gen Idealize.ShloMosaic Idealize.ShloMosaic.TcCoe Idealize.SL.Sem
open Cert.Rms Cert.MixInFwd

variable (x : FVec Ideal S16384x1024 .f32) (g : FVec Ideal S1x1024 .f32) (w : FVec Ideal S1024x7680 .f32)

/-- The square root's reciprocal of each row, as the reference writes it. -/
def rsV : FVec Ideal S16384x1 .f32 :=
  Host.rsqrt (addf (Host.divf (broadcastInDim S16384x1 ![0] bcast_S16384_S16384x1_0
    (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32)))

theorem rsV_apply (R : Fin 16384) (u : Fin 1) : rsV x (ix2 R u) = rs (fun k => x (ix2 R k)) := by
  pointwise [rsV, rs, den, len, eps]

/-- The normed rows. -/
def hV : FVec Ideal S16384x1024 .f32 :=
  mulf (mulf x (broadcastInDim S16384x1024 ![0, 1] bcast_S16384x1_S16384x1024_0_1 (rsV x)))
    (broadcastInDim S16384x1024 ![0, 1] bcast_S1x1024_S16384x1024_0_1 g)

/-- Their product with the entry weight. -/
def zV : FVec Ideal S16384x7680 .f32 := Host.dotGeneral dot_S16384x1024_S1024x7680_S16384x7680_1_0_0_1_n_n none (hV x g) w

/-- Its first columns. -/
def zaV : FVec Ideal S16384x4608 .bf16 :=
  truncf .bf16 (extractStridedSlice S16384x4608 ![0, 0] (zV x g w) slices_S16384x7680_S16384x4608_0_0) bitsLt_bf16_f32

/-- Its other columns. -/
def zmV : FVec Ideal S16384x3072 .bf16 :=
  truncf .bf16 (extractStridedSlice S16384x3072 ![0, 4608] (zV x g w) slices_S16384x7680_S16384x3072_0_4608) bitsLt_bf16_f32

theorem hV_apply (R : Fin 16384) (k : Fin 1024) :
    hV x g (ix2 R k) = x (ix2 R k) * rs (fun l => x (ix2 R l)) * g (ix2 0 k) := by
  pointwise [hV]
  simp only [rsV_apply]

theorem zaV_apply (R : Fin 16384) (q : Fin 4608) :
    zaV x g w (ix2 R q) = ∑ k : Fin 1024, hV x g (ix2 R k) * w (ix2 k (colA q)) := by
  pointwise [zaV, zV, colA]

theorem zmV_apply (R : Fin 16384) (q : Fin 3072) :
    zmV x g w (ix2 R q) = ∑ k : Fin 1024, hV x g (ix2 R k) * w (ix2 k (colM q)) := by
  pointwise [zmV, zV, colM]

end Cert.MixInFwd.Ref
-- ==== Proof.MixInFwd.Equal.lean ====
/-
  THE EQUATION: the mixer's entry and its reference leave the same three arrays.
-/
module

public import proofs.«01_k».proof.Proof.MixInFwd.Ref
public import proofs.«01_k».proof.Proof.Gen.Kernel7Ideal.Value
public import proofs.«01_k».proof.Defs

@[expose] public section

set_option maxRecDepth 16384

noncomputable section

namespace Cert.MixInFwd

open Cert.Kernel7Ideal Cert.Kernel7Ideal.Gen Idealize.ShloMosaic Idealize.ShloMosaic.TcCoe Idealize.SL.Sem

section
variable (m : (ℓ : Loc nD τ sig) → Buf (Elt Ideal) ℓ) (c : Dev nD)

theorem h_ref : Ref.hV (aX m c) (aG m c) = hArr m c := by
  funext j
  obtain ⟨R, k, rfl⟩ : ∃ (R : Fin 16384) (k : Fin 1024), j = ix2 R k := ⟨j 0, j 1, eq_ix2 j⟩
  rw [Ref.hV_apply]
  rfl

theorem za_ref : Ref.zaV (aX m c) (aG m c) (aW m c) = zaArr m c := by
  funext j
  obtain ⟨R, q, rfl⟩ : ∃ (R : Fin 16384) (q : Fin 4608), j = ix2 R q := ⟨j 0, j 1, eq_ix2 j⟩
  rw [Ref.zaV_apply]
  simp only [Ref.hV_apply]
  rfl

theorem zm_ref : Ref.zmV (aX m c) (aG m c) (aW m c) = zmArr m c := by
  funext j
  obtain ⟨R, q, rfl⟩ : ∃ (R : Fin 16384) (q : Fin 3072), j = ix2 R q := ⟨j 0, j 1, eq_ix2 j⟩
  rw [Ref.zmV_apply]
  simp only [Ref.hV_apply]
  rfl

end

theorem algebraic : Cert.algebraic_Kernel7Ideal_Reference7Ideal (hKernel7Ideal := Cert.Kernel7Ideal.Gen.facts) (hReference7Ideal := Cert.Reference7Ideal.Gen.facts) := by
  intro m g m' g' _ h
  refine ⟨fun c => hArr m c, fun c => zaArr m c, fun c => zmArr m c, ?_, ?_⟩
  · refine (θ_run _ _ _).mono (fun r hr c => ?_) (Value.run_blocks m g)
    have e := hr c
    exact ⟨(e.1).trans (final3 m c), (e.2.1).trans (final4 m c), (e.2.2.1).trans (final5 m c), e.2.2.2.1, e.2.2.2.2.1, e.2.2.2.2.2⟩
  · refine (θ_run _ _ _).mono (fun r hr c => ?_) (Cert.Reference7Ideal.Value.run m' g')
    have e := hr c
    obtain ⟨a0, a1, a2⟩ := h c
    have h0 : truncf .bf16 (Ref.hV (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))) bitsLt_bf16_f32 = hArr m c := by
      rw [a0, a1]
      exact h_ref m c
    have h1 : Ref.zaV (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = zaArr m c := by
      rw [a0, a1, a2]
      exact za_ref m c
    have h2 : Ref.zmV (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = zmArr m c := by
      rw [a0, a1, a2]
      exact zm_ref m c
    exact ⟨(e.1).trans h0, (e.2.1).trans h1, (e.2.2.1).trans h2, e.2.2.2.1, e.2.2.2.2.1, e.2.2.2.2.2⟩

end Cert.MixInFwd
-- ==== Proof.lean ====
/- The certificate's claims, put together: for every call of the layer its frames, then (its idealization being its own
   text) `preserves`, and the equation with its reference, which the call's own directory proves. -/
module

public import proofs.«01_k».proof.Defs
public import proofs.«01_k».proof.Proof.Gen.Kernel
public import proofs.«01_k».proof.Proof.Gen.Kernel.Frame.Runs
public import proofs.«01_k».proof.Proof.MixInBwd.PrintedFrame
public import proofs.«01_k».proof.Proof.Gen.KernelIdeal
public import proofs.«01_k».proof.Proof.Gen.KernelIdeal.Frame.Runs
public import proofs.«01_k».proof.Proof.MixInBwd.Frame
public import proofs.«01_k».proof.Proof.Gen.ReferenceIdeal
public import proofs.«01_k».proof.Proof.Gen.ReferenceIdeal.Run
public import proofs.«01_k».proof.Proof.MixInBwd.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.FfnBwdB.Equal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.FfnBwdA.Equal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.FfnDwg.Equal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.DwIn.Equal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.FfnFwd.Equal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel7Ideal.Value
public import proofs.«01_k».proof.Proof.MixInFwd.Equal
public import Idealize.ShloMosaic.Adequacy
public import Idealize.ShloMosaic.Init

@[expose] public section

noncomputable section

namespace Cert.Proof

open Idealize.ShloMosaic Idealize.SL.Sem

/-- The call `kernel` as printed runs, leaves its arguments unchanged and ends with every semaphore at zero. -/
theorem frame_kernel : Cert.quiescent_Kernel (hKernel := Cert.Kernel.Gen.facts) :=
  fun m ρ _ => Cert.Kernel.Gen.frame m ρ

/-- The same of `kernel` over the extended reals. -/
theorem frame_kernel_ideal : Cert.quiescent_KernelIdeal (hKernelIdeal := Cert.KernelIdeal.Gen.facts) :=
  fun m ρ _ => Cert.KernelIdeal.Gen.frame m ρ

/-- The same of `reference` over the extended reals. -/
theorem frame_reference_ideal : Cert.quiescent_ReferenceIdeal (hReferenceIdeal := Cert.ReferenceIdeal.Gen.facts) :=
  fun m ρ _ => (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The call `kernel2` as printed runs, leaves its arguments unchanged and ends with every semaphore at zero. -/
theorem frame_kernel2 : Cert.quiescent_Kernel2 (hKernel2 := Cert.Kernel2.Gen.facts) :=
  fun m ρ _ => Cert.Kernel2.Gen.frame m ρ

/-- The same of `kernel2` over the extended reals. -/
theorem frame_kernel2_ideal : Cert.quiescent_Kernel2Ideal (hKernel2Ideal := Cert.Kernel2Ideal.Gen.facts) :=
  fun m ρ _ => Cert.Kernel2Ideal.Gen.frame m ρ

/-- The same of `reference2` over the extended reals. -/
theorem frame_reference2_ideal : Cert.quiescent_Reference2Ideal (hReference2Ideal := Cert.Reference2Ideal.Gen.facts) :=
  fun m ρ _ => (θ_run Cert.Reference2Ideal.defs _ _).mono
    (fun r h => ⟨fun c => (h c).2.2.2, sem_eq_zero_of_no_sems (by decide) r.2⟩)
    (Cert.Reference2Ideal.Value.run (F := Ideal) m ρ)

/-- The call `kernel3` as printed runs, leaves its arguments unchanged and ends with every semaphore at zero. -/
theorem frame_kernel3 : Cert.quiescent_Kernel3 (hKernel3 := Cert.Kernel3.Gen.facts) :=
  fun m ρ _ => Cert.Kernel3.Gen.frame m ρ

/-- The same of `kernel3` over the extended reals. -/
theorem frame_kernel3_ideal : Cert.quiescent_Kernel3Ideal (hKernel3Ideal := Cert.Kernel3Ideal.Gen.facts) :=
  fun m ρ _ => Cert.Kernel3Ideal.Gen.frame m ρ

/-- The same of `reference3` over the extended reals. -/
theorem frame_reference3_ideal : Cert.quiescent_Reference3Ideal (hReference3Ideal := Cert.Reference3Ideal.Gen.facts) :=
  fun m ρ _ => (θ_run Cert.Reference3Ideal.defs _ _).mono
    (fun r h => ⟨fun c => (h c).2.2.2.2, sem_eq_zero_of_no_sems (by decide) r.2⟩)
    (Cert.Reference3Ideal.Value.run (F := Ideal) m ρ)

/-- The call `kernel4` as printed runs, leaves its arguments unchanged and ends with every semaphore at zero. -/
theorem frame_kernel4 : Cert.quiescent_Kernel4 (hKernel4 := Cert.Kernel4.Gen.facts) :=
  fun m ρ _ => Cert.Kernel4.Gen.frame m ρ

/-- The same of `kernel4` over the extended reals. -/
theorem frame_kernel4_ideal : Cert.quiescent_Kernel4Ideal (hKernel4Ideal := Cert.Kernel4Ideal.Gen.facts) :=
  fun m ρ _ => Cert.Kernel4Ideal.Gen.frame m ρ

/-- The same of `reference4` over the extended reals. -/
theorem frame_reference4_ideal : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩)
    (Cert.Reference4Ideal.Value.run (F := Ideal) m ρ)

/-- The call `kernel5` as printed runs, leaves its arguments unchanged and ends with every semaphore at zero. -/
theorem frame_kernel5 : Cert.quiescent_Kernel5 (hKernel5 := Cert.Kernel5.Gen.facts) :=
  fun m ρ _ => Cert.Kernel5.Gen.frame m ρ

/-- The same of `kernel5` over the extended reals. -/
theorem frame_kernel5_ideal : Cert.quiescent_Kernel5Ideal (hKernel5Ideal := Cert.Kernel5Ideal.Gen.facts) :=
  fun m ρ _ => Cert.Kernel5Ideal.Gen.frame m ρ

/-- The same of `reference5` over the extended reals. -/
theorem frame_reference5_ideal : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩)
    (Cert.Reference5Ideal.Value.run (F := Ideal) m ρ)

/-- The call `kernel6` as printed runs, leaves its arguments unchanged and ends with every semaphore at zero. -/
theorem frame_kernel6 : Cert.quiescent_Kernel6 (hKernel6 := Cert.Kernel6.Gen.facts) :=
  fun m ρ _ => Cert.Kernel6.Gen.frame m ρ

/-- The same of `kernel6` over the extended reals. -/
theorem frame_kernel6_ideal : Cert.quiescent_Kernel6Ideal (hKernel6Ideal := Cert.Kernel6Ideal.Gen.facts) :=
  fun m ρ _ => Cert.Kernel6Ideal.Gen.frame m ρ

/-- The same of `reference6` over the extended reals. -/
theorem frame_reference6_ideal : Cert.quiescent_Reference6Ideal (hReference6Ideal := Cert.Reference6Ideal.Gen.facts) :=
  fun m ρ _ => (θ_run Cert.Reference6Ideal.defs _ _).mono
    (fun r h => ⟨fun c => (h c).2.2.2.2.2, sem_eq_zero_of_no_sems (by decide) r.2⟩)
    (Cert.Reference6Ideal.Value.run (F := Ideal) m ρ)

/-- The call `kernel7` as printed runs, leaves its arguments unchanged and ends with every semaphore at zero. -/
theorem frame_kernel7 : Cert.quiescent_Kernel7 (hKernel7 := Cert.Kernel7.Gen.facts) :=
  fun m ρ _ => Cert.Kernel7.Gen.frame m ρ

/-- The same of `kernel7` over the extended reals. -/
theorem frame_kernel7_ideal : Cert.quiescent_Kernel7Ideal (hKernel7Ideal := Cert.Kernel7Ideal.Gen.facts) :=
  fun m ρ _ => Cert.Kernel7Ideal.Gen.frame m ρ

/-- The same of `reference7` over the extended reals. -/
theorem frame_reference7_ideal : Cert.quiescent_Reference7Ideal (hReference7Ideal := Cert.Reference7Ideal.Gen.facts) :=
  fun m ρ _ => (θ_run Cert.Reference7Ideal.defs _ _).mono
    (fun r h => ⟨fun c => (h c).2.2.2, sem_eq_zero_of_no_sems (by decide) r.2⟩)
    (Cert.Reference7Ideal.Value.run (F := Ideal) m ρ)

/-- Everything that the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    frame_kernel, frame_kernel_ideal, frame_reference_ideal,
    frame_kernel2, frame_kernel2_ideal, frame_reference2_ideal,
    frame_kernel3, frame_kernel3_ideal, frame_reference3_ideal,
    frame_kernel4, frame_kernel4_ideal, frame_reference4_ideal,
    frame_kernel5, frame_kernel5_ideal, frame_reference5_ideal,
    frame_kernel6, frame_kernel6_ideal, frame_reference6_ideal,
    frame_kernel7, frame_kernel7_ideal, frame_reference7_ideal,
    trivial, Cert.MixInBwd.algebraic,
    trivial, Cert.FfnBwdB.algebraic,
    trivial, Cert.FfnBwdA.algebraic,
    trivial, Cert.FfnDwg.algebraic,
    trivial, Cert.DwIn.algebraic,
    trivial, Cert.FfnFwd.algebraic,
    trivial, Cert.MixInFwd.algebraic⟩

end Cert.Proof

end
